-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_inputs [hPre_finite_inputs : Cert.Pre_finite_inputs.Facts] (m : (ℓ : Loc Cert.ProjIdeal.nD Cert.ProjIdeal.τ Cert.ProjIdeal.sig) → Buf (Elt Ideal) ℓ) : Prop :=
  ∀ c : Dev Cert.ProjIdeal.nD,
    (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))).1 = (fun _ => 1#1)
    ∧ (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))).2.1 = (fun _ => 1#1)
    ∧ (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2))).2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_inputs [hPre_finite_inputs : Cert.Pre_finite_inputs.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).1 = (fun _ => 1#1)
    ∧ (Cert.Pre_finite_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).2.1 = (fun _ => 1#1)
    ∧ (Cert.Pre_finite_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2))).2.2 = (fun _ => 1#1)

def Pre_Outproj (m : (ℓ : Loc Cert.Outproj.nD Cert.Outproj.τ Cert.Outproj.sig) → Buf (Elt Bits) ℓ) : Prop :=
  True

def Pre_OutprojIdeal (m : (ℓ : Loc Cert.OutprojIdeal.nD Cert.OutprojIdeal.τ Cert.OutprojIdeal.sig) → Buf (Elt Ideal) ℓ) : Prop :=
  True

def Pre_OutprojRefIdeal (m : (ℓ : Loc Cert.OutprojRefIdeal.nD Cert.OutprojRefIdeal.τ Cert.OutprojRefIdeal.sig) → Buf (Elt Ideal) ℓ) : Prop :=
  True

def Pre_SFfn (m : (ℓ : Loc Cert.SFfn.nD Cert.SFfn.τ Cert.SFfn.sig) → Buf (Elt Bits) ℓ) : Prop :=
  True

def Pre_SFfnIdeal (m : (ℓ : Loc Cert.SFfnIdeal.nD Cert.SFfnIdeal.τ Cert.SFfnIdeal.sig) → Buf (Elt Ideal) ℓ) : Prop :=
  True

def Pre_SFfnRefIdeal (m : (ℓ : Loc Cert.SFfnRefIdeal.nD Cert.SFfnRefIdeal.τ Cert.SFfnRefIdeal.sig) → Buf (Elt Ideal) ℓ) : Prop :=
  True

def Pre_SProj (m : (ℓ : Loc Cert.SProj.nD Cert.SProj.τ Cert.SProj.sig) → Buf (Elt Bits) ℓ) : Prop :=
  True

def Pre_SProjIdeal (m : (ℓ : Loc Cert.SProjIdeal.nD Cert.SProjIdeal.τ Cert.SProjIdeal.sig) → Buf (Elt Ideal) ℓ) : Prop :=
  True

def Pre_SProjIdeal_finite_samples [hPre_finite_samples : Cert.Pre_finite_samples.Facts] (m : (ℓ : Loc Cert.SProjIdeal.nD Cert.SProjIdeal.τ Cert.SProjIdeal.sig) → Buf (Elt Ideal) ℓ) : Prop :=
  ∀ c : Dev Cert.SProjIdeal.nD,
    (Cert.Pre_finite_samples.fn (F := Ideal) (m ((c.tc : Thread Cert.SProjIdeal.nD Cert.SProjIdeal.τ).loc Cert.SProjIdeal.main_arg0)) (m ((c.tc : Thread Cert.SProjIdeal.nD Cert.SProjIdeal.τ).loc Cert.SProjIdeal.main_arg1)) (m ((c.tc : Thread Cert.SProjIdeal.nD Cert.SProjIdeal.τ).loc Cert.SProjIdeal.main_arg2)) (m ((c.tc : Thread Cert.SProjIdeal.nD Cert.SProjIdeal.τ).loc Cert.SProjIdeal.main_arg3))).1 = (fun _ => 1#1)
    ∧ (Cert.Pre_finite_samples.fn (F := Ideal) (m ((c.tc : Thread Cert.SProjIdeal.nD Cert.SProjIdeal.τ).loc Cert.SProjIdeal.main_arg0)) (m ((c.tc : Thread Cert.SProjIdeal.nD Cert.SProjIdeal.τ).loc Cert.SProjIdeal.main_arg1)) (m ((c.tc : Thread Cert.SProjIdeal.nD Cert.SProjIdeal.τ).loc Cert.SProjIdeal.main_arg2)) (m ((c.tc : Thread Cert.SProjIdeal.nD Cert.SProjIdeal.τ).loc Cert.SProjIdeal.main_arg3))).2.1 = (fun _ => 1#1)
    ∧ (Cert.Pre_finite_samples.fn (F := Ideal) (m ((c.tc : Thread Cert.SProjIdeal.nD Cert.SProjIdeal.τ).loc Cert.SProjIdeal.main_arg0)) (m ((c.tc : Thread Cert.SProjIdeal.nD Cert.SProjIdeal.τ).loc Cert.SProjIdeal.main_arg1)) (m ((c.tc : Thread Cert.SProjIdeal.nD Cert.SProjIdeal.τ).loc Cert.SProjIdeal.main_arg2)) (m ((c.tc : Thread Cert.SProjIdeal.nD Cert.SProjIdeal.τ).loc Cert.SProjIdeal.main_arg3))).2.2.1 = (fun _ => 1#1)
    ∧ (Cert.Pre_finite_samples.fn (F := Ideal) (m ((c.tc : Thread Cert.SProjIdeal.nD Cert.SProjIdeal.τ).loc Cert.SProjIdeal.main_arg0)) (m ((c.tc : Thread Cert.SProjIdeal.nD Cert.SProjIdeal.τ).loc Cert.SProjIdeal.main_arg1)) (m ((c.tc : Thread Cert.SProjIdeal.nD Cert.SProjIdeal.τ).loc Cert.SProjIdeal.main_arg2)) (m ((c.tc : Thread Cert.SProjIdeal.nD Cert.SProjIdeal.τ).loc Cert.SProjIdeal.main_arg3))).2.2.2 = (fun _ => 1#1)

def Pre_SProjRefIdeal (m : (ℓ : Loc Cert.SProjRefIdeal.nD Cert.SProjRefIdeal.τ Cert.SProjRefIdeal.sig) → Buf (Elt Ideal) ℓ) : Prop :=
  True

def Pre_SProjRefIdeal_finite_samples [hPre_finite_samples : Cert.Pre_finite_samples.Facts] (m : (ℓ : Loc Cert.SProjRefIdeal.nD Cert.SProjRefIdeal.τ Cert.SProjRefIdeal.sig) → Buf (Elt Ideal) ℓ) : Prop :=
  ∀ c : Dev Cert.SProjRefIdeal.nD,
    (Cert.Pre_finite_samples.fn (F := Ideal) (m ((c.tc : Thread Cert.SProjRefIdeal.nD Cert.SProjRefIdeal.τ).loc Cert.SProjRefIdeal.main_arg0)) (m ((c.tc : Thread Cert.SProjRefIdeal.nD Cert.SProjRefIdeal.τ).loc Cert.SProjRefIdeal.main_arg1)) (m ((c.tc : Thread Cert.SProjRefIdeal.nD Cert.SProjRefIdeal.τ).loc Cert.SProjRefIdeal.main_arg2)) (m ((c.tc : Thread Cert.SProjRefIdeal.nD Cert.SProjRefIdeal.τ).loc Cert.SProjRefIdeal.main_arg3))).1 = (fun _ => 1#1)
    ∧ (Cert.Pre_finite_samples.fn (F := Ideal) (m ((c.tc : Thread Cert.SProjRefIdeal.nD Cert.SProjRefIdeal.τ).loc Cert.SProjRefIdeal.main_arg0)) (m ((c.tc : Thread Cert.SProjRefIdeal.nD Cert.SProjRefIdeal.τ).loc Cert.SProjRefIdeal.main_arg1)) (m ((c.tc : Thread Cert.SProjRefIdeal.nD Cert.SProjRefIdeal.τ).loc Cert.SProjRefIdeal.main_arg2)) (m ((c.tc : Thread Cert.SProjRefIdeal.nD Cert.SProjRefIdeal.τ).loc Cert.SProjRefIdeal.main_arg3))).2.1 = (fun _ => 1#1)
    ∧ (Cert.Pre_finite_samples.fn (F := Ideal) (m ((c.tc : Thread Cert.SProjRefIdeal.nD Cert.SProjRefIdeal.τ).loc Cert.SProjRefIdeal.main_arg0)) (m ((c.tc : Thread Cert.SProjRefIdeal.nD Cert.SProjRefIdeal.τ).loc Cert.SProjRefIdeal.main_arg1)) (m ((c.tc : Thread Cert.SProjRefIdeal.nD Cert.SProjRefIdeal.τ).loc Cert.SProjRefIdeal.main_arg2)) (m ((c.tc : Thread Cert.SProjRefIdeal.nD Cert.SProjRefIdeal.τ).loc Cert.SProjRefIdeal.main_arg3))).2.2.1 = (fun _ => 1#1)
    ∧ (Cert.Pre_finite_samples.fn (F := Ideal) (m ((c.tc : Thread Cert.SProjRefIdeal.nD Cert.SProjRefIdeal.τ).loc Cert.SProjRefIdeal.main_arg0)) (m ((c.tc : Thread Cert.SProjRefIdeal.nD Cert.SProjRefIdeal.τ).loc Cert.SProjRefIdeal.main_arg1)) (m ((c.tc : Thread Cert.SProjRefIdeal.nD Cert.SProjRefIdeal.τ).loc Cert.SProjRefIdeal.main_arg2)) (m ((c.tc : Thread Cert.SProjRefIdeal.nD Cert.SProjRefIdeal.τ).loc Cert.SProjRefIdeal.main_arg3))).2.2.2 = (fun _ => 1#1)

def Pre_SOutproj (m : (ℓ : Loc Cert.SOutproj.nD Cert.SOutproj.τ Cert.SOutproj.sig) → Buf (Elt Bits) ℓ) : Prop :=
  True

def Pre_SOutprojIdeal (m : (ℓ : Loc Cert.SOutprojIdeal.nD Cert.SOutprojIdeal.τ Cert.SOutprojIdeal.sig) → Buf (Elt Ideal) ℓ) : Prop :=
  True

def Pre_SOutprojRefIdeal (m : (ℓ : Loc Cert.SOutprojRefIdeal.nD Cert.SOutprojRefIdeal.τ Cert.SOutprojRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjIdeal_pre_finite_inputs [hProjIdeal : Cert.ProjIdeal.Facts] [hPre_finite_inputs : Cert.Pre_finite_inputs.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_inputs m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjRefIdeal_pre_finite_inputs [hProjRefIdeal : Cert.ProjRefIdeal.Facts] [hPre_finite_inputs : Cert.Pre_finite_inputs.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_inputs m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Outproj [hOutproj : Cert.Outproj.Facts] : Prop :=
  ∀ (m : (ℓ : Loc Cert.Outproj.nD Cert.Outproj.τ Cert.Outproj.sig) → Buf (Elt Bits) ℓ) (g : Dev Cert.Outproj.nD → PrngReg), Pre_Outproj m →
    θ_run (Cert.Outproj.defs (F := Bits)) (onTc (τ := Cert.Outproj.τ) (Cert.Outproj.main (F := Bits))) ⟨m, fun _ => 0, g⟩ (fun r => (∀ c : Dev Cert.Outproj.nD,
      r.2.mem ((c.tc : Thread Cert.Outproj.nD Cert.Outproj.τ).loc Cert.Outproj.main_arg0) = m ((c.tc : Thread Cert.Outproj.nD Cert.Outproj.τ).loc Cert.Outproj.main_arg0)
      ∧ r.2.mem ((c.tc : Thread Cert.Outproj.nD Cert.Outproj.τ).loc Cert.Outproj.main_arg1) = m ((c.tc : Thread Cert.Outproj.nD Cert.Outproj.τ).loc Cert.Outproj.main_arg1)
      ∧ r.2.mem ((c.tc : Thread Cert.Outproj.nD Cert.Outproj.τ).loc Cert.Outproj.main_arg2) = m ((c.tc : Thread Cert.Outproj.nD Cert.Outproj.τ).loc Cert.Outproj.main_arg2)
      ∧ r.2.mem ((c.tc : Thread Cert.Outproj.nD Cert.Outproj.τ).loc Cert.Outproj.main_arg3) = m ((c.tc : Thread Cert.Outproj.nD Cert.Outproj.τ).loc Cert.Outproj.main_arg3))
      ∧ r.2.sem = fun _ => 0)

def quiescent_OutprojIdeal [hOutprojIdeal : Cert.OutprojIdeal.Facts] : Prop :=
  ∀ (m : (ℓ : Loc Cert.OutprojIdeal.nD Cert.OutprojIdeal.τ Cert.OutprojIdeal.sig) → Buf (Elt Ideal) ℓ) (g : Dev Cert.OutprojIdeal.nD → PrngReg), Pre_OutprojIdeal m →
    θ_run (Cert.OutprojIdeal.defs (F := Ideal)) (onTc (τ := Cert.OutprojIdeal.τ) (Cert.OutprojIdeal.main (F := Ideal))) ⟨m, fun _ => 0, g⟩ (fun r => (∀ c : Dev Cert.OutprojIdeal.nD,
      r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
      ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
      ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
      ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ r.2.sem = fun _ => 0)

def quiescent_OutprojRefIdeal [hOutprojRefIdeal : Cert.OutprojRefIdeal.Facts] : Prop :=
  ∀ (m : (ℓ : Loc Cert.OutprojRefIdeal.nD Cert.OutprojRefIdeal.τ Cert.OutprojRefIdeal.sig) → Buf (Elt Ideal) ℓ) (g : Dev Cert.OutprojRefIdeal.nD → PrngReg), Pre_OutprojRefIdeal m →
    θ_run (Cert.OutprojRefIdeal.defs (F := Ideal)) (onTc (τ := Cert.OutprojRefIdeal.τ) (Cert.OutprojRefIdeal.main (F := Ideal))) ⟨m, fun _ => 0, g⟩ (fun r => (∀ c : Dev Cert.OutprojRefIdeal.nD,
      r.2.mem ((c.tc : Thread Cert.OutprojRefIdeal.nD Cert.OutprojRefIdeal.τ).loc Cert.OutprojRefIdeal.main_arg0) = m ((c.tc : Thread Cert.OutprojRefIdeal.nD Cert.OutprojRefIdeal.τ).loc Cert.OutprojRefIdeal.main_arg0)
      ∧ r.2.mem ((c.tc : Thread Cert.OutprojRefIdeal.nD Cert.OutprojRefIdeal.τ).loc Cert.OutprojRefIdeal.main_arg1) = m ((c.tc : Thread Cert.OutprojRefIdeal.nD Cert.OutprojRefIdeal.τ).loc Cert.OutprojRefIdeal.main_arg1)
      ∧ r.2.mem ((c.tc : Thread Cert.OutprojRefIdeal.nD Cert.OutprojRefIdeal.τ).loc Cert.OutprojRefIdeal.main_arg2) = m ((c.tc : Thread Cert.OutprojRefIdeal.nD Cert.OutprojRefIdeal.τ).loc Cert.OutprojRefIdeal.main_arg2)
      ∧ r.2.mem ((c.tc : Thread Cert.OutprojRefIdeal.nD Cert.OutprojRefIdeal.τ).loc Cert.OutprojRefIdeal.main_arg3) = m ((c.tc : Thread Cert.OutprojRefIdeal.nD Cert.OutprojRefIdeal.τ).loc Cert.OutprojRefIdeal.main_arg3))
      ∧ r.2.sem = fun _ => 0)

def quiescent_SFfn [hSFfn : Cert.SFfn.Facts] : Prop :=
  ∀ (m : (ℓ : Loc Cert.SFfn.nD Cert.SFfn.τ Cert.SFfn.sig) → Buf (Elt Bits) ℓ) (g : Dev Cert.SFfn.nD → PrngReg), Pre_SFfn m →
    θ_run (Cert.SFfn.defs (F := Bits)) (onTc (τ := Cert.SFfn.τ) (Cert.SFfn.main (F := Bits))) ⟨m, fun _ => 0, g⟩ (fun r => (∀ c : Dev Cert.SFfn.nD,
      r.2.mem ((c.tc : Thread Cert.SFfn.nD Cert.SFfn.τ).loc Cert.SFfn.main_arg0) = m ((c.tc : Thread Cert.SFfn.nD Cert.SFfn.τ).loc Cert.SFfn.main_arg0)
      ∧ r.2.mem ((c.tc : Thread Cert.SFfn.nD Cert.SFfn.τ).loc Cert.SFfn.main_arg1) = m ((c.tc : Thread Cert.SFfn.nD Cert.SFfn.τ).loc Cert.SFfn.main_arg1)
      ∧ r.2.mem ((c.tc : Thread Cert.SFfn.nD Cert.SFfn.τ).loc Cert.SFfn.main_arg2) = m ((c.tc : Thread Cert.SFfn.nD Cert.SFfn.τ).loc Cert.SFfn.main_arg2)
      ∧ r.2.mem ((c.tc : Thread Cert.SFfn.nD Cert.SFfn.τ).loc Cert.SFfn.main_arg3) = m ((c.tc : Thread Cert.SFfn.nD Cert.SFfn.τ).loc Cert.SFfn.main_arg3))
      ∧ r.2.sem = fun _ => 0)

def quiescent_SFfnIdeal [hSFfnIdeal : Cert.SFfnIdeal.Facts] : Prop :=
  ∀ (m : (ℓ : Loc Cert.SFfnIdeal.nD Cert.SFfnIdeal.τ Cert.SFfnIdeal.sig) → Buf (Elt Ideal) ℓ) (g : Dev Cert.SFfnIdeal.nD → PrngReg), Pre_SFfnIdeal m →
    θ_run (Cert.SFfnIdeal.defs (F := Ideal)) (onTc (τ := Cert.SFfnIdeal.τ) (Cert.SFfnIdeal.main (F := Ideal))) ⟨m, fun _ => 0, g⟩ (fun r => (∀ c : Dev Cert.SFfnIdeal.nD,
      r.2.mem ((c.tc : Thread Cert.SFfnIdeal.nD Cert.SFfnIdeal.τ).loc Cert.SFfnIdeal.main_arg0) = m ((c.tc : Thread Cert.SFfnIdeal.nD Cert.SFfnIdeal.τ).loc Cert.SFfnIdeal.main_arg0)
      ∧ r.2.mem ((c.tc : Thread Cert.SFfnIdeal.nD Cert.SFfnIdeal.τ).loc Cert.SFfnIdeal.main_arg1) = m ((c.tc : Thread Cert.SFfnIdeal.nD Cert.SFfnIdeal.τ).loc Cert.SFfnIdeal.main_arg1)
      ∧ r.2.mem ((c.tc : Thread Cert.SFfnIdeal.nD Cert.SFfnIdeal.τ).loc Cert.SFfnIdeal.main_arg2) = m ((c.tc : Thread Cert.SFfnIdeal.nD Cert.SFfnIdeal.τ).loc Cert.SFfnIdeal.main_arg2)
      ∧ r.2.mem ((c.tc : Thread Cert.SFfnIdeal.nD Cert.SFfnIdeal.τ).loc Cert.SFfnIdeal.main_arg3) = m ((c.tc : Thread Cert.SFfnIdeal.nD Cert.SFfnIdeal.τ).loc Cert.SFfnIdeal.main_arg3))
      ∧ r.2.sem = fun _ => 0)

def quiescent_SFfnRefIdeal [hSFfnRefIdeal : Cert.SFfnRefIdeal.Facts] : Prop :=
  ∀ (m : (ℓ : Loc Cert.SFfnRefIdeal.nD Cert.SFfnRefIdeal.τ Cert.SFfnRefIdeal.sig) → Buf (Elt Ideal) ℓ) (g : Dev Cert.SFfnRefIdeal.nD → PrngReg), Pre_SFfnRefIdeal m →
    θ_run (Cert.SFfnRefIdeal.defs (F := Ideal)) (onTc (τ := Cert.SFfnRefIdeal.τ) (Cert.SFfnRefIdeal.main (F := Ideal))) ⟨m, fun _ => 0, g⟩ (fun r => (∀ c : Dev Cert.SFfnRefIdeal.nD,
      r.2.mem ((c.tc : Thread Cert.SFfnRefIdeal.nD Cert.SFfnRefIdeal.τ).loc Cert.SFfnRefIdeal.main_arg0) = m ((c.tc : Thread Cert.SFfnRefIdeal.nD Cert.SFfnRefIdeal.τ).loc Cert.SFfnRefIdeal.main_arg0)
      ∧ r.2.mem ((c.tc : Thread Cert.SFfnRefIdeal.nD Cert.SFfnRefIdeal.τ).loc Cert.SFfnRefIdeal.main_arg1) = m ((c.tc : Thread Cert.SFfnRefIdeal.nD Cert.SFfnRefIdeal.τ).loc Cert.SFfnRefIdeal.main_arg1)
      ∧ r.2.mem ((c.tc : Thread Cert.SFfnRefIdeal.nD Cert.SFfnRefIdeal.τ).loc Cert.SFfnRefIdeal.main_arg2) = m ((c.tc : Thread Cert.SFfnRefIdeal.nD Cert.SFfnRefIdeal.τ).loc Cert.SFfnRefIdeal.main_arg2)
      ∧ r.2.mem ((c.tc : Thread Cert.SFfnRefIdeal.nD Cert.SFfnRefIdeal.τ).loc Cert.SFfnRefIdeal.main_arg3) = m ((c.tc : Thread Cert.SFfnRefIdeal.nD Cert.SFfnRefIdeal.τ).loc Cert.SFfnRefIdeal.main_arg3))
      ∧ r.2.sem = fun _ => 0)

def quiescent_SProj [hSProj : Cert.SProj.Facts] : Prop :=
  ∀ (m : (ℓ : Loc Cert.SProj.nD Cert.SProj.τ Cert.SProj.sig) → Buf (Elt Bits) ℓ) (g : Dev Cert.SProj.nD → PrngReg), Pre_SProj m →
    θ_run (Cert.SProj.defs (F := Bits)) (onTc (τ := Cert.SProj.τ) (Cert.SProj.main (F := Bits))) ⟨m, fun _ => 0, g⟩ (fun r => (∀ c : Dev Cert.SProj.nD,
      r.2.mem ((c.tc : Thread Cert.SProj.nD Cert.SProj.τ).loc Cert.SProj.main_arg0) = m ((c.tc : Thread Cert.SProj.nD Cert.SProj.τ).loc Cert.SProj.main_arg0)
      ∧ r.2.mem ((c.tc : Thread Cert.SProj.nD Cert.SProj.τ).loc Cert.SProj.main_arg1) = m ((c.tc : Thread Cert.SProj.nD Cert.SProj.τ).loc Cert.SProj.main_arg1)
      ∧ r.2.mem ((c.tc : Thread Cert.SProj.nD Cert.SProj.τ).loc Cert.SProj.main_arg2) = m ((c.tc : Thread Cert.SProj.nD Cert.SProj.τ).loc Cert.SProj.main_arg2)
      ∧ r.2.mem ((c.tc : Thread Cert.SProj.nD Cert.SProj.τ).loc Cert.SProj.main_arg3) = m ((c.tc : Thread Cert.SProj.nD Cert.SProj.τ).loc Cert.SProj.main_arg3))
      ∧ r.2.sem = fun _ => 0)

def quiescent_SProjIdeal [hSProjIdeal : Cert.SProjIdeal.Facts] : Prop :=
  ∀ (m : (ℓ : Loc Cert.SProjIdeal.nD Cert.SProjIdeal.τ Cert.SProjIdeal.sig) → Buf (Elt Ideal) ℓ) (g : Dev Cert.SProjIdeal.nD → PrngReg), Pre_SProjIdeal m →
    θ_run (Cert.SProjIdeal.defs (F := Ideal)) (onTc (τ := Cert.SProjIdeal.τ) (Cert.SProjIdeal.main (F := Ideal))) ⟨m, fun _ => 0, g⟩ (fun r => (∀ c : Dev Cert.SProjIdeal.nD,
      r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
      ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
      ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
      ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3))
      ∧ r.2.sem = fun _ => 0)

def quiescent_SProjIdeal_pre_finite_samples [hSProjIdeal : Cert.SProjIdeal.Facts] [hPre_finite_samples : Cert.Pre_finite_samples.Facts] : Prop :=
  ∀ (m : (ℓ : Loc Cert.SProjIdeal.nD Cert.SProjIdeal.τ Cert.SProjIdeal.sig) → Buf (Elt Ideal) ℓ) (g : Dev Cert.SProjIdeal.nD → PrngReg), Pre_SProjIdeal_finite_samples m →
    θ_run (Cert.SProjIdeal.defs (F := Ideal)) (onTc (τ := Cert.SProjIdeal.τ) (Cert.SProjIdeal.main (F := Ideal))) ⟨m, fun _ => 0, g⟩ (fun r => (∀ c : Dev Cert.SProjIdeal.nD,
      r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
      ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
      ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
      ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3))
      ∧ r.2.sem = fun _ => 0)

def quiescent_SProjRefIdeal [hSProjRefIdeal : Cert.SProjRefIdeal.Facts] : Prop :=
  ∀ (m : (ℓ : Loc Cert.SProjRefIdeal.nD Cert.SProjRefIdeal.τ Cert.SProjRefIdeal.sig) → Buf (Elt Ideal) ℓ) (g : Dev Cert.SProjRefIdeal.nD → PrngReg), Pre_SProjRefIdeal m →
    θ_run (Cert.SProjRefIdeal.defs (F := Ideal)) (onTc (τ := Cert.SProjRefIdeal.τ) (Cert.SProjRefIdeal.main (F := Ideal))) ⟨m, fun _ => 0, g⟩ (fun r => (∀ c : Dev Cert.SProjRefIdeal.nD,
      r.2.mem ((c.tc : Thread Cert.SProjRefIdeal.nD Cert.SProjRefIdeal.τ).loc Cert.SProjRefIdeal.main_arg0) = m ((c.tc : Thread Cert.SProjRefIdeal.nD Cert.SProjRefIdeal.τ).loc Cert.SProjRefIdeal.main_arg0)
      ∧ r.2.mem ((c.tc : Thread Cert.SProjRefIdeal.nD Cert.SProjRefIdeal.τ).loc Cert.SProjRefIdeal.main_arg1) = m ((c.tc : Thread Cert.SProjRefIdeal.nD Cert.SProjRefIdeal.τ).loc Cert.SProjRefIdeal.main_arg1)
      ∧ r.2.mem ((c.tc : Thread Cert.SProjRefIdeal.nD Cert.SProjRefIdeal.τ).loc Cert.SProjRefIdeal.main_arg2) = m ((c.tc : Thread Cert.SProjRefIdeal.nD Cert.SProjRefIdeal.τ).loc Cert.SProjRefIdeal.main_arg2)
      ∧ r.2.mem ((c.tc : Thread Cert.SProjRefIdeal.nD Cert.SProjRefIdeal.τ).loc Cert.SProjRefIdeal.main_arg3) = m ((c.tc : Thread Cert.SProjRefIdeal.nD Cert.SProjRefIdeal.τ).loc Cert.SProjRefIdeal.main_arg3))
      ∧ r.2.sem = fun _ => 0)

def quiescent_SProjRefIdeal_pre_finite_samples [hSProjRefIdeal : Cert.SProjRefIdeal.Facts] [hPre_finite_samples : Cert.Pre_finite_samples.Facts] : Prop :=
  ∀ (m : (ℓ : Loc Cert.SProjRefIdeal.nD Cert.SProjRefIdeal.τ Cert.SProjRefIdeal.sig) → Buf (Elt Ideal) ℓ) (g : Dev Cert.SProjRefIdeal.nD → PrngReg), Pre_SProjRefIdeal_finite_samples m →
    θ_run (Cert.SProjRefIdeal.defs (F := Ideal)) (onTc (τ := Cert.SProjRefIdeal.τ) (Cert.SProjRefIdeal.main (F := Ideal))) ⟨m, fun _ => 0, g⟩ (fun r => (∀ c : Dev Cert.SProjRefIdeal.nD,
      r.2.mem ((c.tc : Thread Cert.SProjRefIdeal.nD Cert.SProjRefIdeal.τ).loc Cert.SProjRefIdeal.main_arg0) = m ((c.tc : Thread Cert.SProjRefIdeal.nD Cert.SProjRefIdeal.τ).loc Cert.SProjRefIdeal.main_arg0)
      ∧ r.2.mem ((c.tc : Thread Cert.SProjRefIdeal.nD Cert.SProjRefIdeal.τ).loc Cert.SProjRefIdeal.main_arg1) = m ((c.tc : Thread Cert.SProjRefIdeal.nD Cert.SProjRefIdeal.τ).loc Cert.SProjRefIdeal.main_arg1)
      ∧ r.2.mem ((c.tc : Thread Cert.SProjRefIdeal.nD Cert.SProjRefIdeal.τ).loc Cert.SProjRefIdeal.main_arg2) = m ((c.tc : Thread Cert.SProjRefIdeal.nD Cert.SProjRefIdeal.τ).loc Cert.SProjRefIdeal.main_arg2)
      ∧ r.2.mem ((c.tc : Thread Cert.SProjRefIdeal.nD Cert.SProjRefIdeal.τ).loc Cert.SProjRefIdeal.main_arg3) = m ((c.tc : Thread Cert.SProjRefIdeal.nD Cert.SProjRefIdeal.τ).loc Cert.SProjRefIdeal.main_arg3))
      ∧ r.2.sem = fun _ => 0)

def quiescent_SOutproj [hSOutproj : Cert.SOutproj.Facts] : Prop :=
  ∀ (m : (ℓ : Loc Cert.SOutproj.nD Cert.SOutproj.τ Cert.SOutproj.sig) → Buf (Elt Bits) ℓ) (g : Dev Cert.SOutproj.nD → PrngReg), Pre_SOutproj m →
    θ_run (Cert.SOutproj.defs (F := Bits)) (onTc (τ := Cert.SOutproj.τ) (Cert.SOutproj.main (F := Bits))) ⟨m, fun _ => 0, g⟩ (fun r => (∀ c : Dev Cert.SOutproj.nD,
      r.2.mem ((c.tc : Thread Cert.SOutproj.nD Cert.SOutproj.τ).loc Cert.SOutproj.main_arg0) = m ((c.tc : Thread Cert.SOutproj.nD Cert.SOutproj.τ).loc Cert.SOutproj.main_arg0)
      ∧ r.2.mem ((c.tc : Thread Cert.SOutproj.nD Cert.SOutproj.τ).loc Cert.SOutproj.main_arg1) = m ((c.tc : Thread Cert.SOutproj.nD Cert.SOutproj.τ).loc Cert.SOutproj.main_arg1)
      ∧ r.2.mem ((c.tc : Thread Cert.SOutproj.nD Cert.SOutproj.τ).loc Cert.SOutproj.main_arg2) = m ((c.tc : Thread Cert.SOutproj.nD Cert.SOutproj.τ).loc Cert.SOutproj.main_arg2)
      ∧ r.2.mem ((c.tc : Thread Cert.SOutproj.nD Cert.SOutproj.τ).loc Cert.SOutproj.main_arg3) = m ((c.tc : Thread Cert.SOutproj.nD Cert.SOutproj.τ).loc Cert.SOutproj.main_arg3)
      ∧ r.2.mem ((c.tc : Thread Cert.SOutproj.nD Cert.SOutproj.τ).loc Cert.SOutproj.main_arg4) = m ((c.tc : Thread Cert.SOutproj.nD Cert.SOutproj.τ).loc Cert.SOutproj.main_arg4))
      ∧ r.2.sem = fun _ => 0)

def quiescent_SOutprojIdeal [hSOutprojIdeal : Cert.SOutprojIdeal.Facts] : Prop :=
  ∀ (m : (ℓ : Loc Cert.SOutprojIdeal.nD Cert.SOutprojIdeal.τ Cert.SOutprojIdeal.sig) → Buf (Elt Ideal) ℓ) (g : Dev Cert.SOutprojIdeal.nD → PrngReg), Pre_SOutprojIdeal m →
    θ_run (Cert.SOutprojIdeal.defs (F := Ideal)) (onTc (τ := Cert.SOutprojIdeal.τ) (Cert.SOutprojIdeal.main (F := Ideal))) ⟨m, fun _ => 0, g⟩ (fun r => (∀ c : Dev Cert.SOutprojIdeal.nD,
      r.2.mem ((c.tc : Thread Cert.SOutprojIdeal.nD Cert.SOutprojIdeal.τ).loc Cert.SOutprojIdeal.main_arg0) = m ((c.tc : Thread Cert.SOutprojIdeal.nD Cert.SOutprojIdeal.τ).loc Cert.SOutprojIdeal.main_arg0)
      ∧ r.2.mem ((c.tc : Thread Cert.SOutprojIdeal.nD Cert.SOutprojIdeal.τ).loc Cert.SOutprojIdeal.main_arg1) = m ((c.tc : Thread Cert.SOutprojIdeal.nD Cert.SOutprojIdeal.τ).loc Cert.SOutprojIdeal.main_arg1)
      ∧ r.2.mem ((c.tc : Thread Cert.SOutprojIdeal.nD Cert.SOutprojIdeal.τ).loc Cert.SOutprojIdeal.main_arg2) = m ((c.tc : Thread Cert.SOutprojIdeal.nD Cert.SOutprojIdeal.τ).loc Cert.SOutprojIdeal.main_arg2)
      ∧ r.2.mem ((c.tc : Thread Cert.SOutprojIdeal.nD Cert.SOutprojIdeal.τ).loc Cert.SOutprojIdeal.main_arg3) = m ((c.tc : Thread Cert.SOutprojIdeal.nD Cert.SOutprojIdeal.τ).loc Cert.SOutprojIdeal.main_arg3)
      ∧ r.2.mem ((c.tc : Thread Cert.SOutprojIdeal.nD Cert.SOutprojIdeal.τ).loc Cert.SOutprojIdeal.main_arg4) = m ((c.tc : Thread Cert.SOutprojIdeal.nD Cert.SOutprojIdeal.τ).loc Cert.SOutprojIdeal.main_arg4))
      ∧ r.2.sem = fun _ => 0)

def quiescent_SOutprojRefIdeal [hSOutprojRefIdeal : Cert.SOutprojRefIdeal.Facts] : Prop :=
  ∀ (m : (ℓ : Loc Cert.SOutprojRefIdeal.nD Cert.SOutprojRefIdeal.τ Cert.SOutprojRefIdeal.sig) → Buf (Elt Ideal) ℓ) (g : Dev Cert.SOutprojRefIdeal.nD → PrngReg), Pre_SOutprojRefIdeal m →
    θ_run (Cert.SOutprojRefIdeal.defs (F := Ideal)) (onTc (τ := Cert.SOutprojRefIdeal.τ) (Cert.SOutprojRefIdeal.main (F := Ideal))) ⟨m, fun _ => 0, g⟩ (fun r => (∀ c : Dev Cert.SOutprojRefIdeal.nD,
      r.2.mem ((c.tc : Thread Cert.SOutprojRefIdeal.nD Cert.SOutprojRefIdeal.τ).loc Cert.SOutprojRefIdeal.main_arg0) = m ((c.tc : Thread Cert.SOutprojRefIdeal.nD Cert.SOutprojRefIdeal.τ).loc Cert.SOutprojRefIdeal.main_arg0)
      ∧ r.2.mem ((c.tc : Thread Cert.SOutprojRefIdeal.nD Cert.SOutprojRefIdeal.τ).loc Cert.SOutprojRefIdeal.main_arg1) = m ((c.tc : Thread Cert.SOutprojRefIdeal.nD Cert.SOutprojRefIdeal.τ).loc Cert.SOutprojRefIdeal.main_arg1)
      ∧ r.2.mem ((c.tc : Thread Cert.SOutprojRefIdeal.nD Cert.SOutprojRefIdeal.τ).loc Cert.SOutprojRefIdeal.main_arg2) = m ((c.tc : Thread Cert.SOutprojRefIdeal.nD Cert.SOutprojRefIdeal.τ).loc Cert.SOutprojRefIdeal.main_arg2)
      ∧ r.2.mem ((c.tc : Thread Cert.SOutprojRefIdeal.nD Cert.SOutprojRefIdeal.τ).loc Cert.SOutprojRefIdeal.main_arg3) = m ((c.tc : Thread Cert.SOutprojRefIdeal.nD Cert.SOutprojRefIdeal.τ).loc Cert.SOutprojRefIdeal.main_arg3)
      ∧ r.2.mem ((c.tc : Thread Cert.SOutprojRefIdeal.nD Cert.SOutprojRefIdeal.τ).loc Cert.SOutprojRefIdeal.main_arg4) = m ((c.tc : Thread Cert.SOutprojRefIdeal.nD Cert.SOutprojRefIdeal.τ).loc Cert.SOutprojRefIdeal.main_arg4))
      ∧ r.2.sem = fun _ => 0)

def preserves_Kernel_KernelIdeal : Prop :=
  IdealRules.named_const.Statement Cert.KernelIdeal.κ "mask" .f32 0xF149F2CA#32 ⊥

def algebraic_KernelIdeal_ReferenceIdeal_on_sample_tokens [hKernelIdeal : Cert.KernelIdeal.Facts] [hReferenceIdeal : Cert.ReferenceIdeal.Facts] [hOn_sample_tokens : Cert.On_sample_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)) (v2 : (c : Dev Cert.KernelIdeal.nD) → Buf (Elt Ideal) ((c.tc : Thread Cert.KernelIdeal.nD Cert.KernelIdeal.τ).loc Cert.KernelIdeal.main_v8_2)) (v3 : (c : Dev Cert.KernelIdeal.nD) → Buf (Elt Ideal) ((c.tc : Thread Cert.KernelIdeal.nD Cert.KernelIdeal.τ).loc Cert.KernelIdeal.main_v8_3)) (v4 : (c : Dev Cert.KernelIdeal.nD) → Buf (Elt Ideal) ((c.tc : Thread Cert.KernelIdeal.nD Cert.KernelIdeal.τ).loc Cert.KernelIdeal.main_v8_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![64, 1024]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v8_0) i = v0 c i)
          ∧ (∀ i : (⟨3, ![32, 256, 256]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v8_1) i = v1 c i)
          ∧ (∀ i : (⟨3, ![32, 1, 256]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v8_2) i = v2 c i)
          ∧ (∀ i : (⟨3, ![32, 1, 128]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.KernelIdeal.nD Cert.KernelIdeal.τ).loc Cert.KernelIdeal.main_v8_3) i = v3 c i)
          ∧ (∀ i : (⟨4, ![1, 8, 3, 1024]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 i = 1#1 → r.2.mem ((c.tc : Thread Cert.KernelIdeal.nD Cert.KernelIdeal.τ).loc Cert.KernelIdeal.main_v8_4) i = v4 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![64, 1024]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v161) i = v0 c i)
          ∧ (∀ i : (⟨3, ![32, 256, 256]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v162) i = v1 c i)
          ∧ (∀ i : (⟨3, ![32, 1, 256]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceIdeal.nD Cert.ReferenceIdeal.τ).loc Cert.ReferenceIdeal.main_v163) i = v2 c i)
          ∧ (∀ i : (⟨3, ![32, 1, 128]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.ReferenceIdeal.nD Cert.ReferenceIdeal.τ).loc Cert.ReferenceIdeal.main_v165) i = v3 c i)
          ∧ (∀ i : (⟨4, ![1, 8, 3, 1024]⟩ : Shape).Idx, (Cert.On_sample_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 i = 1#1 → r.2.mem ((c.tc : Thread Cert.ReferenceIdeal.nD Cert.ReferenceIdeal.τ).loc Cert.ReferenceIdeal.main_v166) i = v4 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v1)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v1) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v17) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Proj_ProjIdeal : Prop :=
  True

def algebraic_ProjIdeal_ProjRefIdeal_pre_finite_inputs [hProjIdeal : Cert.ProjIdeal.Facts] [hProjRefIdeal : Cert.ProjRefIdeal.Facts] [hPre_finite_inputs : Cert.Pre_finite_inputs.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_inputs m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v8_0)) (v1 : (c : Dev Cert.ProjIdeal.nD) → Buf (Elt Ideal) ((c.tc : Thread Cert.ProjIdeal.nD Cert.ProjIdeal.τ).loc Cert.ProjIdeal.main_v8_1)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v8_0) = v0 c
          ∧ r.2.mem ((c.tc : Thread Cert.ProjIdeal.nD Cert.ProjIdeal.τ).loc Cert.ProjIdeal.main_v8_1) = v1 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v15) = v0 c
          ∧ r.2.mem ((c.tc : Thread Cert.ProjRefIdeal.nD Cert.ProjRefIdeal.τ).loc Cert.ProjRefIdeal.main_v17) = v1 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Outproj_OutprojIdeal : Prop :=
  True

def algebraic_OutprojIdeal_OutprojRefIdeal [hOutprojIdeal : Cert.OutprojIdeal.Facts] [hOutprojRefIdeal : Cert.OutprojRefIdeal.Facts] : Prop :=
  ∀ (m : (ℓ : Loc Cert.OutprojIdeal.nD Cert.OutprojIdeal.τ Cert.OutprojIdeal.sig) → Buf (Elt Ideal) ℓ) (g : Dev Cert.OutprojIdeal.nD → PrngReg)
    (m' : (ℓ : Loc Cert.OutprojRefIdeal.nD Cert.OutprojRefIdeal.τ Cert.OutprojRefIdeal.sig) → Buf (Elt Ideal) ℓ) (g' : Dev Cert.OutprojRefIdeal.nD → PrngReg), Pre_OutprojIdeal m →
    (∀ c : Dev Cert.OutprojIdeal.nD,
      m' ((c.tc : Thread Cert.OutprojRefIdeal.nD Cert.OutprojRefIdeal.τ).loc Cert.OutprojRefIdeal.main_arg0) = m ((c.tc : Thread Cert.OutprojIdeal.nD Cert.OutprojIdeal.τ).loc Cert.OutprojIdeal.main_arg0)
      ∧ m' ((c.tc : Thread Cert.OutprojRefIdeal.nD Cert.OutprojRefIdeal.τ).loc Cert.OutprojRefIdeal.main_arg1) = m ((c.tc : Thread Cert.OutprojIdeal.nD Cert.OutprojIdeal.τ).loc Cert.OutprojIdeal.main_arg1)
      ∧ m' ((c.tc : Thread Cert.OutprojRefIdeal.nD Cert.OutprojRefIdeal.τ).loc Cert.OutprojRefIdeal.main_arg2) = m ((c.tc : Thread Cert.OutprojIdeal.nD Cert.OutprojIdeal.τ).loc Cert.OutprojIdeal.main_arg2)
      ∧ m' ((c.tc : Thread Cert.OutprojRefIdeal.nD Cert.OutprojRefIdeal.τ).loc Cert.OutprojRefIdeal.main_arg3) = m ((c.tc : Thread Cert.OutprojIdeal.nD Cert.OutprojIdeal.τ).loc Cert.OutprojIdeal.main_arg3)) →
    ∃ (v0 : (c : Dev Cert.OutprojIdeal.nD) → Buf (Elt Ideal) ((c.tc : Thread Cert.OutprojIdeal.nD Cert.OutprojIdeal.τ).loc Cert.OutprojIdeal.main_v3)),
      θ_run (Cert.OutprojIdeal.defs (F := Ideal)) (onTc (τ := Cert.OutprojIdeal.τ) (Cert.OutprojIdeal.main (F := Ideal))) ⟨m, fun _ => 0, g⟩ (fun r => ∀ c : Dev Cert.OutprojIdeal.nD,
          r.2.mem ((c.tc : Thread Cert.OutprojIdeal.nD Cert.OutprojIdeal.τ).loc Cert.OutprojIdeal.main_v3) = v0 c
          ∧ r.2.mem ((c.tc : Thread Cert.OutprojIdeal.nD Cert.OutprojIdeal.τ).loc Cert.OutprojIdeal.main_arg0) = m ((c.tc : Thread Cert.OutprojIdeal.nD Cert.OutprojIdeal.τ).loc Cert.OutprojIdeal.main_arg0)
          ∧ r.2.mem ((c.tc : Thread Cert.OutprojIdeal.nD Cert.OutprojIdeal.τ).loc Cert.OutprojIdeal.main_arg1) = m ((c.tc : Thread Cert.OutprojIdeal.nD Cert.OutprojIdeal.τ).loc Cert.OutprojIdeal.main_arg1)
          ∧ r.2.mem ((c.tc : Thread Cert.OutprojIdeal.nD Cert.OutprojIdeal.τ).loc Cert.OutprojIdeal.main_arg2) = m ((c.tc : Thread Cert.OutprojIdeal.nD Cert.OutprojIdeal.τ).loc Cert.OutprojIdeal.main_arg2)
          ∧ r.2.mem ((c.tc : Thread Cert.OutprojIdeal.nD Cert.OutprojIdeal.τ).loc Cert.OutprojIdeal.main_arg3) = m ((c.tc : Thread Cert.OutprojIdeal.nD Cert.OutprojIdeal.τ).loc Cert.OutprojIdeal.main_arg3))
      ∧ θ_run (Cert.OutprojRefIdeal.defs (F := Ideal)) (onTc (τ := Cert.OutprojRefIdeal.τ) (Cert.OutprojRefIdeal.main (F := Ideal))) ⟨m', fun _ => 0, g'⟩ (fun r => ∀ c : Dev Cert.OutprojRefIdeal.nD,
          r.2.mem ((c.tc : Thread Cert.OutprojRefIdeal.nD Cert.OutprojRefIdeal.τ).loc Cert.OutprojRefIdeal.main_v5) = v0 c
          ∧ r.2.mem ((c.tc : Thread Cert.OutprojRefIdeal.nD Cert.OutprojRefIdeal.τ).loc Cert.OutprojRefIdeal.main_arg0) = m' ((c.tc : Thread Cert.OutprojRefIdeal.nD Cert.OutprojRefIdeal.τ).loc Cert.OutprojRefIdeal.main_arg0)
          ∧ r.2.mem ((c.tc : Thread Cert.OutprojRefIdeal.nD Cert.OutprojRefIdeal.τ).loc Cert.OutprojRefIdeal.main_arg1) = m' ((c.tc : Thread Cert.OutprojRefIdeal.nD Cert.OutprojRefIdeal.τ).loc Cert.OutprojRefIdeal.main_arg1)
          ∧ r.2.mem ((c.tc : Thread Cert.OutprojRefIdeal.nD Cert.OutprojRefIdeal.τ).loc Cert.OutprojRefIdeal.main_arg2) = m' ((c.tc : Thread Cert.OutprojRefIdeal.nD Cert.OutprojRefIdeal.τ).loc Cert.OutprojRefIdeal.main_arg2)
          ∧ r.2.mem ((c.tc : Thread Cert.OutprojRefIdeal.nD Cert.OutprojRefIdeal.τ).loc Cert.OutprojRefIdeal.main_arg3) = m' ((c.tc : Thread Cert.OutprojRefIdeal.nD Cert.OutprojRefIdeal.τ).loc Cert.OutprojRefIdeal.main_arg3))

def preserves_SFfn_SFfnIdeal : Prop :=
  True

def algebraic_SFfnIdeal_SFfnRefIdeal [hSFfnIdeal : Cert.SFfnIdeal.Facts] [hSFfnRefIdeal : Cert.SFfnRefIdeal.Facts] : Prop :=
  ∀ (m : (ℓ : Loc Cert.SFfnIdeal.nD Cert.SFfnIdeal.τ Cert.SFfnIdeal.sig) → Buf (Elt Ideal) ℓ) (g : Dev Cert.SFfnIdeal.nD → PrngReg)
    (m' : (ℓ : Loc Cert.SFfnRefIdeal.nD Cert.SFfnRefIdeal.τ Cert.SFfnRefIdeal.sig) → Buf (Elt Ideal) ℓ) (g' : Dev Cert.SFfnRefIdeal.nD → PrngReg), Pre_SFfnIdeal m →
    (∀ c : Dev Cert.SFfnIdeal.nD,
      m' ((c.tc : Thread Cert.SFfnRefIdeal.nD Cert.SFfnRefIdeal.τ).loc Cert.SFfnRefIdeal.main_arg0) = m ((c.tc : Thread Cert.SFfnIdeal.nD Cert.SFfnIdeal.τ).loc Cert.SFfnIdeal.main_arg0)
      ∧ m' ((c.tc : Thread Cert.SFfnRefIdeal.nD Cert.SFfnRefIdeal.τ).loc Cert.SFfnRefIdeal.main_arg1) = m ((c.tc : Thread Cert.SFfnIdeal.nD Cert.SFfnIdeal.τ).loc Cert.SFfnIdeal.main_arg1)
      ∧ m' ((c.tc : Thread Cert.SFfnRefIdeal.nD Cert.SFfnRefIdeal.τ).loc Cert.SFfnRefIdeal.main_arg2) = m ((c.tc : Thread Cert.SFfnIdeal.nD Cert.SFfnIdeal.τ).loc Cert.SFfnIdeal.main_arg2)
      ∧ m' ((c.tc : Thread Cert.SFfnRefIdeal.nD Cert.SFfnRefIdeal.τ).loc Cert.SFfnRefIdeal.main_arg3) = m ((c.tc : Thread Cert.SFfnIdeal.nD Cert.SFfnIdeal.τ).loc Cert.SFfnIdeal.main_arg3)) →
    ∃ (v0 : (c : Dev Cert.SFfnIdeal.nD) → Buf (Elt Ideal) ((c.tc : Thread Cert.SFfnIdeal.nD Cert.SFfnIdeal.τ).loc Cert.SFfnIdeal.main_v1)),
      θ_run (Cert.SFfnIdeal.defs (F := Ideal)) (onTc (τ := Cert.SFfnIdeal.τ) (Cert.SFfnIdeal.main (F := Ideal))) ⟨m, fun _ => 0, g⟩ (fun r => ∀ c : Dev Cert.SFfnIdeal.nD,
          r.2.mem ((c.tc : Thread Cert.SFfnIdeal.nD Cert.SFfnIdeal.τ).loc Cert.SFfnIdeal.main_v1) = v0 c
          ∧ r.2.mem ((c.tc : Thread Cert.SFfnIdeal.nD Cert.SFfnIdeal.τ).loc Cert.SFfnIdeal.main_arg0) = m ((c.tc : Thread Cert.SFfnIdeal.nD Cert.SFfnIdeal.τ).loc Cert.SFfnIdeal.main_arg0)
          ∧ r.2.mem ((c.tc : Thread Cert.SFfnIdeal.nD Cert.SFfnIdeal.τ).loc Cert.SFfnIdeal.main_arg1) = m ((c.tc : Thread Cert.SFfnIdeal.nD Cert.SFfnIdeal.τ).loc Cert.SFfnIdeal.main_arg1)
          ∧ r.2.mem ((c.tc : Thread Cert.SFfnIdeal.nD Cert.SFfnIdeal.τ).loc Cert.SFfnIdeal.main_arg2) = m ((c.tc : Thread Cert.SFfnIdeal.nD Cert.SFfnIdeal.τ).loc Cert.SFfnIdeal.main_arg2)
          ∧ r.2.mem ((c.tc : Thread Cert.SFfnIdeal.nD Cert.SFfnIdeal.τ).loc Cert.SFfnIdeal.main_arg3) = m ((c.tc : Thread Cert.SFfnIdeal.nD Cert.SFfnIdeal.τ).loc Cert.SFfnIdeal.main_arg3))
      ∧ θ_run (Cert.SFfnRefIdeal.defs (F := Ideal)) (onTc (τ := Cert.SFfnRefIdeal.τ) (Cert.SFfnRefIdeal.main (F := Ideal))) ⟨m', fun _ => 0, g'⟩ (fun r => ∀ c : Dev Cert.SFfnRefIdeal.nD,
          r.2.mem ((c.tc : Thread Cert.SFfnRefIdeal.nD Cert.SFfnRefIdeal.τ).loc Cert.SFfnRefIdeal.main_v17) = v0 c
          ∧ r.2.mem ((c.tc : Thread Cert.SFfnRefIdeal.nD Cert.SFfnRefIdeal.τ).loc Cert.SFfnRefIdeal.main_arg0) = m' ((c.tc : Thread Cert.SFfnRefIdeal.nD Cert.SFfnRefIdeal.τ).loc Cert.SFfnRefIdeal.main_arg0)
          ∧ r.2.mem ((c.tc : Thread Cert.SFfnRefIdeal.nD Cert.SFfnRefIdeal.τ).loc Cert.SFfnRefIdeal.main_arg1) = m' ((c.tc : Thread Cert.SFfnRefIdeal.nD Cert.SFfnRefIdeal.τ).loc Cert.SFfnRefIdeal.main_arg1)
          ∧ r.2.mem ((c.tc : Thread Cert.SFfnRefIdeal.nD Cert.SFfnRefIdeal.τ).loc Cert.SFfnRefIdeal.main_arg2) = m' ((c.tc : Thread Cert.SFfnRefIdeal.nD Cert.SFfnRefIdeal.τ).loc Cert.SFfnRefIdeal.main_arg2)
          ∧ r.2.mem ((c.tc : Thread Cert.SFfnRefIdeal.nD Cert.SFfnRefIdeal.τ).loc Cert.SFfnRefIdeal.main_arg3) = m' ((c.tc : Thread Cert.SFfnRefIdeal.nD Cert.SFfnRefIdeal.τ).loc Cert.SFfnRefIdeal.main_arg3))

def preserves_SProj_SProjIdeal : Prop :=
  True

def algebraic_SProjIdeal_SProjRefIdeal_pre_finite_samples [hSProjIdeal : Cert.SProjIdeal.Facts] [hSProjRefIdeal : Cert.SProjRefIdeal.Facts] [hPre_finite_samples : Cert.Pre_finite_samples.Facts] : Prop :=
  ∀ (m : (ℓ : Loc Cert.SProjIdeal.nD Cert.SProjIdeal.τ Cert.SProjIdeal.sig) → Buf (Elt Ideal) ℓ) (g : Dev Cert.SProjIdeal.nD → PrngReg)
    (m' : (ℓ : Loc Cert.SProjRefIdeal.nD Cert.SProjRefIdeal.τ Cert.SProjRefIdeal.sig) → Buf (Elt Ideal) ℓ) (g' : Dev Cert.SProjRefIdeal.nD → PrngReg), Pre_SProjIdeal_finite_samples m →
    (∀ c : Dev Cert.SProjIdeal.nD,
      m' ((c.tc : Thread Cert.SProjRefIdeal.nD Cert.SProjRefIdeal.τ).loc Cert.SProjRefIdeal.main_arg0) = m ((c.tc : Thread Cert.SProjIdeal.nD Cert.SProjIdeal.τ).loc Cert.SProjIdeal.main_arg0)
      ∧ m' ((c.tc : Thread Cert.SProjRefIdeal.nD Cert.SProjRefIdeal.τ).loc Cert.SProjRefIdeal.main_arg1) = m ((c.tc : Thread Cert.SProjIdeal.nD Cert.SProjIdeal.τ).loc Cert.SProjIdeal.main_arg1)
      ∧ m' ((c.tc : Thread Cert.SProjRefIdeal.nD Cert.SProjRefIdeal.τ).loc Cert.SProjRefIdeal.main_arg2) = m ((c.tc : Thread Cert.SProjIdeal.nD Cert.SProjIdeal.τ).loc Cert.SProjIdeal.main_arg2)
      ∧ m' ((c.tc : Thread Cert.SProjRefIdeal.nD Cert.SProjRefIdeal.τ).loc Cert.SProjRefIdeal.main_arg3) = m ((c.tc : Thread Cert.SProjIdeal.nD Cert.SProjIdeal.τ).loc Cert.SProjIdeal.main_arg3)) →
    ∃ (v0 : (c : Dev Cert.SProjIdeal.nD) → Buf (Elt Ideal) ((c.tc : Thread Cert.SProjIdeal.nD Cert.SProjIdeal.τ).loc Cert.SProjIdeal.main_v10_0)) (v1 : (c : Dev Cert.SProjIdeal.nD) → Buf (Elt Ideal) ((c.tc : Thread Cert.SProjIdeal.nD Cert.SProjIdeal.τ).loc Cert.SProjIdeal.main_v10_1)) (v2 : (c : Dev Cert.SProjIdeal.nD) → Buf (Elt Ideal) ((c.tc : Thread Cert.SProjIdeal.nD Cert.SProjIdeal.τ).loc Cert.SProjIdeal.main_v14)),
      θ_run (Cert.SProjIdeal.defs (F := Ideal)) (onTc (τ := Cert.SProjIdeal.τ) (Cert.SProjIdeal.main (F := Ideal))) ⟨m, fun _ => 0, g⟩ (fun r => ∀ c : Dev Cert.SProjIdeal.nD,
          r.2.mem ((c.tc : Thread Cert.SProjIdeal.nD Cert.SProjIdeal.τ).loc Cert.SProjIdeal.main_v10_0) = v0 c
          ∧ r.2.mem ((c.tc : Thread Cert.SProjIdeal.nD Cert.SProjIdeal.τ).loc Cert.SProjIdeal.main_v10_1) = v1 c
          ∧ r.2.mem ((c.tc : Thread Cert.SProjIdeal.nD Cert.SProjIdeal.τ).loc Cert.SProjIdeal.main_v14) = v2 c
          ∧ r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
          ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
          ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
          ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3))
      ∧ θ_run (Cert.SProjRefIdeal.defs (F := Ideal)) (onTc (τ := Cert.SProjRefIdeal.τ) (Cert.SProjRefIdeal.main (F := Ideal))) ⟨m', fun _ => 0, g'⟩ (fun r => ∀ c : Dev Cert.SProjRefIdeal.nD,
          r.2.mem ((c.tc : Thread Cert.SProjRefIdeal.nD Cert.SProjRefIdeal.τ).loc Cert.SProjRefIdeal.main_v33) = v0 c
          ∧ r.2.mem ((c.tc : Thread Cert.SProjRefIdeal.nD Cert.SProjRefIdeal.τ).loc Cert.SProjRefIdeal.main_v35) = v1 c
          ∧ r.2.mem ((c.tc : Thread Cert.SProjRefIdeal.nD Cert.SProjRefIdeal.τ).loc Cert.SProjRefIdeal.main_v32) = v2 c
          ∧ r.2.mem ((c.tc : Thread Cert.SProjRefIdeal.nD Cert.SProjRefIdeal.τ).loc Cert.SProjRefIdeal.main_arg0) = m' ((c.tc : Thread Cert.SProjRefIdeal.nD Cert.SProjRefIdeal.τ).loc Cert.SProjRefIdeal.main_arg0)
          ∧ r.2.mem ((c.tc : Thread Cert.SProjRefIdeal.nD Cert.SProjRefIdeal.τ).loc Cert.SProjRefIdeal.main_arg1) = m' ((c.tc : Thread Cert.SProjRefIdeal.nD Cert.SProjRefIdeal.τ).loc Cert.SProjRefIdeal.main_arg1)
          ∧ r.2.mem ((c.tc : Thread Cert.SProjRefIdeal.nD Cert.SProjRefIdeal.τ).loc Cert.SProjRefIdeal.main_arg2) = m' ((c.tc : Thread Cert.SProjRefIdeal.nD Cert.SProjRefIdeal.τ).loc Cert.SProjRefIdeal.main_arg2)
          ∧ r.2.mem ((c.tc : Thread Cert.SProjRefIdeal.nD Cert.SProjRefIdeal.τ).loc Cert.SProjRefIdeal.main_arg3) = m' ((c.tc : Thread Cert.SProjRefIdeal.nD Cert.SProjRefIdeal.τ).loc Cert.SProjRefIdeal.main_arg3))

def preserves_SOutproj_SOutprojIdeal : Prop :=
  True

def algebraic_SOutprojIdeal_SOutprojRefIdeal [hSOutprojIdeal : Cert.SOutprojIdeal.Facts] [hSOutprojRefIdeal : Cert.SOutprojRefIdeal.Facts] : Prop :=
  ∀ (m : (ℓ : Loc Cert.SOutprojIdeal.nD Cert.SOutprojIdeal.τ Cert.SOutprojIdeal.sig) → Buf (Elt Ideal) ℓ) (g : Dev Cert.SOutprojIdeal.nD → PrngReg)
    (m' : (ℓ : Loc Cert.SOutprojRefIdeal.nD Cert.SOutprojRefIdeal.τ Cert.SOutprojRefIdeal.sig) → Buf (Elt Ideal) ℓ) (g' : Dev Cert.SOutprojRefIdeal.nD → PrngReg), Pre_SOutprojIdeal m →
    (∀ c : Dev Cert.SOutprojIdeal.nD,
      m' ((c.tc : Thread Cert.SOutprojRefIdeal.nD Cert.SOutprojRefIdeal.τ).loc Cert.SOutprojRefIdeal.main_arg0) = m ((c.tc : Thread Cert.SOutprojIdeal.nD Cert.SOutprojIdeal.τ).loc Cert.SOutprojIdeal.main_arg0)
      ∧ m' ((c.tc : Thread Cert.SOutprojRefIdeal.nD Cert.SOutprojRefIdeal.τ).loc Cert.SOutprojRefIdeal.main_arg1) = m ((c.tc : Thread Cert.SOutprojIdeal.nD Cert.SOutprojIdeal.τ).loc Cert.SOutprojIdeal.main_arg1)
      ∧ m' ((c.tc : Thread Cert.SOutprojRefIdeal.nD Cert.SOutprojRefIdeal.τ).loc Cert.SOutprojRefIdeal.main_arg2) = m ((c.tc : Thread Cert.SOutprojIdeal.nD Cert.SOutprojIdeal.τ).loc Cert.SOutprojIdeal.main_arg2)
      ∧ m' ((c.tc : Thread Cert.SOutprojRefIdeal.nD Cert.SOutprojRefIdeal.τ).loc Cert.SOutprojRefIdeal.main_arg3) = m ((c.tc : Thread Cert.SOutprojIdeal.nD Cert.SOutprojIdeal.τ).loc Cert.SOutprojIdeal.main_arg3)
      ∧ m' ((c.tc : Thread Cert.SOutprojRefIdeal.nD Cert.SOutprojRefIdeal.τ).loc Cert.SOutprojRefIdeal.main_arg4) = m ((c.tc : Thread Cert.SOutprojIdeal.nD Cert.SOutprojIdeal.τ).loc Cert.SOutprojIdeal.main_arg4)) →
    ∃ (v0 : (c : Dev Cert.SOutprojIdeal.nD) → Buf (Elt Ideal) ((c.tc : Thread Cert.SOutprojIdeal.nD Cert.SOutprojIdeal.τ).loc Cert.SOutprojIdeal.main_v6)),
      θ_run (Cert.SOutprojIdeal.defs (F := Ideal)) (onTc (τ := Cert.SOutprojIdeal.τ) (Cert.SOutprojIdeal.main (F := Ideal))) ⟨m, fun _ => 0, g⟩ (fun r => ∀ c : Dev Cert.SOutprojIdeal.nD,
          r.2.mem ((c.tc : Thread Cert.SOutprojIdeal.nD Cert.SOutprojIdeal.τ).loc Cert.SOutprojIdeal.main_v6) = v0 c
          ∧ r.2.mem ((c.tc : Thread Cert.SOutprojIdeal.nD Cert.SOutprojIdeal.τ).loc Cert.SOutprojIdeal.main_arg0) = m ((c.tc : Thread Cert.SOutprojIdeal.nD Cert.SOutprojIdeal.τ).loc Cert.SOutprojIdeal.main_arg0)
          ∧ r.2.mem ((c.tc : Thread Cert.SOutprojIdeal.nD Cert.SOutprojIdeal.τ).loc Cert.SOutprojIdeal.main_arg1) = m ((c.tc : Thread Cert.SOutprojIdeal.nD Cert.SOutprojIdeal.τ).loc Cert.SOutprojIdeal.main_arg1)
          ∧ r.2.mem ((c.tc : Thread Cert.SOutprojIdeal.nD Cert.SOutprojIdeal.τ).loc Cert.SOutprojIdeal.main_arg2) = m ((c.tc : Thread Cert.SOutprojIdeal.nD Cert.SOutprojIdeal.τ).loc Cert.SOutprojIdeal.main_arg2)
          ∧ r.2.mem ((c.tc : Thread Cert.SOutprojIdeal.nD Cert.SOutprojIdeal.τ).loc Cert.SOutprojIdeal.main_arg3) = m ((c.tc : Thread Cert.SOutprojIdeal.nD Cert.SOutprojIdeal.τ).loc Cert.SOutprojIdeal.main_arg3)
          ∧ r.2.mem ((c.tc : Thread Cert.SOutprojIdeal.nD Cert.SOutprojIdeal.τ).loc Cert.SOutprojIdeal.main_arg4) = m ((c.tc : Thread Cert.SOutprojIdeal.nD Cert.SOutprojIdeal.τ).loc Cert.SOutprojIdeal.main_arg4))
      ∧ θ_run (Cert.SOutprojRefIdeal.defs (F := Ideal)) (onTc (τ := Cert.SOutprojRefIdeal.τ) (Cert.SOutprojRefIdeal.main (F := Ideal))) ⟨m', fun _ => 0, g'⟩ (fun r => ∀ c : Dev Cert.SOutprojRefIdeal.nD,
          r.2.mem ((c.tc : Thread Cert.SOutprojRefIdeal.nD Cert.SOutprojRefIdeal.τ).loc Cert.SOutprojRefIdeal.main_v4) = v0 c
          ∧ r.2.mem ((c.tc : Thread Cert.SOutprojRefIdeal.nD Cert.SOutprojRefIdeal.τ).loc Cert.SOutprojRefIdeal.main_arg0) = m' ((c.tc : Thread Cert.SOutprojRefIdeal.nD Cert.SOutprojRefIdeal.τ).loc Cert.SOutprojRefIdeal.main_arg0)
          ∧ r.2.mem ((c.tc : Thread Cert.SOutprojRefIdeal.nD Cert.SOutprojRefIdeal.τ).loc Cert.SOutprojRefIdeal.main_arg1) = m' ((c.tc : Thread Cert.SOutprojRefIdeal.nD Cert.SOutprojRefIdeal.τ).loc Cert.SOutprojRefIdeal.main_arg1)
          ∧ r.2.mem ((c.tc : Thread Cert.SOutprojRefIdeal.nD Cert.SOutprojRefIdeal.τ).loc Cert.SOutprojRefIdeal.main_arg2) = m' ((c.tc : Thread Cert.SOutprojRefIdeal.nD Cert.SOutprojRefIdeal.τ).loc Cert.SOutprojRefIdeal.main_arg2)
          ∧ r.2.mem ((c.tc : Thread Cert.SOutprojRefIdeal.nD Cert.SOutprojRefIdeal.τ).loc Cert.SOutprojRefIdeal.main_arg3) = m' ((c.tc : Thread Cert.SOutprojRefIdeal.nD Cert.SOutprojRefIdeal.τ).loc Cert.SOutprojRefIdeal.main_arg3)
          ∧ r.2.mem ((c.tc : Thread Cert.SOutprojRefIdeal.nD Cert.SOutprojRefIdeal.τ).loc Cert.SOutprojRefIdeal.main_arg4) = m' ((c.tc : Thread Cert.SOutprojRefIdeal.nD Cert.SOutprojRefIdeal.τ).loc Cert.SOutprojRefIdeal.main_arg4))

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hProj : Cert.Proj.Facts) (hProjIdeal : Cert.ProjIdeal.Facts) (hProjRefIdeal : Cert.ProjRefIdeal.Facts) (hOutproj : Cert.Outproj.Facts) (hOutprojIdeal : Cert.OutprojIdeal.Facts) (hOutprojRefIdeal : Cert.OutprojRefIdeal.Facts) (hSFfn : Cert.SFfn.Facts) (hSFfnIdeal : Cert.SFfnIdeal.Facts) (hSFfnRefIdeal : Cert.SFfnRefIdeal.Facts) (hSProj : Cert.SProj.Facts) (hSProjIdeal : Cert.SProjIdeal.Facts) (hSProjRefIdeal : Cert.SProjRefIdeal.Facts) (hSOutproj : Cert.SOutproj.Facts) (hSOutprojIdeal : Cert.SOutprojIdeal.Facts) (hSOutprojRefIdeal : Cert.SOutprojRefIdeal.Facts) (hPre_finite_inputs : Cert.Pre_finite_inputs.Facts) (hPre_finite_samples : Cert.Pre_finite_samples.Facts) (hOn_sample_tokens : Cert.On_sample_tokens.Facts),
    quiescent_Kernel (hKernel := hKernel)
    ∧ quiescent_KernelIdeal (hKernelIdeal := hKernelIdeal)
    ∧ quiescent_ReferenceIdeal (hReferenceIdeal := hReferenceIdeal)
    ∧ quiescent_Ffn (hFfn := hFfn)
    ∧ quiescent_FfnIdeal (hFfnIdeal := hFfnIdeal)
    ∧ quiescent_FfnRefIdeal (hFfnRefIdeal := hFfnRefIdeal)
    ∧ quiescent_Proj (hProj := hProj)
    ∧ quiescent_ProjIdeal (hProjIdeal := hProjIdeal)
    ∧ quiescent_ProjIdeal_pre_finite_inputs (hProjIdeal := hProjIdeal) (hPre_finite_inputs := hPre_finite_inputs)
    ∧ quiescent_ProjRefIdeal (hProjRefIdeal := hProjRefIdeal)
    ∧ quiescent_ProjRefIdeal_pre_finite_inputs (hProjRefIdeal := hProjRefIdeal) (hPre_finite_inputs := hPre_finite_inputs)
    ∧ quiescent_Outproj (hOutproj := hOutproj)
    ∧ quiescent_OutprojIdeal (hOutprojIdeal := hOutprojIdeal)
    ∧ quiescent_OutprojRefIdeal (hOutprojRefIdeal := hOutprojRefIdeal)
    ∧ quiescent_SFfn (hSFfn := hSFfn)
    ∧ quiescent_SFfnIdeal (hSFfnIdeal := hSFfnIdeal)
    ∧ quiescent_SFfnRefIdeal (hSFfnRefIdeal := hSFfnRefIdeal)
    ∧ quiescent_SProj (hSProj := hSProj)
    ∧ quiescent_SProjIdeal (hSProjIdeal := hSProjIdeal)
    ∧ quiescent_SProjIdeal_pre_finite_samples (hSProjIdeal := hSProjIdeal) (hPre_finite_samples := hPre_finite_samples)
    ∧ quiescent_SProjRefIdeal (hSProjRefIdeal := hSProjRefIdeal)
    ∧ quiescent_SProjRefIdeal_pre_finite_samples (hSProjRefIdeal := hSProjRefIdeal) (hPre_finite_samples := hPre_finite_samples)
    ∧ quiescent_SOutproj (hSOutproj := hSOutproj)
    ∧ quiescent_SOutprojIdeal (hSOutprojIdeal := hSOutprojIdeal)
    ∧ quiescent_SOutprojRefIdeal (hSOutprojRefIdeal := hSOutprojRefIdeal)
    ∧ preserves_Kernel_KernelIdeal
    ∧ algebraic_KernelIdeal_ReferenceIdeal_on_sample_tokens (hKernelIdeal := hKernelIdeal) (hReferenceIdeal := hReferenceIdeal) (hOn_sample_tokens := hOn_sample_tokens)
    ∧ preserves_Ffn_FfnIdeal
    ∧ algebraic_FfnIdeal_FfnRefIdeal (hFfnIdeal := hFfnIdeal) (hFfnRefIdeal := hFfnRefIdeal)
    ∧ preserves_Proj_ProjIdeal
    ∧ algebraic_ProjIdeal_ProjRefIdeal_pre_finite_inputs (hProjIdeal := hProjIdeal) (hProjRefIdeal := hProjRefIdeal) (hPre_finite_inputs := hPre_finite_inputs)
    ∧ preserves_Outproj_OutprojIdeal
    ∧ algebraic_OutprojIdeal_OutprojRefIdeal (hOutprojIdeal := hOutprojIdeal) (hOutprojRefIdeal := hOutprojRefIdeal)
    ∧ preserves_SFfn_SFfnIdeal
    ∧ algebraic_SFfnIdeal_SFfnRefIdeal (hSFfnIdeal := hSFfnIdeal) (hSFfnRefIdeal := hSFfnRefIdeal)
    ∧ preserves_SProj_SProjIdeal
    ∧ algebraic_SProjIdeal_SProjRefIdeal_pre_finite_samples (hSProjIdeal := hSProjIdeal) (hSProjRefIdeal := hSProjRefIdeal) (hPre_finite_samples := hPre_finite_samples)
    ∧ preserves_SOutproj_SOutprojIdeal
    ∧ algebraic_SOutprojIdeal_SOutprojRefIdeal (hSOutprojIdeal := hSOutprojIdeal) (hSOutprojRefIdeal := hSOutprojRefIdeal)
-- ==== On_sample_tokens.lean ====
abbrev S80x6144 : Shape := ⟨2, ![80, 6144]⟩
abbrev S80x128 : Shape := ⟨2, ![80, 128]⟩
abbrev S1x8x3x1024 : Shape := ⟨4, ![1, 8, 3, 1024]⟩
abbrev S8x4x256x256 : Shape := ⟨4, ![8, 4, 256, 256]⟩
abbrev S8x4x256 : Shape := ⟨3, ![8, 4, 256]⟩
abbrev S8x4 : Shape := ⟨2, ![8, 4]⟩
abbrev S4x1024 : Shape := ⟨2, ![4, 1024]⟩
abbrev S1024 : Shape := ⟨1, ![1024]⟩
abbrev S4x256x256 : Shape := ⟨3, ![4, 256, 256]⟩
abbrev S2x4 : Shape := ⟨2, ![2, 4]⟩
abbrev S256 : Shape := ⟨1, ![256]⟩
abbrev S64x1024 : Shape := ⟨2, ![64, 1024]⟩
abbrev S_ : Shape := ⟨0, ![]⟩
abbrev S32x256x256 : Shape := ⟨3, ![32, 256, 256]⟩
abbrev S32x1x256 : Shape := ⟨3, ![32, 1, 256]⟩
abbrev S32x1x128 : Shape := ⟨3, ![32, 1, 128]⟩

class Facts : Prop where
  bcast_S_S64x1024 : S_.BroadcastsInDim S64x1024 (![] : Fin 0 → Fin S64x1024.rank)
  bcast_S_S32x256x256 : S_.BroadcastsInDim S32x256x256 (![] : Fin 0 → Fin S32x256x256.rank)
  bcast_S_S32x1x256 : S_.BroadcastsInDim S32x1x256 (![] : Fin 0 → Fin S32x1x256.rank)
  bcast_S_S32x1x128 : S_.BroadcastsInDim S32x1x128 (![] : Fin 0 → Fin S32x1x128.rank)
  bcast_S_S1x8x3x1024 : S_.BroadcastsInDim S1x8x3x1024 (![] : Fin 0 → Fin S1x8x3x1024.rank)

variable [Facts]

def fn {F : FTy → Type} [FloatOps F] (main_arg0 : FVec F S80x6144 .f32) (main_arg1 : FVec F S80x128 .f32) (main_arg2 : FVec F S1x8x3x1024 .f32) (main_arg3 : FVec F S8x4x256x256 .f32) (main_arg4 : FVec F S8x4x256 .f32) (main_arg5 : FVec F S8x4 .f32) (main_arg6 : FVec F S4x1024 .f32) (main_arg7 : FVec F S1024 .f32) (main_arg8 : FVec F S4x256x256 .f32) (main_arg9 : FVec F S4x256x256 .f32) (main_arg10 : FVec F S2x4 .f32) (main_arg11 : FVec F S256 .f32) : IVec S64x1024 1 × IVec S32x256x256 1 × IVec S32x1x256 1 × IVec S32x1x128 1 × IVec S1x8x3x1024 1 :=
  let main_v0 : IVec S64x1024 32 := iotaInDim S64x1024 32 0
  let main_c : IVec S_ 32 := constantI S_ 32 7#32
  let main_v1 : IVec S64x1024 32 := broadcastInDim S64x1024 ![] bcast_S_S64x1024 main_c
  let main_v2 : IVec S64x1024 32 := andi main_v0 main_v1
  let main_c_0 : IVec S_ 32 := constantI S_ 32 4#32
  let main_v3 : IVec S64x1024 32 := broadcastInDim S64x1024 ![] bcast_S_S64x1024 main_c_0
  let main_v4 : IVec S64x1024 1 := cmpi .slt main_v2 main_v3
  let main_v5 : IVec S32x256x256 32 := iotaInDim S32x256x256 32 0
  let main_c_1 : IVec S_ 32 := constantI S_ 32 0#32
  let main_v6 : IVec S32x256x256 32 := broadcastInDim S32x256x256 ![] bcast_S_S32x256x256 main_c_1
  let main_v7 : IVec S32x256x256 1 := cmpi .sge main_v5 main_v6
  let main_v8 : IVec S32x1x256 32 := iotaInDim S32x1x256 32 0
  let main_c_2 : IVec S_ 32 := constantI S_ 32 0#32
  let main_v9 : IVec S32x1x256 32 := broadcastInDim S32x1x256 ![] bcast_S_S32x1x256 main_c_2
  let main_v10 : IVec S32x1x256 1 := cmpi .sge main_v8 main_v9
  let main_v11 : IVec S32x1x128 32 := iotaInDim S32x1x128 32 0
  let main_c_3 : IVec S_ 32 := constantI S_ 32 0#32
  let main_v12 : IVec S32x1x128 32 := broadcastInDim S32x1x128 ![] bcast_S_S32x1x128 main_c_3
  let main_v13 : IVec S32x1x128 1 := cmpi .sge main_v11 main_v12
  let main_v14 : IVec S1x8x3x1024 32 := iotaInDim S1x8x3x1024 32 0
  let main_c_4 : IVec S_ 32 := constantI S_ 32 0#32
  let main_v15 : IVec S1x8x3x1024 32 := broadcastInDim S1x8x3x1024 ![] bcast_S_S1x8x3x1024 main_c_4
  let main_v16 : IVec S1x8x3x1024 1 := cmpi .sge main_v14 main_v15
  (main_v4, main_v7, main_v10, main_v13, main_v16)
-- ==== Pre_finite_inputs.lean ====
abbrev S4x2048x2048 : Shape := ⟨3, ![4, 2048, 2048]⟩
abbrev S2048 : Shape := ⟨1, ![2048]⟩
abbrev S2048x6152 : Shape := ⟨2, ![2048, 6152]⟩
abbrev S_ : Shape := ⟨0, ![]⟩

class Facts : Prop where
  bcast_S_S4x2048x2048 : S_.BroadcastsInDim S4x2048x2048 (![] : Fin 0 → Fin S4x2048x2048.rank)
  bcast_S_S2048 : S_.BroadcastsInDim S2048 (![] : Fin 0 → Fin S2048.rank)
  bcast_S_S2048x6152 : S_.BroadcastsInDim S2048x6152 (![] : Fin 0 → Fin S2048x6152.rank)

variable [Facts]

def fn {F : FTy → Type} [FloatOps F] (main_arg0 : FVec F S4x2048x2048 .f32) (main_arg1 : FVec F S2048 .f32) (main_arg2 : FVec F S2048x6152 .f32) : IVec S4x2048x2048 1 × IVec S2048 1 × IVec S2048x6152 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_v3 : FVec F S2048 .f32 := Host.absf main_arg1
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_v6 : FVec F S2048x6152 .f32 := Host.absf main_arg2
  let main_cst_1 : FVec F S_ .f32 := constant S_ .f32 0x7F800000#32
  let main_v7 : FVec F S2048x6152 .f32 := broadcastInDim S2048x6152 ![] bcast_S_S2048x6152 main_cst_1
  let main_v8 : IVec S2048x6152 1 := cmpf .olt main_v6 main_v7
  (main_v2, main_v5, main_v8)
-- ==== Pre_finite_samples.lean ====
abbrev S8x4x2048 : Shape := ⟨3, ![8, 4, 2048]⟩
abbrev S16x2048 : Shape := ⟨2, ![16, 2048]⟩
abbrev S2048 : Shape := ⟨1, ![2048]⟩
abbrev S2048x6152 : Shape := ⟨2, ![2048, 6152]⟩
abbrev S_ : Shape := ⟨0, ![]⟩

class Facts : Prop where
  bcast_S_S8x4x2048 : S_.BroadcastsInDim S8x4x2048 (![] : Fin 0 → Fin S8x4x2048.rank)
  bcast_S_S16x2048 : S_.BroadcastsInDim S16x2048 (![] : Fin 0 → Fin S16x2048.rank)
  bcast_S_S2048 : S_.BroadcastsInDim S2048 (![] : Fin 0 → Fin S2048.rank)
  bcast_S_S2048x6152 : S_.BroadcastsInDim S2048x6152 (![] : Fin 0 → Fin S2048x6152.rank)

variable [Facts]

def fn {F : FTy → Type} [FloatOps F] (main_arg0 : FVec F S8x4x2048 .f32) (main_arg1 : FVec F S16x2048 .f32) (main_arg2 : FVec F S2048 .f32) (main_arg3 : FVec F S2048x6152 .f32) : IVec S8x4x2048 1 × IVec S16x2048 1 × IVec S2048 1 × IVec S2048x6152 1 :=
  let main_v0 : FVec F S8x4x2048 .f32 := Host.absf main_arg0
  let main_cst : FVec F S_ .f32 := constant S_ .f32 0x7F800000#32
  let main_v1 : FVec F S8x4x2048 .f32 := broadcastInDim S8x4x2048 ![] bcast_S_S8x4x2048 main_cst
  let main_v2 : IVec S8x4x2048 1 := cmpf .olt main_v0 main_v1
  let main_v3 : FVec F S16x2048 .f32 := Host.absf main_arg1
  let main_cst_0 : FVec F S_ .f32 := constant S_ .f32 0x7F800000#32
  let main_v4 : FVec F S16x2048 .f32 := broadcastInDim S16x2048 ![] bcast_S_S16x2048 main_cst_0
  let main_v5 : IVec S16x2048 1 := cmpf .olt main_v3 main_v4
  let main_v6 : FVec F S2048 .f32 := Host.absf main_arg2
  let main_cst_1 : FVec F S_ .f32 := constant S_ .f32 0x7F800000#32
  let main_v7 : FVec F S2048 .f32 := broadcastInDim S2048 ![] bcast_S_S2048 main_cst_1
  let main_v8 : IVec S2048 1 := cmpf .olt main_v6 main_v7
  let main_v9 : FVec F S2048x6152 .f32 := Host.absf main_arg3
  let main_cst_2 : FVec F S_ .f32 := constant S_ .f32 0x7F800000#32
  let main_v10 : FVec F S2048x6152 .f32 := broadcastInDim S2048x6152 ![] bcast_S_S2048x6152 main_cst_2
  let main_v11 : IVec S2048x6152 1 := cmpf .olt main_v9 main_v10
  (main_v2, main_v5, main_v8, main_v11)
-- ==== Kernel.lean ====
abbrev S80x6144 : Shape := ⟨2, ![80, 6144]⟩
abbrev S80x128 : Shape := ⟨2, ![80, 128]⟩
abbrev S1x8x3x1024 : Shape := ⟨4, ![1, 8, 3, 1024]⟩
abbrev S8x4x256x256 : Shape := ⟨4, ![8, 4, 256, 256]⟩
abbrev S8x4x256 : Shape := ⟨3, ![8, 4, 256]⟩
abbrev S8x4 : Shape := ⟨2, ![8, 4]⟩
abbrev S4x1024 : Shape := ⟨2, ![4, 1024]⟩
abbrev S1024 : Shape := ⟨1, ![1024]⟩
abbrev S4x256x256 : Shape := ⟨3, ![4, 256, 256]⟩
abbrev S2x4 : Shape := ⟨2, ![2, 4]⟩
abbrev S256 : Shape := ⟨1, ![256]⟩
abbrev S1x8 : Shape := ⟨2, ![1, 8]⟩
abbrev S_ : Shape := ⟨0, ![]⟩
abbrev S1x128 : Shape := ⟨2, ![1, 128]⟩
abbrev S1x1024 : Shape := ⟨2, ![1, 1024]⟩
abbrev S1x256 : Shape := ⟨2, ![1, 256]⟩
abbrev S32x256x256 : Shape := ⟨3, ![32, 256, 256]⟩
abbrev S32x1x256 : Shape := ⟨3, ![32, 1, 256]⟩
abbrev S32x1x1 : Shape := ⟨3, ![32, 1, 1]⟩
abbrev S32x1x128 : Shape := ⟨3, ![32, 1, 128]⟩
abbrev S64x1024 : Shape := ⟨2, ![64, 1024]⟩
abbrev S8x256 : Shape := ⟨2, ![8, 256]⟩
abbrev S8x128 : Shape := ⟨2, ![8, 128]⟩
abbrev S1x1x3x256 : Shape := ⟨4, ![1, 1, 3, 256]⟩
abbrev S1x256x256 : Shape := ⟨3, ![1, 256, 256]⟩
abbrev S1x1x256 : Shape := ⟨3, ![1, 1, 256]⟩
abbrev S1x1x128 : Shape := ⟨3, ![1, 1, 128]⟩
abbrev S4x256 : Shape := ⟨2, ![4, 256]⟩
abbrev S24x256 : Shape := ⟨2, ![24, 256]⟩
abbrev S256x256 : Shape := ⟨2, ![256, 256]⟩
abbrev S256x1 : Shape := ⟨2, ![256, 1]⟩
abbrev S3x256 : Shape := ⟨2, ![3, 256]⟩
abbrev S16x256 : Shape := ⟨2, ![16, 256]⟩
abbrev S8 : Shape := ⟨1, ![8]⟩
abbrev S8x1 : Shape := ⟨2, ![8, 1]⟩
abbrev S1x1 : Shape := ⟨2, ![1, 1]⟩

abbrev nBuf : Space → Nat
  | .hbm => 27
  | .vmem => 42
  | .smem => 0
  | _ => 0

abbrev bufTy : (tb : Table) → Fin (tcTables nBuf tb) → BufTy
  | .hbm, ⟨0, _⟩ => ⟨S80x6144, .f32⟩
  | .hbm, ⟨1, _⟩ => ⟨S80x128, .f32⟩
  | .hbm, ⟨2, _⟩ => ⟨S1x8x3x1024, .f32⟩
  | .hbm, ⟨3, _⟩ => ⟨S8x4x256x256, .f32⟩
  | .hbm, ⟨4, _⟩ => ⟨S8x4x256, .f32⟩
  | .hbm, ⟨5, _⟩ => ⟨S8x4, .f32⟩
  | .hbm, ⟨6, _⟩ => ⟨S4x1024, .f32⟩
  | .hbm, ⟨7, _⟩ => ⟨S1024, .f32⟩
  | .hbm, ⟨8, _⟩ => ⟨S4x256x256, .f32⟩
  | .hbm, ⟨9, _⟩ => ⟨S4x256x256, .f32⟩
  | .hbm, ⟨10, _⟩ => ⟨S2x4, .f32⟩
  | .hbm, ⟨11, _⟩ => ⟨S256, .f32⟩
  | .hbm, ⟨12, _⟩ => ⟨S1x8, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x1024, .f32⟩
  | .hbm, ⟨17, _⟩ => ⟨S1x256, .f32⟩
  | .hbm, ⟨18, _⟩ => ⟨S32x256x256, .f32⟩
  | .hbm, ⟨19, _⟩ => ⟨S32x1x256, .f32⟩
  | .hbm, ⟨20, _⟩ => ⟨S32x1x1, .f32⟩
  | .hbm, ⟨21, _⟩ => ⟨S32x1x128, .f32⟩
  | .hbm, ⟨22, _⟩ => ⟨S64x1024, .f32⟩
  | .hbm, ⟨23, _⟩ => ⟨S32x256x256, .f32⟩
  | .hbm, ⟨24, _⟩ => ⟨S32x1x256, .f32⟩
  | .hbm, ⟨25, _⟩ => ⟨S32x1x128, .f32⟩
  | .hbm, ⟨26, _⟩ => ⟨S1x8x3x1024, .f32⟩
  | .local _ .vmem, ⟨0, _⟩ => ⟨S8x256, .f32⟩
  | .local _ .vmem, ⟨1, _⟩ => ⟨S8x256, .f32⟩
  | .local _ .vmem, ⟨2, _⟩ => ⟨S8x256, .f32⟩
  | .local _ .vmem, ⟨3, _⟩ => ⟨S8x256, .f32⟩
  | .local _ .vmem, ⟨4, _⟩ => ⟨S8x256, .f32⟩
  | .local _ .vmem, ⟨5, _⟩ => ⟨S8x256, .f32⟩
  | .local _ .vmem, ⟨6, _⟩ => ⟨S8x128, .f32⟩
  | .local _ .vmem, ⟨7, _⟩ => ⟨S8x128, .f32⟩
  | .local _ .vmem, ⟨8, _⟩ => ⟨S1x1x3x256, .f32⟩
  | .local _ .vmem, ⟨9, _⟩ => ⟨S1x1x3x256, .f32⟩
  | .local _ .vmem, ⟨10, _⟩ => ⟨S1x256x256, .f32⟩
  | .local _ .vmem, ⟨11, _⟩ => ⟨S1x256x256, .f32⟩
  | .local _ .vmem, ⟨12, _⟩ => ⟨S1x1x256, .f32⟩
  | .local _ .vmem, ⟨13, _⟩ => ⟨S1x1x256, .f32⟩
  | .local _ .vmem, ⟨14, _⟩ => ⟨S1x1x128, .f32⟩
  | .local _ .vmem, ⟨15, _⟩ => ⟨S1x1x128, .f32⟩
  | .local _ .vmem, ⟨16, _⟩ => ⟨S4x256, .f32⟩
  | .local _ .vmem, ⟨17, _⟩ => ⟨S4x256, .f32⟩
  | .local _ .vmem, ⟨18, _⟩ => ⟨S1x256, .f32⟩
  | .local _ .vmem, ⟨19, _⟩ => ⟨S1x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x128, .f32⟩
  | .local _ .vmem, ⟨25, _⟩ => ⟨S1x256, .f32⟩
  | .local _ .vmem, ⟨26, _⟩ => ⟨S8x256, .f32⟩
  | .local _ .vmem, ⟨27, _⟩ => ⟨S8x256, .f32⟩
  | .local _ .vmem, ⟨28, _⟩ => ⟨S1x256x256, .f32⟩
  | .local _ .vmem, ⟨29, _⟩ => ⟨S1x256x256, .f32⟩
  | .local _ .vmem, ⟨30, _⟩ => ⟨S1x1x256, .f32⟩
  | .local _ .vmem, ⟨31, _⟩ => ⟨S1x1x256, .f32⟩
  | .local _ .vmem, ⟨32, _⟩ => ⟨S1x1x128, .f32⟩
  | .local _ .vmem, ⟨33, _⟩ => ⟨S1x1x128, .f32⟩
  | .local _ .vmem, ⟨34, _⟩ => ⟨S1x1x3x256, .f32⟩
  | .local _ .vmem, ⟨35, _⟩ => ⟨S1x1x3x256, .f32⟩
  | .local _ .vmem, ⟨36, _⟩ => ⟨S24x256, .f32⟩
  | .local _ .vmem, ⟨37, _⟩ => ⟨S256x256, .bf16⟩
  | .local _ .vmem, ⟨38, _⟩ => ⟨S256x256, .bf16⟩
  | .local _ .vmem, ⟨39, _⟩ => ⟨S256x256, .bf16⟩
  | .local _ .vmem, ⟨40, _⟩ => ⟨S256x1, .f32⟩
  | .local _ .vmem, ⟨41, _⟩ => ⟨S256x1, .f32⟩
  | _, _ => ⟨S80x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_call0_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v8_3 : Ref sig .tc := ⟨.hbm, 25, rfl⟩
abbrev main_v8_4 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_scratch3 : Ref sig .tc := ⟨.vmem, 39, rfl⟩
abbrev cc0_scratch4 : Ref sig .tc := ⟨.vmem, 40, rfl⟩
abbrev cc0_scratch5 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c12_i32 : BitVec 32 := 12#32
  let v1 : BitVec 32 := Scalar.addi c12_i32 arg1
  let c0_i32 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c16_i32 : BitVec 32 := 16#32
  let v1 : BitVec 32 := Scalar.addi c16_i32 arg1
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c20_i32 : BitVec 32 := 20#32
  let v1 : BitVec 32 := Scalar.addi c20_i32 arg1
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S8x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x3x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x256 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S8x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x256x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x1x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x1x3x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S80x6144 : Shape := ⟨2, ![80, 6144]⟩
abbrev S80x128 : Shape := ⟨2, ![80, 128]⟩
abbrev S1x8x3x1024 : Shape := ⟨4, ![1, 8, 3, 1024]⟩
abbrev S8x4x256x256 : Shape := ⟨4, ![8, 4, 256, 256]⟩
abbrev S8x4x256 : Shape := ⟨3, ![8, 4, 256]⟩
abbrev S8x4 : Shape := ⟨2, ![8, 4]⟩
abbrev S4x1024 : Shape := ⟨2, ![4, 1024]⟩
abbrev S1024 : Shape := ⟨1, ![1024]⟩
abbrev S4x256x256 : Shape := ⟨3, ![4, 256, 256]⟩
abbrev S2x4 : Shape := ⟨2, ![2, 4]⟩
abbrev S256 : Shape := ⟨1, ![256]⟩
abbrev S64x6144 : Shape := ⟨2, ![64, 6144]⟩
abbrev S8x8x6144 : Shape := ⟨3, ![8, 8, 6144]⟩
abbrev S8x4x6144 : Shape := ⟨3, ![8, 4, 6144]⟩
abbrev S64x128 : Shape := ⟨2, ![64, 128]⟩
abbrev S8x8x128 : Shape := ⟨3, ![8, 8, 128]⟩
abbrev S8x4x128 : Shape := ⟨3, ![8, 4, 128]⟩
abbrev S8x4x1024 : Shape := ⟨3, ![8, 4, 1024]⟩
abbrev S8x4x4 : Shape := ⟨3, ![8, 4, 4]⟩
abbrev S8x3x1024 : Shape := ⟨3, ![8, 3, 1024]⟩
abbrev S8x7x1024 : Shape := ⟨3, ![8, 7, 1024]⟩
abbrev S1x1024 : Shape := ⟨2, ![1, 1024]⟩
abbrev S1x1x1024 : Shape := ⟨3, ![1, 1, 1024]⟩
abbrev S_ : Shape := ⟨0, ![]⟩
abbrev S8x4x4x256 : Shape := ⟨4, ![8, 4, 4, 256]⟩
abbrev S4x256x8x4 : Shape := ⟨4, ![4, 256, 8, 4]⟩
abbrev S1x4 : Shape := ⟨2, ![1, 4]⟩
abbrev S4 : Shape := ⟨1, ![4]⟩
abbrev S1x1x4 : Shape := ⟨3, ![1, 1, 4]⟩
abbrev S4x4 : Shape := ⟨2, ![4, 4]⟩
abbrev S8x4x4x1 : Shape := ⟨4, ![8, 4, 4, 1]⟩
abbrev S8x4x1x4 : Shape := ⟨4, ![8, 4, 1, 4]⟩
abbrev S8x4x4x4 : Shape := ⟨4, ![8, 4, 4, 4]⟩
abbrev S8x4x1 : Shape := ⟨3, ![8, 4, 1]⟩
abbrev S8x4x1x1 : Shape := ⟨4, ![8, 4, 1, 1]⟩
abbrev S1x1x1x256 : Shape := ⟨4, ![1, 1, 1, 256]⟩
abbrev S8x8x1024 : Shape := ⟨3, ![8, 8, 1024]⟩
abbrev S64x1024 : Shape := ⟨2, ![64, 1024]⟩
abbrev S32x256x256 : Shape := ⟨3, ![32, 256, 256]⟩
abbrev S32x1x256 : Shape := ⟨3, ![32, 1, 256]⟩
abbrev S32x1x1 : Shape := ⟨3, ![32, 1, 1]⟩
abbrev S32x1x128 : Shape := ⟨3, ![32, 1, 128]⟩

abbrev nBuf : Space → Nat
  | .hbm => 227
  | .vmem => 0
  | .smem => 0
  | _ => 0

abbrev hbmTy0_0 (i : Nat) : BufTy := match i % 128 with
  | 0 => ⟨S80x6144, .f32⟩
  | 1 => ⟨S80x128, .f32⟩
  | 2 => ⟨S1x8x3x1024, .f32⟩
  | 3 => ⟨S8x4x256x256, .f32⟩
  | 4 => ⟨S8x4x256, .f32⟩
  | 5 => ⟨S8x4, .f32⟩
  | 6 => ⟨S4x1024, .f32⟩
  | 7 => ⟨S1024, .f32⟩
  | 8 => ⟨S4x256x256, .f32⟩
  | 9 => ⟨S4x256x256, .f32⟩
  | 10 => ⟨S2x4, .f32⟩
  | 11 => ⟨S256, .f32⟩
  | 12 => ⟨S64x6144, .f32⟩
  | 13 => ⟨S8x8x6144, .f32⟩
  | 14 => ⟨S8x4x6144, .f32⟩
  | 15 => ⟨S64x128, .f32⟩
  | 16 => ⟨S8x8x128, .f32⟩
  | 17 => ⟨S8x4x128, .f32⟩
  | 18 => ⟨S8x4x1024, .f32⟩
  | 19 => ⟨S8x4x1024, .f32⟩
  | 20 => ⟨S8x4x1024, .f32⟩
  | 21 => ⟨S8x4x4, .f32⟩
  | 22 => ⟨S8x4x4, .f32⟩
  | 23 => ⟨S8x3x1024, .f32⟩
  | 24 => ⟨S8x7x1024, .f32⟩
  | 25 => ⟨S8x4x1024, .f32⟩
  | 26 => ⟨S1x1024, .f32⟩
  | 27 => ⟨S1024, .f32⟩
  | 28 => ⟨S1x1x1024, .f32⟩
  | 29 => ⟨S8x4x1024, .f32⟩
  | 30 => ⟨S8x4x1024, .f32⟩
  | 31 => ⟨S1x1x1024, .f32⟩
  | 32 => ⟨S8x4x1024, .f32⟩
  | 33 => ⟨S8x4x1024, .f32⟩
  | 34 => ⟨S8x4x1024, .f32⟩
  | 35 => ⟨S1x1024, .f32⟩
  | 36 => ⟨S1024, .f32⟩
  | 37 => ⟨S1x1x1024, .f32⟩
  | 38 => ⟨S8x4x1024, .f32⟩
  | 39 => ⟨S8x4x1024, .f32⟩
  | 40 => ⟨S8x4x1024, .f32⟩
  | 41 => ⟨S8x4x1024, .f32⟩
  | 42 => ⟨S1x1024, .f32⟩
  | 43 => ⟨S1024, .f32⟩
  | 44 => ⟨S1x1x1024, .f32⟩
  | 45 => ⟨S8x4x1024, .f32⟩
  | 46 => ⟨S8x4x1024, .f32⟩
  | 47 => ⟨S8x4x1024, .f32⟩
  | 48 => ⟨S8x4x1024, .f32⟩
  | 49 => ⟨S1x1024, .f32⟩
  | 50 => ⟨S1024, .f32⟩
  | 51 => ⟨S1x1x1024, .f32⟩
  | 52 => ⟨S8x4x1024, .f32⟩
  | 53 => ⟨S8x4x1024, .f32⟩
  | 54 => ⟨S8x4x1024, .f32⟩
  | 55 => ⟨S8x4x1024, .f32⟩
  | 56 => ⟨S8x4x1024, .f32⟩
  | 57 => ⟨S_, .f32⟩
  | 58 => ⟨S8x4x1024, .f32⟩
  | 59 => ⟨S8x4x1024, .f32⟩
  | 60 => ⟨S_, .f32⟩
  | 61 => ⟨S8x4x1024, .f32⟩
  | 62 => ⟨S8x4x1024, .f32⟩
  | 63 => ⟨S8x4x1024, .f32⟩
  | 64 => ⟨S8x4x4x256, .f32⟩
  | 65 => ⟨S4x256x8x4, .f32⟩
  | 66 => ⟨S8x4x4x256, .f32⟩
  | 67 => ⟨S4x256x8x4, .f32⟩
  | 68 => ⟨S8x4x4x256, .f32⟩
  | 69 => ⟨S_, .f32⟩
  | 70 => ⟨S8x4x4x256, .f32⟩
  | 71 => ⟨S8x4x4x256, .f32⟩
  | 72 => ⟨S8x4x4x256, .f32⟩
  | 73 => ⟨S1x4, .f32⟩
  | 74 => ⟨S4, .f32⟩
  | 75 => ⟨S1x1x4, .f32⟩
  | 76 => ⟨S8x4x4, .f32⟩
  | 77 => ⟨S8x4x4, .f32⟩
  | 78 => ⟨S1x4, .f32⟩
  | 79 => ⟨S4, .f32⟩
  | 80 => ⟨S1x1x4, .f32⟩
  | 81 => ⟨S8x4x4, .f32⟩
  | 82 => ⟨S8x4x4, .f32⟩
  | 83 => ⟨S8x4x4, .f32⟩
  | 84 => ⟨S_, .f32⟩
  | 85 => ⟨S8x4x4, .f32⟩
  | 86 => ⟨S8x4x4, .f32⟩
  | 87 => ⟨S8x4x4, .f32⟩
  | 88 => ⟨S8x4x4, .f32⟩
  | 89 => ⟨S8x4x4, .i1⟩
  | 90 => ⟨S8x4x4, .f32⟩
  | 91 => ⟨S8x4x4, .f32⟩
  | 92 => ⟨S8x4x4, .f32⟩
  | 93 => ⟨S8x4x4, .f32⟩
  | 94 => ⟨S8x4x4, .f32⟩
  | 95 => ⟨S8x4x4, .f32⟩
  | 96 => ⟨S8x4x4, .f32⟩
  | 97 => ⟨S8x4x4, .f32⟩
  | 98 => ⟨S8x4x4, .f32⟩
  | 99 => ⟨S8x3x1024, .f32⟩
  | 100 => ⟨S_, .f32⟩
  | 101 => ⟨S_, .f32⟩
  | 102 => ⟨S8x4x4, .f32⟩
  | 103 => ⟨S8x4x4, .f32⟩
  | 104 => ⟨S8x4x4, .f32⟩
  | 105 => ⟨S_, .i1⟩
  | 106 => ⟨S4x4, .i1⟩
  | 107 => ⟨S4x4, .i32⟩
  | 108 => ⟨S_, .i32⟩
  | 109 => ⟨S4x4, .i32⟩
  | 110 => ⟨S4x4, .i32⟩
  | 111 => ⟨S4x4, .i32⟩
  | 112 => ⟨S4x4, .i1⟩
  | 113 => ⟨S_, .i1⟩
  | 114 => ⟨S4x4, .i1⟩
  | 115 => ⟨S4x4, .i1⟩
  | 116 => ⟨S8x4x4x1, .f32⟩
  | 117 => ⟨S8x4x1x4, .f32⟩
  | 118 => ⟨S8x4x4x4, .f32⟩
  | 119 => ⟨S8x4x4x4, .f32⟩
  | 120 => ⟨S8x4x4x4, .f32⟩
  | 121 => ⟨S8x4x1x4, .f32⟩
  | 122 => ⟨S8x4x4x4, .f32⟩
  | 123 => ⟨S8x4x4x4, .f32⟩
  | 124 => ⟨S_, .f32⟩
  | 125 => ⟨S_, .f32⟩
  | 126 => ⟨S8x4x4x4, .i1⟩
  | 127 => ⟨S8x4x4x4, .f32⟩
  | _ => ⟨S80x6144, .f32⟩

abbrev hbmTy0_1 (i : Nat) : BufTy := match i % 128 with
  | 0 => ⟨S8x4x4x4, .f32⟩
  | 1 => ⟨S8x4x1, .f32⟩
  | 2 => ⟨S8x4x4, .f32⟩
  | 3 => ⟨S8x4x4, .f32⟩
  | 4 => ⟨S_, .f32⟩
  | 5 => ⟨S8x4x4, .f32⟩
  | 6 => ⟨S8x4x4, .f32⟩
  | 7 => ⟨S8x4x4, .f32⟩
  | 8 => ⟨S8x4x4, .f32⟩
  | 9 => ⟨S8x4x4x4, .f32⟩
  | 10 => ⟨S8x4x4x1, .f32⟩
  | 11 => ⟨S8x4x4x4, .f32⟩
  | 12 => ⟨S8x4x4x4, .f32⟩
  | 13 => ⟨S8x4x4x4, .f32⟩
  | 14 => ⟨S8x4x4x4, .f32⟩
  | 15 => ⟨S8x4x4x1, .f32⟩
  | 16 => ⟨S8x4x4x256, .f32⟩
  | 17 => ⟨S8x4x4x256, .f32⟩
  | 18 => ⟨S8x4x4x256, .f32⟩
  | 19 => ⟨S8x4x4x256, .f32⟩
  | 20 => ⟨S8x4x4x256, .f32⟩
  | 21 => ⟨S8x4x4, .f32⟩
  | 22 => ⟨S8x4x4, .f32⟩
  | 23 => ⟨S_, .f32⟩
  | 24 => ⟨S8x4x4, .f32⟩
  | 25 => ⟨S8x4x4, .f32⟩
  | 26 => ⟨S8x4x4, .f32⟩
  | 27 => ⟨S8x4x4, .f32⟩
  | 28 => ⟨S8x4x4, .f32⟩
  | 29 => ⟨S8x4x4, .f32⟩
  | 30 => ⟨S8x4x4x1, .f32⟩
  | 31 => ⟨S8x4x4x256, .f32⟩
  | 32 => ⟨S8x4x4x256, .f32⟩
  | 33 => ⟨S8x4x1, .f32⟩
  | 34 => ⟨S8x4, .f32⟩
  | 35 => ⟨S8x4x1, .f32⟩
  | 36 => ⟨S8x4, .f32⟩
  | 37 => ⟨S8x4, .f32⟩
  | 38 => ⟨S8x4, .f32⟩
  | 39 => ⟨S8x4, .f32⟩
  | 40 => ⟨S8x4x1, .f32⟩
  | 41 => ⟨S8x4x4, .f32⟩
  | 42 => ⟨S8x4x4, .f32⟩
  | 43 => ⟨S8x4x4, .f32⟩
  | 44 => ⟨S8x4x1, .f32⟩
  | 45 => ⟨S8x4x4, .f32⟩
  | 46 => ⟨S8x4x4, .f32⟩
  | 47 => ⟨S8x4x4, .f32⟩
  | 48 => ⟨S8x4x1x1, .f32⟩
  | 49 => ⟨S8x4x256x256, .f32⟩
  | 50 => ⟨S8x4x256x256, .f32⟩
  | 51 => ⟨S8x4x4, .f32⟩
  | 52 => ⟨S8x4x4x1, .f32⟩
  | 53 => ⟨S8x4x4x256, .f32⟩
  | 54 => ⟨S8x4x4x256, .f32⟩
  | 55 => ⟨S8x4x256x256, .f32⟩
  | 56 => ⟨S8x4x256x256, .f32⟩
  | 57 => ⟨S8x4x1, .f32⟩
  | 58 => ⟨S8x4x256, .f32⟩
  | 59 => ⟨S8x4x256, .f32⟩
  | 60 => ⟨S8x4x256, .f32⟩
  | 61 => ⟨S8x4x256, .f32⟩
  | 62 => ⟨S8x4x4x256, .f32⟩
  | 63 => ⟨S8x4x4x256, .f32⟩
  | 64 => ⟨S_, .f32⟩
  | 65 => ⟨S8x4x4, .f32⟩
  | 66 => ⟨S8x4x4x1, .f32⟩
  | 67 => ⟨S_, .f32⟩
  | 68 => ⟨S8x4x4x1, .f32⟩
  | 69 => ⟨S8x4x4x1, .f32⟩
  | 70 => ⟨S_, .f32⟩
  | 71 => ⟨S8x4x4x1, .f32⟩
  | 72 => ⟨S8x4x4x1, .f32⟩
  | 73 => ⟨S8x4x4x1, .f32⟩
  | 74 => ⟨S8x4x4x256, .f32⟩
  | 75 => ⟨S8x4x4x256, .f32⟩
  | 76 => ⟨S1x1x1x256, .f32⟩
  | 77 => ⟨S8x4x4x256, .f32⟩
  | 78 => ⟨S8x4x4x256, .f32⟩
  | 79 => ⟨S8x4x1024, .f32⟩
  | 80 => ⟨S8x4x1024, .f32⟩
  | 81 => ⟨S_, .f32⟩
  | 82 => ⟨S8x4x1024, .f32⟩
  | 83 => ⟨S8x4x1024, .f32⟩
  | 84 => ⟨S_, .f32⟩
  | 85 => ⟨S8x4x1024, .f32⟩
  | 86 => ⟨S8x4x1024, .f32⟩
  | 87 => ⟨S8x4x4x256, .f32⟩
  | 88 => ⟨S8x4x4x256, .f32⟩
  | 89 => ⟨S8x4x1024, .f32⟩
  | 90 => ⟨S_, .i32⟩
  | 91 => ⟨S_, .f32⟩
  | 92 => ⟨S8x8x1024, .f32⟩
  | 93 => ⟨S64x1024, .f32⟩
  | 94 => ⟨S32x256x256, .f32⟩
  | 95 => ⟨S32x1x256, .f32⟩
  | 96 => ⟨S32x1x1, .f32⟩
  | 97 => ⟨S32x1x128, .f32⟩
  | 98 => ⟨S1x8x3x1024, .f32⟩
  | _ => ⟨S80x6144, .f32⟩

abbrev hbmTy (i : Nat) : BufTy := match i / 128 with
  | 0 => hbmTy0_0 i
  | 1 => hbmTy0_1 i
  | _ => ⟨S80x6144, .f32⟩

abbrev bufTy : (tb : Table) → Fin (tcTables nBuf tb) → BufTy
  | .hbm, ⟨i, _⟩ => hbmTy i
  | _, _ => ⟨S80x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_call0_v0 : Ref sig .tc := ⟨.hbm, 55, rfl⟩
abbrev main_call0_v1 : Ref sig .tc := ⟨.hbm, 56, rfl⟩
abbrev main_call0_cst : Ref sig .tc := ⟨.hbm, 57, rfl⟩
abbrev main_call0_v2 : Ref sig .tc := ⟨.hbm, 58, rfl⟩
abbrev main_call0_v3 : Ref sig .tc := ⟨.hbm, 59, rfl⟩
abbrev main_call0_cst_0 : Ref sig .tc := ⟨.hbm, 60, rfl⟩
abbrev main_call0_v4 : Ref sig .tc := ⟨.hbm, 61, rfl⟩
abbrev main_call0_v5 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_call1_v0 : Ref sig .tc := ⟨.hbm, 83, rfl⟩
abbrev main_call1_call0_cst : Ref sig .tc := ⟨.hbm, 84, rfl⟩
abbrev main_call1_call0_v0 : Ref sig .tc := ⟨.hbm, 85, rfl⟩
abbrev main_call1_call0_v1 : Ref sig .tc := ⟨.hbm, 86, rfl⟩
abbrev main_call1_call0_v2 : Ref sig .tc := ⟨.hbm, 87, rfl⟩
abbrev main_call1_call0_v3 : Ref sig .tc := ⟨.hbm, 88, rfl⟩
abbrev main_call1_call0_v4 : Ref sig .tc := ⟨.hbm, 89, rfl⟩
abbrev main_call1_call0_v5 : Ref sig .tc := ⟨.hbm, 90, rfl⟩
abbrev main_call1_call0_v6 : Ref sig .tc := ⟨.hbm, 91, rfl⟩
abbrev main_call1_call0_v7 : Ref sig .tc := ⟨.hbm, 92, rfl⟩
abbrev main_call1_call0_v8 : Ref sig .tc := ⟨.hbm, 93, rfl⟩
abbrev main_call1_call0_v9 : Ref sig .tc := ⟨.hbm, 94, rfl⟩
abbrev main_call1_call0_v10 : Ref sig .tc := ⟨.hbm, 95, rfl⟩
abbrev main_call1_call0_v11 : Ref sig .tc := ⟨.hbm, 96, rfl⟩
abbrev main_call1_v1 : Ref sig .tc := ⟨.hbm, 97, rfl⟩
abbrev main_v62 : Ref sig .tc := ⟨.hbm, 98, rfl⟩
abbrev main_v63 : Ref sig .tc := ⟨.hbm, 99, rfl⟩
abbrev main_call2_call0_cst : Ref sig .tc := ⟨.hbm, 100, rfl⟩
abbrev main_call2_call0_v0 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_c : Ref sig .tc := ⟨.hbm, 105, rfl⟩
abbrev main_v67 : Ref sig .tc := ⟨.hbm, 106, rfl⟩
abbrev main_call3_v0 : Ref sig .tc := ⟨.hbm, 107, rfl⟩
abbrev main_call3_c : Ref sig .tc := ⟨.hbm, 108, rfl⟩
abbrev main_call3_v1 : Ref sig .tc := ⟨.hbm, 109, rfl⟩
abbrev main_call3_v2 : Ref sig .tc := ⟨.hbm, 110, rfl⟩
abbrev main_call3_v3 : Ref sig .tc := ⟨.hbm, 111, rfl⟩
abbrev main_call3_v4 : Ref sig .tc := ⟨.hbm, 112, rfl⟩
abbrev main_call3_c_0 : Ref sig .tc := ⟨.hbm, 113, rfl⟩
abbrev main_call3_v5 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_cst_0 : Ref sig .tc := ⟨.hbm, 124, rfl⟩
abbrev main_call4_v0 : Ref sig .tc := ⟨.hbm, 125, rfl⟩
abbrev main_call4_v1 : Ref sig .tc := ⟨.hbm, 126, rfl⟩
abbrev main_call4_v2 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_cst_1 : Ref sig .tc := ⟨.hbm, 132, rfl⟩
abbrev main_v81 : Ref sig .tc := ⟨.hbm, 133, rfl⟩
abbrev main_v82 : Ref sig .tc := ⟨.hbm, 134, rfl⟩
abbrev main_v83 : Ref sig .tc := ⟨.hbm, 135, rfl⟩
abbrev main_v84 : Ref sig .tc := ⟨.hbm, 136, rfl⟩
abbrev main_v85 : Ref sig .tc := ⟨.hbm, 137, rfl⟩
abbrev main_v86 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_v93 : Ref sig .tc := ⟨.hbm, 145, rfl⟩
abbrev main_v94 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_v98 : Ref sig .tc := ⟨.hbm, 150, rfl⟩
abbrev main_cst_2 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_v109 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_v117 : Ref sig .tc := ⟨.hbm, 170, rfl⟩
abbrev main_v118 : Ref sig .tc := ⟨.hbm, 171, rfl⟩
abbrev main_v119 : Ref sig .tc := ⟨.hbm, 172, rfl⟩
abbrev main_v120 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_3 : Ref sig .tc := ⟨.hbm, 192, rfl⟩
abbrev main_v139 : Ref sig .tc := ⟨.hbm, 193, rfl⟩
abbrev main_v140 : Ref sig .tc := ⟨.hbm, 194, rfl⟩
abbrev main_cst_4 : Ref sig .tc := ⟨.hbm, 195, rfl⟩
abbrev main_v141 : Ref sig .tc := ⟨.hbm, 196, rfl⟩
abbrev main_v142 : Ref sig .tc := ⟨.hbm, 197, rfl⟩
abbrev main_cst_5 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_cst_6 : Ref sig .tc := ⟨.hbm, 209, rfl⟩
abbrev main_v153 : Ref sig .tc := ⟨.hbm, 210, rfl⟩
abbrev main_v154 : Ref sig .tc := ⟨.hbm, 211, rfl⟩
abbrev main_cst_7 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_c_8 : Ref sig .tc := ⟨.hbm, 218, rfl⟩
abbrev main_call5_v0 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩

abbrev nD : Nat := 1
abbrev τ : Topo := Topo.v7x

variable {F : FTy → Type} [FloatOps F]
-- ==== Ffn.lean ====
abbrev S8192x2048 : Shape := ⟨2, ![8192, 2048]⟩
abbrev S2048 : Shape := ⟨1, ![2048]⟩
abbrev S2048x8192 : Shape := ⟨2, ![2048, 8192]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S1x2048, .f32⟩
  | .hbm, ⟨5, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S512x2048, .f32⟩
  | .local _ .vmem, ⟨6, _⟩ => ⟨S512x2048, .f32⟩
  | .local _ .vmem, ⟨7, _⟩ => ⟨S1024x2048, .f32⟩
  | .local _ .vmem, ⟨8, _⟩ => ⟨S1024x2048, .f32⟩
  | .local _ .vmem, ⟨9, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== FfnRefIdeal.lean ====
abbrev S8192x2048 : Shape := ⟨2, ![8192, 2048]⟩
abbrev S2048 : Shape := ⟨1, ![2048]⟩
abbrev S2048x8192 : Shape := ⟨2, ![2048, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x8192 : Shape := ⟨2, ![8192, 8192]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S8192x2048, .f32⟩
  | .hbm, ⟨26, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Proj.lean ====
abbrev S4x2048x2048 : Shape := ⟨3, ![4, 2048, 2048]⟩
abbrev S2048 : Shape := ⟨1, ![2048]⟩
abbrev S2048x6152 : Shape := ⟨2, ![2048, 6152]⟩
abbrev S8192x2048 : Shape := ⟨2, ![8192, 2048]⟩
abbrev S2048x8 : Shape := ⟨2, ![2048, 8]⟩
abbrev S_ : Shape := ⟨0, ![]⟩
abbrev S2048x128 : Shape := ⟨2, ![2048, 128]⟩
abbrev S1x2048 : Shape := ⟨2, ![1, 2048]⟩
abbrev S8192x6144 : Shape := ⟨2, ![8192, 6144]⟩
abbrev S8192x128 : Shape := ⟨2, ![8192, 128]⟩
abbrev S1024x2048 : Shape := ⟨2, ![1024, 2048]⟩
abbrev S2048x512 : Shape := ⟨2, ![2048, 512]⟩
abbrev S1024x512 : Shape := ⟨2, ![1024, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 15
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x6152, .f32⟩
  | .hbm, ⟨3, _⟩ => ⟨S8192x2048, .f32⟩
  | .hbm, ⟨4, _⟩ => ⟨S2048x8, .f32⟩
  | .hbm, ⟨5, _⟩ => ⟨S_, .i32⟩
  | .hbm, ⟨6, _⟩ => ⟨S_, .f32⟩
  | .hbm, ⟨7, _⟩ => ⟨S2048x128, .f32⟩
  | .hbm, ⟨8, _⟩ => ⟨S2048x128, .bf16⟩
  | .hbm, ⟨9, _⟩ => ⟨S2048x128, .f32⟩
  | .hbm, ⟨10, _⟩ => ⟨S2048x128, .f32⟩
  | .hbm, ⟨11, _⟩ => ⟨S2048x128, .bf16⟩
  | .hbm, ⟨12, _⟩ => ⟨S1x2048, .f32⟩
  | .hbm, ⟨13, _⟩ => ⟨S8192x6144, .f32⟩
  | .hbm, ⟨14, _⟩ => ⟨S8192x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .f32⟩
  | .local _ .vmem, ⟨4, _⟩ => ⟨S2048x512, .f32⟩
  | .local _ .vmem, ⟨5, _⟩ => ⟨S2048x128, .bf16⟩
  | .local _ .vmem, ⟨6, _⟩ => ⟨S2048x128, .bf16⟩
  | .local _ .vmem, ⟨7, _⟩ => ⟨S1024x512, .f32⟩
  | .local _ .vmem, ⟨8, _⟩ => ⟨S1024x512, .f32⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ProjRefIdeal.lean ====
abbrev S4x2048x2048 : Shape := ⟨3, ![4, 2048, 2048]⟩
abbrev S2048 : Shape := ⟨1, ![2048]⟩
abbrev S2048x6152 : Shape := ⟨2, ![2048, 6152]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x6152 : Shape := ⟨2, ![8192, 6152]⟩
abbrev S8192x6144 : Shape := ⟨2, ![8192, 6144]⟩
abbrev S8192x8 : Shape := ⟨2, ![8192, 8]⟩
abbrev S8192x128 : Shape := ⟨2, ![8192, 128]⟩

abbrev nBuf : Space → Nat
  | .hbm => 26
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048, .f32⟩
  | .hbm, ⟨2, _⟩ => ⟨S2048x6152, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S1x2048, .f32⟩
  | .hbm, ⟨18, _⟩ => ⟨S8192x2048, .f32⟩
  | .hbm, ⟨19, _⟩ => ⟨S8192x2048, .f32⟩
  | .hbm, ⟨20, _⟩ => ⟨S8192x6152, .f32⟩
  | .hbm, ⟨21, _⟩ => ⟨S8192x6144, .f32⟩
  | .hbm, ⟨22, _⟩ => ⟨S8192x8, .f32⟩
  | .hbm, ⟨23, _⟩ => ⟨S_, .i32⟩
  | .hbm, ⟨24, _⟩ => ⟨S_, .f32⟩
  | .hbm, ⟨25, _⟩ => ⟨S8192x128, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_c : Ref sig .tc := ⟨.hbm, 23, rfl⟩
abbrev main_call0_v0 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== Outproj.lean ====
abbrev S4x2048x2048 : Shape := ⟨3, ![4, 2048, 2048]⟩
abbrev S8192x1024 : Shape := ⟨2, ![8192, 1024]⟩
abbrev S2048x2048 : Shape := ⟨2, ![2048, 2048]⟩
abbrev S8192x2048 : Shape := ⟨2, ![8192, 2048]⟩
abbrev S1024x2048 : Shape := ⟨2, ![1024, 2048]⟩
abbrev S1024x512 : Shape := ⟨2, ![1024, 512]⟩
abbrev S1024x1024 : Shape := ⟨2, ![1024, 1024]⟩

abbrev nBuf : Space → Nat
  | .hbm => 8
  | .vmem => 12
  | .smem => 0
  | _ => 0

abbrev bufTy : (tb : Table) → Fin (tcTables nBuf tb) → BufTy
  | .hbm, ⟨0, _⟩ => ⟨S4x2048x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S8192x2048, .f32⟩
  | .hbm, ⟨5, _⟩ => ⟨S1024x2048, .f32⟩
  | .hbm, ⟨6, _⟩ => ⟨S1024x2048, .f32⟩
  | .hbm, ⟨7, _⟩ => ⟨S8192x2048, .f32⟩
  | .local _ .vmem, ⟨0, _⟩ => ⟨S1024x512, .f32⟩
  | .local _ .vmem, ⟨1, _⟩ => ⟨S1024x512, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutprojRefIdeal.lean ====
abbrev S4x2048x2048 : Shape := ⟨3, ![4, 2048, 2048]⟩
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S8192x1024, .bf16⟩
  | .hbm, ⟨2, _⟩ => ⟨S8192x1024, .bf16⟩
  | .hbm, ⟨3, _⟩ => ⟨S2048x2048, .f32⟩
  | .hbm, ⟨4, _⟩ => ⟨S8192x2048, .f32⟩
  | .hbm, ⟨5, _⟩ => ⟨S8192x1024, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== SFfn.lean ====
abbrev S64x2048 : Shape := ⟨2, ![64, 2048]⟩
abbrev S2048 : Shape := ⟨1, ![2048]⟩
abbrev S2048x8192 : Shape := ⟨2, ![2048, 8192]⟩
abbrev S8192x2048 : Shape := ⟨2, ![8192, 2048]⟩
abbrev S1x2048 : Shape := ⟨2, ![1, 2048]⟩
abbrev S2048x512 : Shape := ⟨2, ![2048, 512]⟩
abbrev S512x2048 : Shape := ⟨2, ![512, 2048]⟩
abbrev S64 : Shape := ⟨1, ![64]⟩
abbrev S64x1 : Shape := ⟨2, ![64, 1]⟩
abbrev S64x512 : Shape := ⟨2, ![64, 512]⟩

abbrev nBuf : Space → Nat
  | .hbm => 6
  | .vmem => 8
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S1x2048, .f32⟩
  | .hbm, ⟨5, _⟩ => ⟨S64x2048, .f32⟩
  | .local _ .vmem, ⟨0, _⟩ => ⟨S64x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S512x2048, .f32⟩
  | .local _ .vmem, ⟨6, _⟩ => ⟨S64x2048, .f32⟩
  | .local _ .vmem, ⟨7, _⟩ => ⟨S64x2048, .bf16⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S64x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]
-- ==== SFfnRefIdeal.lean ====
abbrev S64x2048 : Shape := ⟨2, ![64, 2048]⟩
abbrev S2048 : Shape := ⟨1, ![2048]⟩
abbrev S2048x8192 : Shape := ⟨2, ![2048, 8192]⟩
abbrev S8192x2048 : Shape := ⟨2, ![8192, 2048]⟩
abbrev S_ : Shape := ⟨0, ![]⟩
abbrev S64 : Shape := ⟨1, ![64]⟩
abbrev S64x1 : Shape := ⟨2, ![64, 1]⟩
abbrev S1x2048 : Shape := ⟨2, ![1, 2048]⟩
abbrev S64x8192 : Shape := ⟨2, ![64, 8192]⟩

abbrev nBuf : Space → Nat
  | .hbm => 27
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048, .f32⟩
  | .hbm, ⟨2, _⟩ => ⟨S2048x8192, .f32⟩
  | .hbm, ⟨3, _⟩ => ⟨S8192x2048, .f32⟩
  | .hbm, ⟨4, _⟩ => ⟨S64x2048, .f32⟩
  | .hbm, ⟨5, _⟩ => ⟨S_, .f32⟩
  | .hbm, ⟨6, _⟩ => ⟨S64, .f32⟩
  | .hbm, ⟨7, _⟩ => ⟨S64x1, .f32⟩
  | .hbm, ⟨8, _⟩ => ⟨S_, .f32⟩
  | .hbm, ⟨9, _⟩ => ⟨S64x1, .f32⟩
  | .hbm, ⟨10, _⟩ => ⟨S64x1, .f32⟩
  | .hbm, ⟨11, _⟩ => ⟨S_, .f32⟩
  | .hbm, ⟨12, _⟩ => ⟨S64x1, .f32⟩
  | .hbm, ⟨13, _⟩ => ⟨S64x1, .f32⟩
  | .hbm, ⟨14, _⟩ => ⟨S64x1, .f32⟩
  | .hbm, ⟨15, _⟩ => ⟨S64x2048, .f32⟩
  | .hbm, ⟨16, _⟩ => ⟨S64x2048, .f32⟩
  | .hbm, ⟨17, _⟩ => ⟨S1x2048, .f32⟩
  | .hbm, ⟨18, _⟩ => ⟨S64x2048, .f32⟩
  | .hbm, ⟨19, _⟩ => ⟨S64x2048, .f32⟩
  | .hbm, ⟨20, _⟩ => ⟨S64x8192, .f32⟩
  | .hbm, ⟨21, _⟩ => ⟨S_, .f32⟩
  | .hbm, ⟨22, _⟩ => ⟨S64x8192, .f32⟩
  | .hbm, ⟨23, _⟩ => ⟨S64x8192, .f32⟩
  | .hbm, ⟨24, _⟩ => ⟨S64x8192, .f32⟩
  | .hbm, ⟨25, _⟩ => ⟨S64x2048, .f32⟩
  | .hbm, ⟨26, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== SProj.lean ====
abbrev S8x4x2048 : Shape := ⟨3, ![8, 4, 2048]⟩
abbrev S16x2048 : Shape := ⟨2, ![16, 2048]⟩
abbrev S2048 : Shape := ⟨1, ![2048]⟩
abbrev S2048x6152 : Shape := ⟨2, ![2048, 6152]⟩
abbrev S_ : Shape := ⟨0, ![]⟩
abbrev S8x8x2048 : Shape := ⟨3, ![8, 8, 2048]⟩
abbrev S64x2048 : Shape := ⟨2, ![64, 2048]⟩
abbrev S80x2048 : Shape := ⟨2, ![80, 2048]⟩
abbrev S2048x8 : Shape := ⟨2, ![2048, 8]⟩
abbrev S2048x128 : Shape := ⟨2, ![2048, 128]⟩
abbrev S1x2048 : Shape := ⟨2, ![1, 2048]⟩
abbrev S80x6144 : Shape := ⟨2, ![80, 6144]⟩
abbrev S80x128 : Shape := ⟨2, ![80, 128]⟩
abbrev S2048x512 : Shape := ⟨2, ![2048, 512]⟩
abbrev S80x512 : Shape := ⟨2, ![80, 512]⟩
abbrev S80 : Shape := ⟨1, ![80]⟩
abbrev S80x1 : Shape := ⟨2, ![80, 1]⟩
abbrev S64x1024 : Shape := ⟨2, ![64, 1024]⟩
abbrev S8x8x1024 : Shape := ⟨3, ![8, 8, 1024]⟩
abbrev S8x4x1024 : Shape := ⟨3, ![8, 4, 1024]⟩
abbrev S8x4x8x128 : Shape := ⟨4, ![8, 4, 8, 128]⟩

abbrev nBuf : Space → Nat
  | .hbm => 24
  | .vmem => 10
  | .smem => 0
  | _ => 0

abbrev bufTy : (tb : Table) → Fin (tcTables nBuf tb) → BufTy
  | .hbm, ⟨0, _⟩ => ⟨S8x4x2048, .f32⟩
  | .hbm, ⟨1, _⟩ => ⟨S16x2048, .f32⟩
  | .hbm, ⟨2, _⟩ => ⟨S2048, .f32⟩
  | .hbm, ⟨3, _⟩ => ⟨S2048x6152, .f32⟩
  | .hbm, ⟨4, _⟩ => ⟨S_, .i32⟩
  | .hbm, ⟨5, _⟩ => ⟨S_, .f32⟩
  | .hbm, ⟨6, _⟩ => ⟨S8x8x2048, .f32⟩
  | .hbm, ⟨7, _⟩ => ⟨S64x2048, .f32⟩
  | .hbm, ⟨8, _⟩ => ⟨S80x2048, .f32⟩
  | .hbm, ⟨9, _⟩ => ⟨S2048x8, .f32⟩
  | .hbm, ⟨10, _⟩ => ⟨S_, .i32⟩
  | .hbm, ⟨11, _⟩ => ⟨S_, .f32⟩
  | .hbm, ⟨12, _⟩ => ⟨S2048x128, .f32⟩
  | .hbm, ⟨13, _⟩ => ⟨S2048x128, .bf16⟩
  | .hbm, ⟨14, _⟩ => ⟨S2048x128, .f32⟩
  | .hbm, ⟨15, _⟩ => ⟨S2048x128, .f32⟩
  | .hbm, ⟨16, _⟩ => ⟨S2048x128, .bf16⟩
  | .hbm, ⟨17, _⟩ => ⟨S1x2048, .f32⟩
  | .hbm, ⟨18, _⟩ => ⟨S80x6144, .f32⟩
  | .hbm, ⟨19, _⟩ => ⟨S80x128, .f32⟩
  | .hbm, ⟨20, _⟩ => ⟨S64x1024, .f32⟩
  | .hbm, ⟨21, _⟩ => ⟨S8x8x1024, .f32⟩
  | .hbm, ⟨22, _⟩ => ⟨S8x4x1024, .f32⟩
  | .hbm, ⟨23, _⟩ => ⟨S8x4x8x128, .f32⟩
  | .local _ .vmem, ⟨0, _⟩ => ⟨S80x2048, .f32⟩
  | .local _ .vmem, ⟨1, _⟩ => ⟨S1x2048, .f32⟩
  | .local _ .vmem, ⟨2, _⟩ => ⟨S2048x512, .f32⟩
  | .local _ .vmem, ⟨3, _⟩ => ⟨S2048x512, .f32⟩
  | .local _ .vmem, ⟨4, _⟩ => ⟨S2048x128, .bf16⟩
  | .local _ .vmem, ⟨5, _⟩ => ⟨S2048x128, .bf16⟩
  | .local _ .vmem, ⟨6, _⟩ => ⟨S80x512, .f32⟩
  | .local _ .vmem, ⟨7, _⟩ => ⟨S80x512, .f32⟩
  | .local _ .vmem, ⟨8, _⟩ => ⟨S80x128, .f32⟩
  | .local _ .vmem, ⟨9, _⟩ => ⟨S80x2048, .bf16⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_call1_v0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8

abbrev nD : Nat := 1
abbrev τ : Topo := Topo.v7x

variable {F : FTy → Type} [FloatOps F]

abbrev grid0 : Pipeline.Grid := ⟨2, ![1, 12], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S80x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S80x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S80x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, false]
-- ==== SProjRefIdeal.lean ====
abbrev S8x4x2048 : Shape := ⟨3, ![8, 4, 2048]⟩
abbrev S16x2048 : Shape := ⟨2, ![16, 2048]⟩
abbrev S2048 : Shape := ⟨1, ![2048]⟩
abbrev S2048x6152 : Shape := ⟨2, ![2048, 6152]⟩
abbrev S_ : Shape := ⟨0, ![]⟩
abbrev S8x8x2048 : Shape := ⟨3, ![8, 8, 2048]⟩
abbrev S64x2048 : Shape := ⟨2, ![64, 2048]⟩
abbrev S80x2048 : Shape := ⟨2, ![80, 2048]⟩
abbrev S80 : Shape := ⟨1, ![80]⟩
abbrev S80x1 : Shape := ⟨2, ![80, 1]⟩
abbrev S1x2048 : Shape := ⟨2, ![1, 2048]⟩
abbrev S80x6152 : Shape := ⟨2, ![80, 6152]⟩
abbrev S8x4 : Shape := ⟨2, ![8, 4]⟩
abbrev S8x4x1 : Shape := ⟨3, ![8, 4, 1]⟩
abbrev S1x1x2048 : Shape := ⟨3, ![1, 1, 2048]⟩
abbrev S8x4x6152 : Shape := ⟨3, ![8, 4, 6152]⟩
abbrev S8x4x1024 : Shape := ⟨3, ![8, 4, 1024]⟩
abbrev S8x4x8x128 : Shape := ⟨4, ![8, 4, 8, 128]⟩
abbrev S80x6144 : Shape := ⟨2, ![80, 6144]⟩
abbrev S80x8 : Shape := ⟨2, ![80, 8]⟩
abbrev S80x128 : Shape := ⟨2, ![80, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S16x2048, .f32⟩
  | .hbm, ⟨2, _⟩ => ⟨S2048, .f32⟩
  | .hbm, ⟨3, _⟩ => ⟨S2048x6152, .f32⟩
  | .hbm, ⟨4, _⟩ => ⟨S_, .i32⟩
  | .hbm, ⟨5, _⟩ => ⟨S_, .f32⟩
  | .hbm, ⟨6, _⟩ => ⟨S8x8x2048, .f32⟩
  | .hbm, ⟨7, _⟩ => ⟨S64x2048, .f32⟩
  | .hbm, ⟨8, _⟩ => ⟨S80x2048, .f32⟩
  | .hbm, ⟨9, _⟩ => ⟨S80x2048, .f32⟩
  | .hbm, ⟨10, _⟩ => ⟨S_, .f32⟩
  | .hbm, ⟨11, _⟩ => ⟨S80, .f32⟩
  | .hbm, ⟨12, _⟩ => ⟨S80x1, .f32⟩
  | .hbm, ⟨13, _⟩ => ⟨S_, .f32⟩
  | .hbm, ⟨14, _⟩ => ⟨S80x1, .f32⟩
  | .hbm, ⟨15, _⟩ => ⟨S80x1, .f32⟩
  | .hbm, ⟨16, _⟩ => ⟨S_, .f32⟩
  | .hbm, ⟨17, _⟩ => ⟨S80x1, .f32⟩
  | .hbm, ⟨18, _⟩ => ⟨S80x1, .f32⟩
  | .hbm, ⟨19, _⟩ => ⟨S80x1, .f32⟩
  | .hbm, ⟨20, _⟩ => ⟨S80x2048, .f32⟩
  | .hbm, ⟨21, _⟩ => ⟨S80x2048, .f32⟩
  | .hbm, ⟨22, _⟩ => ⟨S1x2048, .f32⟩
  | .hbm, ⟨23, _⟩ => ⟨S80x2048, .f32⟩
  | .hbm, ⟨24, _⟩ => ⟨S80x2048, .f32⟩
  | .hbm, ⟨25, _⟩ => ⟨S80x6152, .f32⟩
  | .hbm, ⟨26, _⟩ => ⟨S8x4x2048, .f32⟩
  | .hbm, ⟨27, _⟩ => ⟨S_, .f32⟩
  | .hbm, ⟨28, _⟩ => ⟨S8x4, .f32⟩
  | .hbm, ⟨29, _⟩ => ⟨S8x4x1, .f32⟩
  | .hbm, ⟨30, _⟩ => ⟨S_, .f32⟩
  | .hbm, ⟨31, _⟩ => ⟨S8x4x1, .f32⟩
  | .hbm, ⟨32, _⟩ => ⟨S8x4x1, .f32⟩
  | .hbm, ⟨33, _⟩ => ⟨S_, .f32⟩
  | .hbm, ⟨34, _⟩ => ⟨S8x4x1, .f32⟩
  | .hbm, ⟨35, _⟩ => ⟨S8x4x1, .f32⟩
  | .hbm, ⟨36, _⟩ => ⟨S8x4x1, .f32⟩
  | .hbm, ⟨37, _⟩ => ⟨S8x4x2048, .f32⟩
  | .hbm, ⟨38, _⟩ => ⟨S8x4x2048, .f32⟩
  | .hbm, ⟨39, _⟩ => ⟨S1x1x2048, .f32⟩
  | .hbm, ⟨40, _⟩ => ⟨S8x4x2048, .f32⟩
  | .hbm, ⟨41, _⟩ => ⟨S8x4x2048, .f32⟩
  | .hbm, ⟨42, _⟩ => ⟨S8x4x6152, .f32⟩
  | .hbm, ⟨43, _⟩ => ⟨S8x4x1024, .f32⟩
  | .hbm, ⟨44, _⟩ => ⟨S8x4x8x128, .f32⟩
  | .hbm, ⟨45, _⟩ => ⟨S80x6144, .f32⟩
  | .hbm, ⟨46, _⟩ => ⟨S80x8, .f32⟩
  | .hbm, ⟨47, _⟩ => ⟨S_, .i32⟩
  | .hbm, ⟨48, _⟩ => ⟨S_, .f32⟩
  | .hbm, ⟨49, _⟩ => ⟨S80x128, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_c_5 : Ref sig .tc := ⟨.hbm, 47, rfl⟩
abbrev main_call1_v0 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== SOutproj.lean ====
abbrev S8x4x2048 : Shape := ⟨3, ![8, 4, 2048]⟩
abbrev S16x2048 : Shape := ⟨2, ![16, 2048]⟩
abbrev S64x1024 : Shape := ⟨2, ![64, 1024]⟩
abbrev S2048x2048 : Shape := ⟨2, ![2048, 2048]⟩
abbrev S_ : Shape := ⟨0, ![]⟩
abbrev S8x8x2048 : Shape := ⟨3, ![8, 8, 2048]⟩
abbrev S64x2048 : Shape := ⟨2, ![64, 2048]⟩
abbrev S80x2048 : Shape := ⟨2, ![80, 2048]⟩
abbrev S1024x2048 : Shape := ⟨2, ![1024, 2048]⟩
abbrev S64x512 : Shape := ⟨2, ![64, 512]⟩
abbrev S1024x512 : Shape := ⟨2, ![1024, 512]⟩

abbrev nBuf : Space → Nat
  | .hbm => 14
  | .vmem => 10
  | .smem => 0
  | _ => 0

abbrev bufTy : (tb : Table) → Fin (tcTables nBuf tb) → BufTy
  | .hbm, ⟨0, _⟩ => ⟨S8x4x2048, .f32⟩
  | .hbm, ⟨1, _⟩ => ⟨S16x2048, .f32⟩
  | .hbm, ⟨2, _⟩ => ⟨S64x1024, .f32⟩
  | .hbm, ⟨3, _⟩ => ⟨S64x1024, .f32⟩
  | .hbm, ⟨4, _⟩ => ⟨S2048x2048, .f32⟩
  | .hbm, ⟨5, _⟩ => ⟨S_, .i32⟩
  | .hbm, ⟨6, _⟩ => ⟨S_, .f32⟩
  | .hbm, ⟨7, _⟩ => ⟨S8x8x2048, .f32⟩
  | .hbm, ⟨8, _⟩ => ⟨S64x2048, .f32⟩
  | .hbm, ⟨9, _⟩ => ⟨S80x2048, .f32⟩
  | .hbm, ⟨10, _⟩ => ⟨S1024x2048, .f32⟩
  | .hbm, ⟨11, _⟩ => ⟨S1024x2048, .f32⟩
  | .hbm, ⟨12, _⟩ => ⟨S64x2048, .f32⟩
  | .hbm, ⟨13, _⟩ => ⟨S64x2048, .f32⟩
  | .local _ .vmem, ⟨0, _⟩ => ⟨S64x512, .f32⟩
  | .local _ .vmem, ⟨1, _⟩ => ⟨S64x512, .f32⟩
  | .local _ .vmem, ⟨2, _⟩ => ⟨S64x1024, .f32⟩
  | .local _ .vmem, ⟨3, _⟩ => ⟨S64x1024, .f32⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S64x512, .f32⟩
  | .local _ .vmem, ⟨9, _⟩ => ⟨S64x512, .f32⟩
  | _, _ => ⟨S8x4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SOutprojRefIdeal.lean ====
abbrev S8x4x2048 : Shape := ⟨3, ![8, 4, 2048]⟩
abbrev S16x2048 : Shape := ⟨2, ![16, 2048]⟩
abbrev S64x1024 : Shape := ⟨2, ![64, 1024]⟩
abbrev S2048x2048 : Shape := ⟨2, ![2048, 2048]⟩
abbrev S_ : Shape := ⟨0, ![]⟩
abbrev S8x8x2048 : Shape := ⟨3, ![8, 8, 2048]⟩
abbrev S64x2048 : Shape := ⟨2, ![64, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x4x2048, .f32⟩
  | .hbm, ⟨1, _⟩ => ⟨S16x2048, .f32⟩
  | .hbm, ⟨2, _⟩ => ⟨S64x1024, .f32⟩
  | .hbm, ⟨3, _⟩ => ⟨S64x1024, .f32⟩
  | .hbm, ⟨4, _⟩ => ⟨S2048x2048, .f32⟩
  | .hbm, ⟨5, _⟩ => ⟨S_, .i32⟩
  | .hbm, ⟨6, _⟩ => ⟨S_, .f32⟩
  | .hbm, ⟨7, _⟩ => ⟨S8x8x2048, .f32⟩
  | .hbm, ⟨8, _⟩ => ⟨S64x2048, .f32⟩
  | .hbm, ⟨9, _⟩ => ⟨S64x2048, .f32⟩
  | .hbm, ⟨10, _⟩ => ⟨S64x2048, .f32⟩
  | .hbm, ⟨11, _⟩ => ⟨S64x2048, .f32⟩
  | _, _ => ⟨S8x4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩

abbrev nD : Nat := 1
abbrev τ : Topo := Topo.v7x

variable {F : FTy → Type} [FloatOps F]
-- ==== Proof.FfnValue.lean ====
module

public import proofs.«01_k».proof.Defs
public import proofs.«01_k».proof.Proof.Gen.FfnIdeal.Frame
public import proofs.«01_k».proof.Proof.Gen.FfnRefIdeal.Run
public import proofs.«01_k».proof.Proof.Gen.FfnRefIdeal
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.FfnIdeal.Value

open Cert.FfnIdeal Cert.FfnIdeal.Gen

variable (m : (ℓ : Loc nD τ sig) → Buf (Elt Ideal) ℓ)

/-- The reference's composed term: the residual plus the squared rectified up-projection of the normalised row, times the down weights. -/
def REF (X : FVec Ideal Cert.FfnRefIdeal.S8192x2048 .f32) (G : FVec Ideal Cert.FfnRefIdeal.S2048 .f32)
    (U : FVec Ideal Cert.FfnRefIdeal.S2048x8192 .f32) (D : FVec Ideal Cert.FfnRefIdeal.S8192x2048 .f32) : FVec Ideal Cert.FfnRefIdeal.S8192x2048 .f32 :=
  addf X (Host.dotGeneral Cert.FfnRefIdeal.dot_S8192x8192_S8192x2048_S8192x2048_1_0_0_1_n_n none (mulf (maximumf (Host.dotGeneral Cert.FfnRefIdeal.dot_S8192x2048_S2048x8192_S8192x8192_1_0_0_1_n_n none (mulf (mulf X (broadcastInDim Cert.FfnRefIdeal.S8192x2048 ![0, 1] Cert.FfnRefIdeal.Gen.bcast_S8192x1_S8192x2048_0_1 (Host.rsqrt (addf (Host.divf (broadcastInDim Cert.FfnRefIdeal.S8192x1 ![0] Cert.FfnRefIdeal.Gen.bcast_S8192_S8192x1_0 (Host.reduceAdd (mulf X X) (constant Cert.FfnRefIdeal.S_ .f32 0x00000000#32) Cert.FfnRefIdeal.Gen.reducesTo_S8192x2048_S8192_d1 Cert.FfnRefIdeal.Gen.h_S_)) (broadcastInDim Cert.FfnRefIdeal.S8192x1 ![] Cert.FfnRefIdeal.Gen.bcast_S_S8192x1 (constant Cert.FfnRefIdeal.S_ .f32 0x45000000#32))) (broadcastInDim Cert.FfnRefIdeal.S8192x1 ![] Cert.FfnRefIdeal.Gen.bcast_S_S8192x1 (constant Cert.FfnRefIdeal.S_ .f32 0x358637BD#32)))))) (broadcastInDim Cert.FfnRefIdeal.S8192x2048 ![0, 1] Cert.FfnRefIdeal.Gen.bcast_S1x2048_S8192x2048_0_1 (broadcastInDim Cert.FfnRefIdeal.S1x2048 ![1] Cert.FfnRefIdeal.Gen.bcast_S2048_S1x2048_1 G))) U) (broadcastInDim Cert.FfnRefIdeal.S8192x8192 ![] Cert.FfnRefIdeal.Gen.bcast_S_S8192x8192 (constant Cert.FfnRefIdeal.S_ .f32 0x00000000#32))) (maximumf (Host.dotGeneral Cert.FfnRefIdeal.dot_S8192x2048_S2048x8192_S8192x8192_1_0_0_1_n_n none (mulf (mulf X (broadcastInDim Cert.FfnRefIdeal.S8192x2048 ![0, 1] Cert.FfnRefIdeal.Gen.bcast_S8192x1_S8192x2048_0_1 (Host.rsqrt (addf (Host.divf (broadcastInDim Cert.FfnRefIdeal.S8192x1 ![0] Cert.FfnRefIdeal.Gen.bcast_S8192_S8192x1_0 (Host.reduceAdd (mulf X X) (constant Cert.FfnRefIdeal.S_ .f32 0x00000000#32) Cert.FfnRefIdeal.Gen.reducesTo_S8192x2048_S8192_d1 Cert.FfnRefIdeal.Gen.h_S_)) (broadcastInDim Cert.FfnRefIdeal.S8192x1 ![] Cert.FfnRefIdeal.Gen.bcast_S_S8192x1 (constant Cert.FfnRefIdeal.S_ .f32 0x45000000#32))) (broadcastInDim Cert.FfnRefIdeal.S8192x1 ![] Cert.FfnRefIdeal.Gen.bcast_S_S8192x1 (constant Cert.FfnRefIdeal.S_ .f32 0x358637BD#32)))))) (broadcastInDim Cert.FfnRefIdeal.S8192x2048 ![0, 1] Cert.FfnRefIdeal.Gen.bcast_S1x2048_S8192x2048_0_1 (broadcastInDim Cert.FfnRefIdeal.S1x2048 ![1] Cert.FfnRefIdeal.Gen.bcast_S2048_S1x2048_1 G))) U) (broadcastInDim Cert.FfnRefIdeal.S8192x8192 ![] Cert.FfnRefIdeal.Gen.bcast_S_S8192x8192 (constant Cert.FfnRefIdeal.S_ .f32 0x00000000#32)))) D)

/-- A row's normalised entry: the entry times the inverse root of the row's mean square, times the gain. -/
def normed (x g : Fin 2048 → EReal) (k : Fin 2048) : EReal :=
  x k * Ideal.rsqrt (Ideal.div (∑ l, x l * x l) (Ideal.ofBits .f32 1157627904#32) + Ideal.ofBits .f32 897988541#32) * g k

/-- One hidden unit's share of an output entry: the rectified up-projection, squared, times the unit's down weight. -/
def unit (n u : Fin 2048 → EReal) (d : EReal) : EReal := max (∑ l, n l * u l) 0 * max (∑ l, n l * u l) 0 * d

/-- The normalised block the first point of a run leaves in the scratch, at an index. -/
theorem pay1_at (x : FVec Ideal S1024x2048 .f32) (g : FVec Ideal S1x2048 .f32) (r : Fin 1024) (k : Fin 2048) :
    k0_pay1 (F := Ideal) x g (ix2 r k) = normed (fun l => x (ix2 r l)) (fun l => g (ix2 (0 : Fin 1) l)) k := by
  pointwise [k0_pay1, normed]

/-- A point's stored block at an index: what it found plus its 512 hidden units' shares. -/
theorem pay2_at (s : FVec Ideal S1024x2048 .bf16) (wu : FVec Ideal S2048x512 .f32) (a : FVec Ideal S1024x2048 .f32) (wd : FVec Ideal S512x2048 .f32) (r : Fin 1024) (k : Fin 2048) :
    k0_pay2 (F := Ideal) s wu a wd (ix2 r k)
      = a (ix2 r k) + ∑ h : Fin 512, unit (fun l => s (ix2 r l)) (fun l => wu (ix2 l h)) (wd (ix2 h k)) := by
  pointwise [k0_pay2, unit]

/-- The reference's term at an index: the residual plus all 8192 hidden units' shares. -/
theorem REF_at (X : FVec Ideal Cert.FfnRefIdeal.S8192x2048 .f32) (G : FVec Ideal Cert.FfnRefIdeal.S2048 .f32)
    (U : FVec Ideal Cert.FfnRefIdeal.S2048x8192 .f32) (D : FVec Ideal Cert.FfnRefIdeal.S8192x2048 .f32) (r : Fin 8192) (k : Fin 2048) :
    REF X G U D (ix2 r k) = X (ix2 r k)
      + ∑ h : Fin 8192, unit (normed (fun l => X (ix2 r l)) (fun l => G (ix1 l))) (fun l => U (ix2 l h)) (D (ix2 h k)) := by
  pointwise [REF, unit, normed]

/-- Which block of its array each window holds at each grid point. -/
theorem idx : ∀ t : Fin cfg0.N, win0_0.index t = ![t.val / 16, 0] ∧ win0_1.index t = ![0, 0]
    ∧ win0_2.index t = ![0, t.val % 16] ∧ win0_3.index t = ![t.val % 16, 0] ∧ win0_4.index t = ![t.val / 16, 0] ∧ t.val / 16 < 8 :=
  (by decide +kernel : ∀ t : Fin grid0.N, _)

/-- The gain's array as the region finds it: the argument as one row. -/
theorem V_v0 (c : Dev nD) (j : Fin 2048) : (V m c main_v0 : FVec Ideal S1x2048 .f32) (ix2 (0 : Fin 1) j)
    = m ((c : Thread nD τ).loc main_arg1) (ix1 j) := by
  entry_read
  pointwise []
  try rfl

/-- The residual's block at a point. -/
theorem iblk0 (c : Dev nD) (t : Fin cfg0.N) (r : Fin 1024) (k : Fin 2048) :
    iblk m c 0 t (ix2 r k) = m ((c : Thread nD τ).loc main_arg0) (ix2 (⟨t.val / 16 * 1024 + r, by have := (idx t).2.2.2.2.2; omega⟩ : Fin 8192) k) := by
  blk_ext [iblk, V_main_arg0, idx t]
/-- The gain's block at a point. -/
theorem iblk1 (c : Dev nD) (t : Fin cfg0.N) (k : Fin 2048) :
    iblk m c 1 t (ix2 (0 : Fin 1) k) = V m c main_v0 (ix2 (0 : Fin 1) k) := by
  blk_ext [iblk, idx t]
/-- The up weights' block at a point. -/
theorem iblk2 (c : Dev nD) (t : Fin cfg0.N) (r : Fin 2048) (k : Fin 512) :
    iblk m c 2 t (ix2 r k) = m ((c : Thread nD τ).loc main_arg2) (ix2 r (⟨t.val % 16 * 512 + k, by omega⟩ : Fin 8192)) := by
  blk_ext [iblk, V_main_arg2, idx t]
/-- The down weights' block at a point. -/
theorem iblk3 (c : Dev nD) (t : Fin cfg0.N) (r : Fin 512) (k : Fin 2048) :
    iblk m c 3 t (ix2 r k) = m ((c : Thread nD τ).loc main_arg3) (ix2 (⟨t.val % 16 * 512 + r, by omega⟩ : Fin 8192) k) := by
  blk_ext [iblk, V_main_arg3, idx t]

/-- The normalised row the reference uses for row `i`. -/
def row (c : Dev nD) (i : Fin 8192) : Fin 2048 → EReal :=
  normed (fun l => m ((c : Thread nD τ).loc main_arg0) (ix2 i l)) (fun l => m ((c : Thread nD τ).loc main_arg1) (ix1 l))

/-- The normalised block of a point, at an index: the reference's normalised row. -/
theorem norm_at (c : Dev nD) (t : Fin cfg0.N) (r : Fin 1024) (k : Fin 2048) :
    k0_pay1 (F := Ideal) (iblk m c 0 t) (iblk m c 1 t) (ix2 r k)
      = row m c (⟨t.val / 16 * 1024 + r, by have := (idx t).2.2.2.2.2; omega⟩ : Fin 8192) k := by
  refine (pay1_at _ _ r k).trans ?_
  unfold row
  exact congrArg₂ (fun a b => normed a b k) (funext fun l => iblk0 m c t r l)
    (funext fun l => (iblk1 m c t l).trans (V_v0 m c l))

/-- What the scratch holds after a point, at an index: the normalised block of the point's rows, whichever point of the
    run computed it. -/
theorem scratch_at (c : Dev nD) : ∀ (n : ℕ) (h : n < cfg0.N) (r : Fin 1024) (k : Fin 2048),
    (outsAt0 m c n h).2 (ix2 r k)
      = row m c (⟨n / 16 * 1024 + r, by have := (idx ⟨n, h⟩).2.2.2.2.2; dsimp only at this; omega⟩ : Fin 8192) k := by
  intro n
  induction n with
  | zero =>
    intro h r k
    rw [outsAt0_A m c ⟨0, h⟩ rfl]
    frame_out
    exact norm_at m c ⟨0, h⟩ r k
  | succ n ih =>
    intro h r k
    by_cases h0 : (n + 1) % 16 = 0
    · rw [outsAt0_A m c ⟨n + 1, h⟩ h0]
      frame_out
      exact norm_at m c ⟨n + 1, h⟩ r k
    · rw [outsAt0_B m c ⟨n + 1, h⟩ h0]
      frame_out
      refine (ih (by omega) r k).trans ?_
      exact congrArg (fun i : Fin 8192 => row m c i k) (Fin.ext (show n / 16 * 1024 + r.val = (n + 1) / 16 * 1024 + r.val by omega))

/-- The shares a point adds to an entry of its block. -/
def part (c : Dev nD) (t : Fin cfg0.N) (r : Fin 1024) (k : Fin 2048) : EReal :=
  ∑ h : Fin 512, unit (row m c (⟨t.val / 16 * 1024 + r, by have := (idx t).2.2.2.2.2; omega⟩ : Fin 8192))
    (fun l => m ((c : Thread nD τ).loc main_arg2) (ix2 l (⟨t.val % 16 * 512 + h, by omega⟩ : Fin 8192)))
    (m ((c : Thread nD τ).loc main_arg3) (ix2 (⟨t.val % 16 * 512 + h, by omega⟩ : Fin 8192) k))

/-- A point's stored block when the scratch holds the normalised rows: what it found plus its shares. -/
theorem step_at (c : Dev nD) (t : Fin cfg0.N) (s : FVec Ideal S1024x2048 .bf16) (a : FVec Ideal S1024x2048 .f32)
    (hs : ∀ r k, s (ix2 r k) = row m c (⟨t.val / 16 * 1024 + (r : Fin 1024).val, by have := (idx t).2.2.2.2.2; omega⟩ : Fin 8192) (k : Fin 2048))
    (r : Fin 1024) (k : Fin 2048) :
    k0_pay2 (F := Ideal) s (iblk m c 2 t) a (iblk m c 3 t) (ix2 r k) = a (ix2 r k) + part m c t r k := by
  refine (pay2_at _ _ _ _ r k).trans (congrArg _ (Fin.sum_fin_congr fun h => ?_))
  rw [funext fun l => hs r l, funext fun l => iblk2 m c t l h, iblk3 m c t h k]

/-- The residual's entry. -/
def X (c : Dev nD) (i : Fin 8192) (k : Fin 2048) : EReal := m ((c : Thread nD τ).loc main_arg0) (ix2 i k)

/-- What the output block holds after a point, at an index: the residual plus the shares of the run's points so far. -/
theorem out_at (c : Dev nD) : ∀ (n : ℕ) (h : n < cfg0.N) (r : Fin 1024) (k : Fin 2048),
    (outsAt0 m c n h).1 (ix2 r k)
      = X m c ⟨n / 16 * 1024 + r, by have := (idx ⟨n, h⟩).2.2.2.2.2; dsimp only at this; omega⟩ k
        + ∑ s : Fin (n % 16 + 1), part m c ⟨n / 16 * 16 + s, by omega⟩ r k := by
  have base : ∀ (t : Fin cfg0.N) (h0 : t.val % 16 = 0) (r : Fin 1024) (k : Fin 2048), (outsAt0 m c t.val t.isLt).1 (ix2 r k)
      = X m c ⟨t.val / 16 * 1024 + r, by have := (idx t).2.2.2.2.2; omega⟩ k
        + ∑ s : Fin (t.val % 16 + 1), part m c ⟨t.val / 16 * 16 + s, by omega⟩ r k := by
    intro t h0 r k
    rw [outsAt0_A m c t h0]
    frame_out
    refine (step_at m c t _ _ (fun r k => norm_at m c t r k) r k).trans ?_
    refine Ideal.add_congr (iblk0 m c t r k) ?_
    rw [Finset.sum_eq_single (⟨0, by omega⟩ : Fin (t.val % 16 + 1)) (fun b _ hb => (hb (Fin.ext (by omega))).elim) (fun h => (h (Finset.mem_univ _)).elim)]
    congr 1
    apply Fin.ext
    show t.val = t.val / 16 * 16 + 0
    omega
  intro n
  induction n with
  | zero => exact fun h r k => base ⟨0, h⟩ rfl r k
  | succ n ih =>
    intro h r k
    by_cases h0 : (n + 1) % 16 = 0
    · exact base ⟨n + 1, h⟩ h0 r k
    · rw [outsAt0_B m c ⟨n + 1, h⟩ h0]
      frame_out
      refine (step_at m c ⟨n + 1, h⟩ _ _ (fun r k => ?_) r k).trans ?_
      · rw [read_unread_whole]
        refine (scratch_at m c n (by omega) r k).trans ?_
        exact congrArg (fun i : Fin 8192 => row m c i k) (Fin.ext (show n / 16 * 1024 + r.val = (n + 1) / 16 * 1024 + r.val by omega))
      · refine (congrArg (· + _) (ih (by omega) r k)).trans ?_
        rw [add_assoc]
        refine Ideal.add_congr ?_ ?_
        · exact congrArg (fun i : Fin 8192 => X m c i k) (Fin.ext (show n / 16 * 1024 + r.val = (n + 1) / 16 * 1024 + r.val by omega))
        · have e : ∀ (a b : ℕ) (ha : a = b + 1) (f : (s : ℕ) → s < a → EReal),
              ∑ s : Fin a, f s.val s.isLt = ∑ s : Fin b, f s.val (by omega) + f b (by omega) := by
            intro a b ha f; subst ha; rw [Fin.sum_univ_castSucc]; rfl
          rw [e ((n + 1) % 16 + 1) (n % 16 + 1) (by omega) (fun s hs => part m c ⟨(n + 1) / 16 * 16 + s, by omega⟩ r k)]
          refine Ideal.add_congr (Finset.sum_congr rfl fun s _ => ?_) ?_
          · congr 1
            apply Fin.ext
            show n / 16 * 16 + s.val = (n + 1) / 16 * 16 + s.val
            omega
          · congr 1
            apply Fin.ext
            show n + 1 = (n + 1) / 16 * 16 + (n % 16 + 1)
            omega

/-- What a run's last point leaves in the output block, at an index: the reference's term at the index's place in the array. -/
theorem point (c : Dev nD) (t : Fin cfg0.N) (ht : t.val % 16 = 15) (r : Fin 1024) (k : Fin 2048) :
    (outsAt0 m c t.val t.isLt).1 (ix2 r k)
    = REF (m ((c : Thread nD τ).loc main_arg0)) (m ((c : Thread nD τ).loc main_arg1)) (m ((c : Thread nD τ).loc main_arg2))
        (m ((c : Thread nD τ).loc main_arg3)) (ix2 (⟨t.val / 16 * 1024 + r, by have := (idx t).2.2.2.2.2; omega⟩ : Fin 8192) k) := by
  rw [REF_at]
  refine (out_at m c t.val t.isLt r k).trans (congrArg _ ?_)
  rw [Fin.sum_univ_tiles 16 512 rfl]
  have e : ∀ (a b : ℕ) (ha : a = b) (f : (s : ℕ) → s < a → EReal),
      ∑ s : Fin a, f s.val s.isLt = ∑ s : Fin b, f s.val (by omega) := by
    intro a b ha f; subst ha; rfl
  rw [e (t.val % 16 + 1) 16 (by omega) (fun s hs => part m c ⟨t.val / 16 * 16 + s, by omega⟩ r k)]
  refine Finset.sum_congr rfl fun s _ => ?_
  unfold part
  refine Finset.sum_congr rfl fun h _ => ?_
  have e1 : (t.val / 16 * 16 + s.val) / 16 = t.val / 16 := by omega
  have e2 : (t.val / 16 * 16 + s.val) % 16 = s.val := by omega
  simp only [e1, e2]
  rfl

/-- The result array after the run is the reference's term. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  idx_vars y
  refine (point m c t ((flush0_4 t).mp hf) y0 y1).trans (congrArg _ ?_)
  blk_ext [idx t]

/-- The prompt group's feed-forward layer: the kernel's result is the reference's, for all arguments. -/
theorem algebraic : Cert.algebraic_FfnIdeal_FfnRefIdeal := by
  pair_intro
  · run_from Cert.FfnIdeal.Gen.run_main m g
  · run_from Cert.FfnRefIdeal.Value.run m' g'
    exact (final m c).symm

end Cert.FfnIdeal.Value

end
-- ==== Proof.SFfnValue.lean ====
module

public import proofs.«01_k».proof.Proof.FfnValue
public import proofs.«01_k».proof.Proof.Gen.SFfnIdeal.Frame
public import proofs.«01_k».proof.Proof.Gen.SFfnRefIdeal.Run
public import proofs.«01_k».proof.Proof.Gen.SFfnRefIdeal

@[expose] public section

set_option maxRecDepth 16384

noncomputable section

open Idealize.ShloMosaic Idealize.ShloMosaic.TcCoe Idealize.SL.Sem
open Idealize.ShloMosaic.Pipeline (Dat)

namespace Cert.SFfnIdeal.Value

open Cert.SFfnIdeal Cert.SFfnIdeal.Gen
open Cert.FfnIdeal.Value (normed unit)

variable (m : (ℓ : Loc nD τ sig) → Buf (Elt Ideal) ℓ)

/-- The reference's composed term, over the sample group's 64 rows. -/
def REF (X : FVec Ideal Cert.SFfnRefIdeal.S64x2048 .f32) (G : FVec Ideal Cert.SFfnRefIdeal.S2048 .f32)
    (U : FVec Ideal Cert.SFfnRefIdeal.S2048x8192 .f32) (D : FVec Ideal Cert.SFfnRefIdeal.S8192x2048 .f32) : FVec Ideal Cert.SFfnRefIdeal.S64x2048 .f32 :=
  addf X (Host.dotGeneral Cert.SFfnRefIdeal.dot_S64x8192_S8192x2048_S64x2048_1_0_0_1_n_n none (mulf (maximumf (Host.dotGeneral Cert.SFfnRefIdeal.dot_S64x2048_S2048x8192_S64x8192_1_0_0_1_n_n none (mulf (mulf X (broadcastInDim Cert.SFfnRefIdeal.S64x2048 ![0, 1] Cert.SFfnRefIdeal.Gen.bcast_S64x1_S64x2048_0_1 (Host.rsqrt (addf (Host.divf (broadcastInDim Cert.SFfnRefIdeal.S64x1 ![0] Cert.SFfnRefIdeal.Gen.bcast_S64_S64x1_0 (Host.reduceAdd (mulf X X) (constant Cert.SFfnRefIdeal.S_ .f32 0x00000000#32) Cert.SFfnRefIdeal.Gen.reducesTo_S64x2048_S64_d1 Cert.SFfnRefIdeal.Gen.h_S_)) (broadcastInDim Cert.SFfnRefIdeal.S64x1 ![] Cert.SFfnRefIdeal.Gen.bcast_S_S64x1 (constant Cert.SFfnRefIdeal.S_ .f32 0x45000000#32))) (broadcastInDim Cert.SFfnRefIdeal.S64x1 ![] Cert.SFfnRefIdeal.Gen.bcast_S_S64x1 (constant Cert.SFfnRefIdeal.S_ .f32 0x358637BD#32)))))) (broadcastInDim Cert.SFfnRefIdeal.S64x2048 ![0, 1] Cert.SFfnRefIdeal.Gen.bcast_S1x2048_S64x2048_0_1 (broadcastInDim Cert.SFfnRefIdeal.S1x2048 ![1] Cert.SFfnRefIdeal.Gen.bcast_S2048_S1x2048_1 G))) U) (broadcastInDim Cert.SFfnRefIdeal.S64x8192 ![] Cert.SFfnRefIdeal.Gen.bcast_S_S64x8192 (constant Cert.SFfnRefIdeal.S_ .f32 0x00000000#32))) (maximumf (Host.dotGeneral Cert.SFfnRefIdeal.dot_S64x2048_S2048x8192_S64x8192_1_0_0_1_n_n none (mulf (mulf X (broadcastInDim Cert.SFfnRefIdeal.S64x2048 ![0, 1] Cert.SFfnRefIdeal.Gen.bcast_S64x1_S64x2048_0_1 (Host.rsqrt (addf (Host.divf (broadcastInDim Cert.SFfnRefIdeal.S64x1 ![0] Cert.SFfnRefIdeal.Gen.bcast_S64_S64x1_0 (Host.reduceAdd (mulf X X) (constant Cert.SFfnRefIdeal.S_ .f32 0x00000000#32) Cert.SFfnRefIdeal.Gen.reducesTo_S64x2048_S64_d1 Cert.SFfnRefIdeal.Gen.h_S_)) (broadcastInDim Cert.SFfnRefIdeal.S64x1 ![] Cert.SFfnRefIdeal.Gen.bcast_S_S64x1 (constant Cert.SFfnRefIdeal.S_ .f32 0x45000000#32))) (broadcastInDim Cert.SFfnRefIdeal.S64x1 ![] Cert.SFfnRefIdeal.Gen.bcast_S_S64x1 (constant Cert.SFfnRefIdeal.S_ .f32 0x358637BD#32)))))) (broadcastInDim Cert.SFfnRefIdeal.S64x2048 ![0, 1] Cert.SFfnRefIdeal.Gen.bcast_S1x2048_S64x2048_0_1 (broadcastInDim Cert.SFfnRefIdeal.S1x2048 ![1] Cert.SFfnRefIdeal.Gen.bcast_S2048_S1x2048_1 G))) U) (broadcastInDim Cert.SFfnRefIdeal.S64x8192 ![] Cert.SFfnRefIdeal.Gen.bcast_S_S64x8192 (constant Cert.SFfnRefIdeal.S_ .f32 0x00000000#32)))) D)

/-- The reference's term at an index: the residual plus all 8192 hidden units' shares. -/
theorem REF_at (X : FVec Ideal Cert.SFfnRefIdeal.S64x2048 .f32) (G : FVec Ideal Cert.SFfnRefIdeal.S2048 .f32)
    (U : FVec Ideal Cert.SFfnRefIdeal.S2048x8192 .f32) (D : FVec Ideal Cert.SFfnRefIdeal.S8192x2048 .f32) (r : Fin 64) (k : Fin 2048) :
    REF X G U D (ix2 r k) = X (ix2 r k)
      + ∑ h : Fin 8192, unit (normed (fun l => X (ix2 r l)) (fun l => G (ix1 l))) (fun l => U (ix2 l h)) (D (ix2 h k)) := by
  pointwise [REF, unit, normed]

/-- The normalised block at an index. -/
theorem pay1_at (x : FVec Ideal S64x2048 .f32) (g : FVec Ideal S1x2048 .f32) (r : Fin 64) (k : Fin 2048) :
    k0_pay1 (F := Ideal) x g (ix2 r k) = normed (fun l => x (ix2 r l)) (fun l => g (ix2 (0 : Fin 1) l)) k := by
  pointwise [k0_pay1, normed]

/-- A point's stored block at an index: what it found plus its 512 hidden units' shares. -/
theorem pay2_at (s : FVec Ideal S64x2048 .bf16) (wu : FVec Ideal S2048x512 .f32) (a : FVec Ideal S64x2048 .f32) (wd : FVec Ideal S512x2048 .f32) (r : Fin 64) (k : Fin 2048) :
    k0_pay2 (F := Ideal) s wu a wd (ix2 r k)
      = a (ix2 r k) + ∑ h : Fin 512, unit (fun l => s (ix2 r l)) (fun l => wu (ix2 l h)) (wd (ix2 h k)) := by
  pointwise [k0_pay2, unit]

/-- Which block of its array each window holds at each grid point: the rows are one block, kept over all 16 points. -/
theorem idx : ∀ t : Fin cfg0.N, win0_0.index t = ![0, 0] ∧ win0_1.index t = ![0, 0]
    ∧ win0_2.index t = ![0, t.val] ∧ win0_3.index t = ![t.val, 0] ∧ win0_4.index t = ![0, 0] ∧ t.val < 16 :=
  (by decide +kernel : ∀ t : Fin grid0.N, _)

/-- The gain's array as the region finds it: the argument as one row. -/
theorem V_v0 (c : Dev nD) (j : Fin 2048) : (V m c main_v0 : FVec Ideal S1x2048 .f32) (ix2 (0 : Fin 1) j)
    = m ((c : Thread nD τ).loc main_arg1) (ix1 j) := by
  entry_read
  pointwise []
  try rfl

/-- The residual's entry. -/
def X (c : Dev nD) (i : Fin 64) (k : Fin 2048) : EReal := m ((c : Thread nD τ).loc main_arg0) (ix2 i k)

/-- The residual's block at a point: the whole array. -/
theorem iblk0 (c : Dev nD) (t : Fin cfg0.N) (r : Fin 64) (k : Fin 2048) : iblk m c 0 t (ix2 r k) = X m c r k := by
  unfold X
  blk_ext [iblk, V_main_arg0, idx t]
/-- The gain's block at a point. -/
theorem iblk1 (c : Dev nD) (t : Fin cfg0.N) (k : Fin 2048) :
    iblk m c 1 t (ix2 (0 : Fin 1) k) = V m c main_v0 (ix2 (0 : Fin 1) k) := by
  blk_ext [iblk, idx t]
/-- The up weights' block at a point. -/
theorem iblk2 (c : Dev nD) (t : Fin cfg0.N) (r : Fin 2048) (k : Fin 512) :
    iblk m c 2 t (ix2 r k) = m ((c : Thread nD τ).loc main_arg2) (ix2 r (⟨t.val * 512 + k, by have := (idx t).2.2.2.2.2; omega⟩ : Fin 8192)) := by
  blk_ext [iblk, V_main_arg2, idx t]
/-- The down weights' block at a point. -/
theorem iblk3 (c : Dev nD) (t : Fin cfg0.N) (r : Fin 512) (k : Fin 2048) :
    iblk m c 3 t (ix2 r k) = m ((c : Thread nD τ).loc main_arg3) (ix2 (⟨t.val * 512 + r, by have := (idx t).2.2.2.2.2; omega⟩ : Fin 8192) k) := by
  blk_ext [iblk, V_main_arg3, idx t]

/-- The normalised row the reference uses for row `i`. -/
def row (c : Dev nD) (i : Fin 64) : Fin 2048 → EReal :=
  normed (X m c i) (fun l => m ((c : Thread nD τ).loc main_arg1) (ix1 l))

/-- The normalised block of a point, at an index: the reference's normalised row. -/
theorem norm_at (c : Dev nD) (t : Fin cfg0.N) (r : Fin 64) (k : Fin 2048) :
    k0_pay1 (F := Ideal) (iblk m c 0 t) (iblk m c 1 t) (ix2 r k) = row m c r k :=
  (pay1_at _ _ r k).trans (congrArg₂ (fun a b => normed a b k) (funext fun l => iblk0 m c t r l)
    (funext fun l => (iblk1 m c t l).trans (V_v0 m c l)))

/-- The share of hidden unit `h` in an entry. -/
def share (c : Dev nD) (r : Fin 64) (k : Fin 2048) (h : Fin 8192) : EReal :=
  unit (row m c r) (fun l => m ((c : Thread nD τ).loc main_arg2) (ix2 l h)) (m ((c : Thread nD τ).loc main_arg3) (ix2 h k))

/-- A point's stored block when the scratch holds the normalised rows: what it found plus its units' shares. -/
theorem step_at (c : Dev nD) (t : Fin cfg0.N) (s : FVec Ideal S64x2048 .bf16) (a : FVec Ideal S64x2048 .f32)
    (hs : ∀ r k, s (ix2 r k) = row m c (r : Fin 64) (k : Fin 2048)) (r : Fin 64) (k : Fin 2048) :
    k0_pay2 (F := Ideal) s (iblk m c 2 t) a (iblk m c 3 t) (ix2 r k)
      = a (ix2 r k) + ∑ h : Fin 512, share m c r k ⟨t.val * 512 + h, by have := (idx t).2.2.2.2.2; omega⟩ := by
  refine (pay2_at _ _ _ _ r k).trans (congrArg _ (Fin.sum_fin_congr fun h => ?_))
  rw [funext fun l => hs r l, funext fun l => iblk2 m c t l h, iblk3 m c t h k]
  rfl

/-- What a point leaves, at an index: the normalised rows in the scratch; in the output block the residual plus the shares
    of the points so far. -/
theorem left_at (c : Dev nD) : ∀ (n : ℕ) (h : n < cfg0.N) (r : Fin 64) (k : Fin 2048),
    (outsAt0 m c n h).2 (ix2 r k) = row m c r k
    ∧ (outsAt0 m c n h).1 (ix2 r k) = X m c r k
        + ∑ s : Fin (n + 1), ∑ j : Fin 512, share m c r k ⟨s.val * 512 + j, by have := (idx ⟨n, h⟩).2.2.2.2.2; dsimp only at this; omega⟩ := by
  intro n
  induction n with
  | zero =>
    intro h r k
    rw [outsAt0_A m c ⟨0, h⟩ rfl]
    constructor
    · frame_out
      exact norm_at m c ⟨0, h⟩ r k
    · frame_out
      refine (step_at m c ⟨0, h⟩ _ _ (fun r k => norm_at m c ⟨0, h⟩ r k) r k).trans ?_
      rw [Fin.sum_univ_one]
      exact Ideal.add_congr (iblk0 m c ⟨0, h⟩ r k) rfl
  | succ n ih =>
    intro h r k
    have hn : ¬(n + 1) % 16 = 0 := by have := (idx ⟨n + 1, h⟩).2.2.2.2.2; dsimp only at this; omega
    rw [outsAt0_B m c ⟨n + 1, h⟩ hn]
    constructor
    · frame_out
      exact (ih (by omega) r k).1
    · frame_out
      refine (step_at m c ⟨n + 1, h⟩ _ _ (fun r k => ?_) r k).trans ?_
      · rw [read_unread_whole]
        exact (ih (by omega) r k).1
      · rw [Fin.sum_univ_castSucc (n := n + 1), ← add_assoc]
        exact Ideal.add_congr (ih (by omega) r k).2 rfl

/-- What the last point leaves in the output block, at an index: the reference's term there. -/
theorem point (c : Dev nD) (t : Fin cfg0.N) (ht : t.val % 16 = 15) (r : Fin 64) (k : Fin 2048) :
    (outsAt0 m c t.val t.isLt).1 (ix2 r k)
    = REF (m ((c : Thread nD τ).loc main_arg0)) (m ((c : Thread nD τ).loc main_arg1)) (m ((c : Thread nD τ).loc main_arg2))
        (m ((c : Thread nD τ).loc main_arg3)) (ix2 r k) := by
  obtain ⟨n, hn⟩ := t
  obtain rfl : n = 15 := by have := (idx ⟨n, hn⟩).2.2.2.2.2; dsimp only at this ht; omega
  rw [REF_at]
  refine (left_at m c 15 hn r k).2.trans (congrArg _ ?_)
  rw [Fin.sum_univ_tiles 16 512 rfl]
  rfl

/-- The result array after the run is the reference's term. -/
theorem final (c : Dev nD) : (dats m 0 c).arrAt 4 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t hf y => ?_
  blk_simp
  rw [after0_4]
  idx_vars y
  refine (point m c t ((flush0_4 t).mp hf) y0 y1).trans (congrArg _ ?_)
  blk_ext [idx t]

/-- The sample group's feed-forward layer: the kernel's result is the reference's, for all arguments. -/
theorem algebraic : Cert.algebraic_SFfnIdeal_SFfnRefIdeal := by
  pair_intro
  · run_from Cert.SFfnIdeal.Gen.run_main m g
  · run_from Cert.SFfnRefIdeal.Value.run m' g'
    exact (final m c).symm

end Cert.SFfnIdeal.Value

end
-- ==== Proof.MlstmForm.lean ====
module

public import Idealize.ShloMosaic.Lib.Pipeline.ValueKit
public import Idealize.ShloMosaic.Lib.Pointwise
public import Idealize.ShloMosaic.Lib.Claim

@[expose] public section

noncomputable section

open Idealize.ShloMosaic

/-! The mLSTM chunk of one head over `L` tokens, in extended reals, and the fact that a chunk padded with closed tokens
    (log forget gate 0, input gate −∞) computes what the chunk of the real tokens computes. -/

namespace Cert.Mlstm

variable {L : ℕ}

/-- The cumulative log forget gate up to and including a token. -/
def cum (lf : Fin L → EReal) (t : Fin L) : EReal := ∑ s, if s ≤ t then lf s else 0

/-- The log weight of token `s` at token `t`: −∞ for a later token. -/
def gap (lf ig : Fin L → EReal) (t s : Fin L) : EReal := if s ≤ t then cum lf t - cum lf s + ig s else ⊥

/-- The running maximum of a token: the greatest of the carried weight and its tokens' weights. -/
def stab (lf ig : Fin L → EReal) (m0 : EReal) (t : Fin L) : EReal :=
  max (cum lf t + m0) (Finset.fold max ⊥ (fun s => gap lf ig t s) Finset.univ)

/-- The weight of the carried state at a token. -/
def carry (lf ig : Fin L → EReal) (m0 : EReal) (t : Fin L) : EReal := Ideal.exp (cum lf t + m0 - stab lf ig m0 t)

/-- The weighted score of token `s` at token `t`. -/
def score (lf ig : Fin L → EReal) (m0 : EReal) (q k : Fin L → Fin 256 → EReal) (t s : Fin L) : EReal :=
  (∑ j, q t j * k s j) * Ideal.exp (gap lf ig t s - stab lf ig m0 t)

/-- A token's output: the weighted values over the greater of the normaliser's size and the stabiliser's inverse. -/
def head (lf ig : Fin L → EReal) (m0 : EReal) (q k v : Fin L → Fin 256 → EReal) (C0 : Fin 256 → Fin 256 → EReal)
    (n0 : Fin 256 → EReal) (t : Fin L) (e : Fin 256) : EReal :=
  Ideal.div (carry lf ig m0 t * (∑ j, q t j * C0 j e) + ∑ s, score lf ig m0 q k t s * v s e)
    (max (FloatOps.absf (F := Ideal) (φ := .f32) (carry lf ig m0 t * (∑ j, q t j * n0 j) + ∑ s, score lf ig m0 q k t s))
      (Ideal.exp (-stab lf ig m0 t)))

/-- A token's share in the state at token `z`, the last one. -/
def share (lf ig : Fin L → EReal) (m0 : EReal) (z s : Fin L) : EReal :=
  Ideal.exp (cum lf z - cum lf s + ig s - stab lf ig m0 z)

/-- The matrix memory after token `z`, the last one. -/
def newC (lf ig : Fin L → EReal) (m0 : EReal) (k v : Fin L → Fin 256 → EReal) (C0 : Fin 256 → Fin 256 → EReal)
    (z : Fin L) (d e : Fin 256) : EReal :=
  carry lf ig m0 z * C0 d e + ∑ s, k s d * share lf ig m0 z s * v s e

/-- The normaliser after token `z`, the last one. -/
def newn (lf ig : Fin L → EReal) (m0 : EReal) (k : Fin L → Fin 256 → EReal) (n0 : Fin 256 → EReal)
    (z : Fin L) (d : Fin 256) : EReal :=
  carry lf ig m0 z * n0 d + ∑ s, k s d * share lf ig m0 z s

/-- A real token's place in the padded chunk. -/
abbrev up (t : Fin 4) : Fin 256 := ⟨t.val, by omega⟩

/-- A sum over the padded chunk whose padding terms vanish is the sum over the real tokens. -/
theorem sum_pad (f : Fin 256 → EReal) (h : ∀ s : Fin 256, 4 ≤ s.val → f s = 0) : ∑ s, f s = ∑ s : Fin 4, f (up s) := by
  refine (Fin.sum_univ_add (a := 4) (b := 252) f).trans ?_
  rw [Finset.sum_eq_zero (s := Finset.univ) (f := fun i : Fin 252 => f (Fin.natAdd 4 i)) fun i _ => h _ (by simp), add_zero]
  rfl

theorem bot_sub' (x : EReal) : ⊥ - x = (⊥ : EReal) := by rw [sub_eq_add_neg, EReal.bot_add]

section Pad

variable {lf ig : Fin 4 → EReal} {LF IG : Fin 256 → EReal} (hlf : ∀ s, LF (up s) = lf s) (hig : ∀ s, IG (up s) = ig s)
  (zlf : ∀ s : Fin 256, 4 ≤ s.val → LF s = 0) (zig : ∀ s : Fin 256, 4 ≤ s.val → IG s = ⊥) (m0 : EReal)
include hlf zlf

theorem cum_pad (t : Fin 4) : cum LF (up t) = cum lf t := by
  unfold cum
  rw [sum_pad _ fun s h => by rw [zlf s h, ite_self]]
  exact Finset.sum_congr rfl fun s _ => by rw [hlf]; rfl

theorem cum_last (z : Fin 256) (hz : 4 ≤ z.val) : cum LF z = cum lf 3 := by
  unfold cum
  rw [sum_pad _ fun s h => by rw [zlf s h, ite_self]]
  refine Finset.sum_congr rfl fun s _ => ?_
  rw [hlf, if_pos (show up s ≤ z from Fin.le_def.2 (by show s.val ≤ z.val; omega)), if_pos (show s ≤ 3 from Fin.le_def.2 (by show s.val ≤ 3; omega))]

include hig zig

theorem gap_pad (t s : Fin 4) : gap LF IG (up t) (up s) = gap lf ig t s := by
  unfold gap
  rw [cum_pad hlf zlf, cum_pad hlf zlf, hig]; rfl

theorem gap_last (z : Fin 256) (hz : 4 ≤ z.val) (s : Fin 4) : gap LF IG z (up s) = gap lf ig 3 s := by
  unfold gap
  rw [cum_last hlf zlf z hz, cum_pad hlf zlf, hig, if_pos (show up s ≤ z from Fin.le_def.2 (by show s.val ≤ z.val; omega)), if_pos (show s ≤ 3 from Fin.le_def.2 (by show s.val ≤ 3; omega))]

omit hlf zlf hig in
theorem gap_bot (t s : Fin 256) (hs : 4 ≤ s.val) : gap LF IG t s = ⊥ := by
  unfold gap
  rw [zig s hs, EReal.add_bot, ite_self]

omit hlf zlf hig zig in
theorem fold_pad (F : Fin 256 → EReal) (f : Fin 4 → EReal) (h : ∀ s, F (up s) = f s) (z : ∀ s : Fin 256, 4 ≤ s.val → F s = ⊥) :
    Finset.fold max ⊥ F Finset.univ = Finset.fold max ⊥ f Finset.univ := by
  show Finset.univ.sup F = Finset.univ.sup f
  refine le_antisymm (Finset.sup_le fun s _ => ?_) (Finset.sup_le fun s _ => ?_)
  · by_cases hs : 4 ≤ s.val
    · rw [z s hs]; exact bot_le
    · have e : s = up ⟨s.val, by omega⟩ := rfl
      rw [e, h]; exact Finset.le_sup (f := f) (Finset.mem_univ _)
  · rw [← h]; exact Finset.le_sup (f := F) (Finset.mem_univ _)

theorem stab_pad (t : Fin 4) : stab LF IG m0 (up t) = stab lf ig m0 t := by
  unfold stab
  rw [cum_pad hlf zlf, fold_pad _ _ (fun s => gap_pad hlf hig zlf zig t s) fun s hs => gap_bot zig _ s hs]

theorem stab_last (z : Fin 256) (hz : 4 ≤ z.val) : stab LF IG m0 z = stab lf ig m0 3 := by
  unfold stab
  rw [cum_last hlf zlf z hz, fold_pad _ _ (fun s => gap_last hlf hig zlf zig z hz s) fun s hs => gap_bot zig _ s hs]

theorem carry_pad (t : Fin 4) : carry LF IG m0 (up t) = carry lf ig m0 t := by
  unfold carry
  rw [cum_pad hlf zlf, stab_pad hlf hig zlf zig]

theorem carry_last (z : Fin 256) (hz : 4 ≤ z.val) : carry LF IG m0 z = carry lf ig m0 3 := by
  unfold carry
  rw [cum_last hlf zlf z hz, stab_last hlf hig zlf zig m0 z hz]

theorem share_last (z : Fin 256) (hz : 4 ≤ z.val) (s : Fin 4) : share LF IG m0 z (up s) = share lf ig m0 3 s := by
  unfold share
  rw [cum_last hlf zlf z hz, cum_pad hlf zlf, hig, stab_last hlf hig zlf zig m0 z hz]

omit hlf zlf hig in
theorem share_zero (z s : Fin 256) (hs : 4 ≤ s.val) : share LF IG m0 z s = 0 := by
  unfold share
  rw [zig s hs, EReal.add_bot, bot_sub']
  exact Ideal.exp_bot

variable {q k v : Fin 4 → Fin 256 → EReal} {Q K V : Fin 256 → Fin 256 → EReal} (hq : ∀ s, Q (up s) = q s) (hk : ∀ s, K (up s) = k s)
  (hv : ∀ s, V (up s) = v s)

omit hlf zlf hig in
theorem score_zero (t s : Fin 256) (hs : 4 ≤ s.val) : score LF IG m0 Q K t s = 0 := by
  unfold score
  rw [gap_bot zig _ s hs, bot_sub', Ideal.exp_bot, mul_zero]

include hq hk in
theorem score_pad (t s : Fin 4) : score LF IG m0 Q K (up t) (up s) = score lf ig m0 q k t s := by
  unfold score
  rw [gap_pad hlf hig zlf zig, stab_pad hlf hig zlf zig, hq, hk]

include hq hk hv in
/-- A real token's output is the same in the padded chunk. -/
theorem head_pad (C0 : Fin 256 → Fin 256 → EReal) (n0 : Fin 256 → EReal) (t : Fin 4) (e : Fin 256) :
    head LF IG m0 Q K V C0 n0 (up t) e = head lf ig m0 q k v C0 n0 t e := by
  unfold head
  rw [sum_pad (fun s => score LF IG m0 Q K (up t) s * V s e) fun s hs => by rw [score_zero zig m0 _ s hs, zero_mul],
    sum_pad (fun s => score LF IG m0 Q K (up t) s) fun s hs => score_zero zig m0 _ s hs]
  simp only [carry_pad hlf hig zlf zig, stab_pad hlf hig zlf zig, score_pad hlf hig zlf zig m0 hq hk, hq, hv]

include hk hv in
/-- The matrix memory after the padded chunk is the one after the real tokens. -/
theorem newC_pad (C0 : Fin 256 → Fin 256 → EReal) (z : Fin 256) (hz : 4 ≤ z.val) (d e : Fin 256) :
    newC LF IG m0 K V C0 z d e = newC lf ig m0 k v C0 3 d e := by
  unfold newC
  rw [sum_pad (fun s => K s d * share LF IG m0 z s * V s e) fun s hs => by rw [share_zero zig m0 z s hs, mul_zero, zero_mul]]
  simp only [carry_last hlf hig zlf zig m0 z hz, share_last hlf hig zlf zig m0 z hz, hk, hv]

include hk in
/-- The normaliser after the padded chunk is the one after the real tokens. -/
theorem newn_pad (n0 : Fin 256 → EReal) (z : Fin 256) (hz : 4 ≤ z.val) (d : Fin 256) :
    newn LF IG m0 K n0 z d = newn lf ig m0 k n0 3 d := by
  unfold newn
  rw [sum_pad (fun s => K s d * share LF IG m0 z s) fun s hs => by rw [share_zero zig m0 z s hs, mul_zero]]
  simp only [carry_last hlf hig zlf zig m0 z hz, share_last hlf hig zlf zig m0 z hz, hk]

end Pad

end Cert.Mlstm

end
-- ==== Proof.MlstmPay.lean ====
module

public import proofs.«01_k».proof.Defs
public import proofs.«01_k».proof.Proof.MlstmForm
public import proofs.«01_k».proof.Proof.Gen.KernelIdeal.Skeleton
public import Idealize.ShloMosaic.Lib.Pipeline.ValueKit
public import Idealize.ShloMosaic.Lib.Pointwise
public import Idealize.ShloMosaic.Lib.WordCmp
public import Idealize.ShloMosaic.Lib.Claim

@[expose] public section

set_option maxRecDepth 16384

noncomputable section

open Idealize.ShloMosaic Idealize.ShloMosaic.TcCoe Idealize.SL.Sem

/-! The decoding step's stored terms at an index, over any blocks: the chunk formulas of MlstmForm.lean at 256 tokens. -/

namespace Cert.KernelIdeal.Value

open Cert.KernelIdeal Cert.KernelIdeal.Gen Cert.Mlstm

/-- A selection by the order of two small counters is the case distinction. -/
theorem sel_sle {n : ℕ} (hn : n ≤ 256) (s t : Fin n) (a b : EReal) :
    Scalar.select (IntOp.cmpi CmpIPredicate.sle (BitVec.ofNat 32 s.val) (BitVec.ofNat 32 t.val)) a b = if s ≤ t then a else b := by
  rw [WordCmp.cmpi_sle_ofNat (by omega) (by omega)]
  by_cases h : s ≤ t
  · rw [if_pos h, decide_eq_true (show s.val ≤ t.val from h)]; rfl
  · rw [if_neg h, decide_eq_false (show ¬ s.val ≤ t.val from h)]; rfl

/-- A selection by the equality of two small counters is the case distinction. -/
theorem sel_eq {n k : ℕ} (hn : n ≤ 256) (s : Fin n) (hk : k ≤ 256) (a b : EReal) :
    Scalar.select (IntOp.cmpi CmpIPredicate.eq (BitVec.ofNat 32 s.val) (BitVec.ofNat 32 k)) a b = if s.val = k then a else b := by
  rw [WordCmp.cmpi_eq_ofNat (by omega) (by omega)]
  by_cases h : s.val = k
  · rw [if_pos h, decide_eq_true h]; rfl
  · rw [if_neg h, decide_eq_false h]; rfl

/-- A selection of the counters below 4 is the case distinction. -/
theorem sel_lt4 (s : Fin 8) (a b : EReal) :
    Scalar.select (IntOp.cmpi CmpIPredicate.slt (BitVec.ofNat 32 s.val) 4#32) a b = if s.val < 4 then a else b := by
  rw [WordCmp.cmpi_slt_ofNat (a := s.val) (b := 4) (by omega) (by omega)]
  by_cases h : s.val < 4
  · rw [if_pos h, decide_eq_true h]; rfl
  · rw [if_neg h, decide_eq_false h]; rfl

/-- The named mask is −∞. -/
theorem mask_val : (Named.named κ "mask" 0xF149F2CA#32 : Ideal .f32) = ⊥ :=
  IdealRules.named_const.ideal_named_scalar _ _ _ _ rfl

/-- The word of −∞ is −∞. -/
theorem neginf_val : Ideal.ofBits .f32 0xFF800000#32 = ⊥ := by
  simp [Ideal.ofBits, Ideal.ieee]

/-- A column read as a function of its row. -/
abbrev col (x : FVec Ideal S256x1 .f32) : Fin 256 → EReal := fun s => x (ix2 s (0 : Fin 1))
/-- A matrix read as a function of its row and column. -/
abbrev mat (x : FVec Ideal S256x256 .bf16) : Fin 256 → Fin 256 → EReal := fun s d => x (ix2 s d)

theorem pay30_at (ig : FVec Ideal S256x1 .f32) (s : Fin 256) :
    k0_pay30 (F := Ideal) ig (ix2 (0 : Fin 1) s) = col ig s := by
  pointwise [k0_pay30, k0_pay28]
  simp only [sel_eq (n := 256) (le_refl _) _ (Nat.le_of_lt s.isLt), Fin.val_inj]
  rw [Finset.sum_ite_eq' Finset.univ s, if_pos (Finset.mem_univ _)]

theorem pay31_at (lf : FVec Ideal S256x1 .f32) (t : Fin 256) :
    k0_pay31 (F := Ideal) lf (ix2 t (0 : Fin 1)) = cum (col lf) t := by
  pointwise [k0_pay31, k0_pay28, k0_pay29]
  unfold cum
  refine Finset.sum_congr rfl fun s _ => ?_
  rw [sel_sle (n := 256) (le_refl _)]
  simp only [sel_eq (n := 256) (le_refl _) _ (Nat.le_of_lt s.isLt), Fin.val_inj]
  rw [Finset.sum_ite_eq' Finset.univ s, if_pos (Finset.mem_univ _)]

theorem pay35_at (lf ig : FVec Ideal S256x1 .f32) (t s : Fin 256) :
    k0_pay35 (F := Ideal) k0_pay29 (k0_pay30 ig) (k0_pay31 lf) k0_pay32 (k0_pay33 lf) k0_pay34 (ix2 t s) = gap (col lf) (col ig) t s := by
  pointwise [k0_pay35, k0_pay29, k0_pay32, k0_pay33, k0_pay34]
  simp only [sel_sle (n := 256) (le_refl _), mask_val, pay30_at, pay31_at]
  rfl

theorem pay37_at (lf ig : FVec Ideal S256x1 .f32) (m0 : FVec Ideal S1x1 .f32) (t : Fin 256) :
    k0_pay37 (F := Ideal) m0 k0_pay29 (k0_pay30 ig) (k0_pay31 lf) k0_pay32 (k0_pay33 lf) k0_pay34 (ix2 t (0 : Fin 1))
      = stab (col lf) (col ig) (m0 (ix2 (0 : Fin 1) (0 : Fin 1))) t := by
  pointwise [k0_pay37, k0_pay36]
  simp only [pay35_at, pay31_at, neginf_val]
  rfl

/-! The later stored terms over any index matrices: their own operations alone. -/
section Gen
variable (Q K V : FVec Ideal S256x256 .bf16) (ig : FVec Ideal S256x1 .f32) (C0 : FVec Ideal S256x256 .f32) (n0 : FVec Ideal S1x256 .f32)
  (m0 : FVec Ideal S1x1 .f32) (A29 : IVec S256x256 1) (A30 : FVec Ideal S1x256 .f32) (A31 : FVec Ideal S256x1 .f32)
  (A32 : IVec S256x256 1) (A33 A34 : FVec Ideal S256x256 .f32)

theorem pay39_gen : k0_pay39 (F := Ideal) m0 A29 A30 A31 A32 A33 A34 (ix2 (0 : Fin 1) (0 : Fin 1)) = k0_pay37 m0 A29 A30 A31 A32 A33 A34 (ix2 (255 : Fin 256) (0 : Fin 1)) := by
  pointwise [k0_pay39]
theorem pay40_gen : k0_pay40 (F := Ideal) m0 A29 A30 A31 A32 A33 A34 (ix2 (0 : Fin 1) (0 : Fin 1))
    = Ideal.exp (A31 (ix2 (255 : Fin 256) (0 : Fin 1)) + m0 (ix2 (0 : Fin 1) (0 : Fin 1)) - k0_pay39 m0 A29 A30 A31 A32 A33 A34 (ix2 (0 : Fin 1) (0 : Fin 1))) := by
  pointwise [k0_pay40, k0_pay38]
theorem pay45_gen (t : Fin 256) : k0_pay45 (F := Ideal) m0 A29 A30 A31 A32 A33 A34 (ix2 t (0 : Fin 1))
    = Ideal.exp (A31 (ix2 t (0 : Fin 1)) + m0 (ix2 (0 : Fin 1) (0 : Fin 1)) - k0_pay37 m0 A29 A30 A31 A32 A33 A34 (ix2 t (0 : Fin 1))) := by
  pointwise [k0_pay45, k0_pay36]
theorem pay41_gen (s d : Fin 256) : k0_pay41 (F := Ideal) K ig m0 A29 A30 A31 A32 A33 A34 (ix2 s d)
    = mat K s d * Ideal.exp (A31 (ix2 (255 : Fin 256) (0 : Fin 1)) - A31 (ix2 s (0 : Fin 1)) + ig (ix2 s (0 : Fin 1)) - k0_pay39 m0 A29 A30 A31 A32 A33 A34 (ix2 (0 : Fin 1) (0 : Fin 1))) := by
  pointwise [k0_pay41, k0_pay38]
theorem pay44_gen (t s : Fin 256) : k0_pay44 (F := Ideal) Q K m0 A29 A30 A31 A32 A33 A34 (ix2 t s)
    = (∑ j, mat Q t j * mat K s j) * Ideal.exp (k0_pay35 A29 A30 A31 A32 A33 A34 (ix2 t s) - k0_pay37 m0 A29 A30 A31 A32 A33 A34 (ix2 t (0 : Fin 1))) := by
  pointwise [k0_pay44]
theorem pay42_gen (d e : Fin 256) : k0_pay42 (F := Ideal) K V ig C0 m0 A29 A30 A31 A32 A33 A34 (ix2 d e)
    = k0_pay40 m0 A29 A30 A31 A32 A33 A34 (ix2 (0 : Fin 1) (0 : Fin 1)) * C0 (ix2 d e) + ∑ s, k0_pay41 K ig m0 A29 A30 A31 A32 A33 A34 (ix2 s d) * mat V s e := by
  pointwise [k0_pay42]
theorem pay43_gen (d : Fin 256) : k0_pay43 (F := Ideal) K ig n0 m0 A29 A30 A31 A32 A33 A34 (ix2 (0 : Fin 1) d)
    = k0_pay40 m0 A29 A30 A31 A32 A33 A34 (ix2 (0 : Fin 1) (0 : Fin 1)) * n0 (ix2 (0 : Fin 1) d) + ∑ s, k0_pay41 K ig m0 A29 A30 A31 A32 A33 A34 (ix2 s d) := by
  pointwise [k0_pay43]
theorem pay46_gen (t e : Fin 256) : k0_pay46 (F := Ideal) Q C0 m0 A29 A30 A31 A32 A33 A34 (ix2 t e)
    = k0_pay45 m0 A29 A30 A31 A32 A33 A34 (ix2 t (0 : Fin 1)) * ∑ j, mat Q t j * C0 (ix2 j e) := by
  pointwise [k0_pay46]
theorem pay47_gen (t e : Fin 256) : k0_pay47 (F := Ideal) Q K V m0 A29 A30 A31 A32 A33 A34 (ix2 t e)
    = ∑ s, k0_pay44 Q K m0 A29 A30 A31 A32 A33 A34 (ix2 t s) * mat V s e := by
  pointwise [k0_pay47]
theorem pay51_gen (B37 : FVec Ideal S256x1 .f32) (B44 : FVec Ideal S256x256 .f32) (B45 : FVec Ideal S256x1 .f32) (B46 B47 : FVec Ideal S256x256 .f32) (t : Fin 8) (e : Fin 256) :
    k0_pay51 (F := Ideal) Q n0 B37 B44 B45 B46 B47 (ix2 t e)
      = Ideal.div (B46 (ix2 (⟨t, by omega⟩ : Fin 256) e) + B47 (ix2 (⟨t, by omega⟩ : Fin 256) e))
          (max (FloatOps.absf (F := Ideal) (φ := .f32) (B45 (ix2 (⟨t, by omega⟩ : Fin 256) (0 : Fin 1)) * (∑ j, mat Q (⟨t, by omega⟩ : Fin 256) j * n0 (ix2 (0 : Fin 1) j)) + ∑ s, B44 (ix2 (⟨t, by omega⟩ : Fin 256) s)))
            (Ideal.exp (0 - B37 (ix2 (⟨t, by omega⟩ : Fin 256) (0 : Fin 1))))) := by
  pointwise [k0_pay51]
end Gen

theorem pay39_at (lf ig : FVec Ideal S256x1 .f32) (m0 : FVec Ideal S1x1 .f32) :
    k0_pay39 (F := Ideal) m0 k0_pay29 (k0_pay30 ig) (k0_pay31 lf) k0_pay32 (k0_pay33 lf) k0_pay34 (ix2 (0 : Fin 1) (0 : Fin 1))
      = stab (col lf) (col ig) (m0 (ix2 (0 : Fin 1) (0 : Fin 1))) 255 := by
  rw [pay39_gen, pay37_at]

theorem pay40_at (lf ig : FVec Ideal S256x1 .f32) (m0 : FVec Ideal S1x1 .f32) :
    k0_pay40 (F := Ideal) m0 k0_pay29 (k0_pay30 ig) (k0_pay31 lf) k0_pay32 (k0_pay33 lf) k0_pay34 (ix2 (0 : Fin 1) (0 : Fin 1))
      = carry (col lf) (col ig) (m0 (ix2 (0 : Fin 1) (0 : Fin 1))) 255 := by
  rw [pay40_gen, pay39_at, pay31_at]; rfl

theorem pay45_at (lf ig : FVec Ideal S256x1 .f32) (m0 : FVec Ideal S1x1 .f32) (t : Fin 256) :
    k0_pay45 (F := Ideal) m0 k0_pay29 (k0_pay30 ig) (k0_pay31 lf) k0_pay32 (k0_pay33 lf) k0_pay34 (ix2 t (0 : Fin 1))
      = carry (col lf) (col ig) (m0 (ix2 (0 : Fin 1) (0 : Fin 1))) t := by
  rw [pay45_gen, pay37_at, pay31_at]; rfl

theorem pay41_at (K : FVec Ideal S256x256 .bf16) (lf ig : FVec Ideal S256x1 .f32) (m0 : FVec Ideal S1x1 .f32) (s d : Fin 256) :
    k0_pay41 (F := Ideal) K ig m0 k0_pay29 (k0_pay30 ig) (k0_pay31 lf) k0_pay32 (k0_pay33 lf) k0_pay34 (ix2 s d)
      = mat K s d * share (col lf) (col ig) (m0 (ix2 (0 : Fin 1) (0 : Fin 1))) 255 s := by
  rw [pay41_gen, pay39_at, pay31_at, pay31_at]; rfl

theorem pay44_at (Q K : FVec Ideal S256x256 .bf16) (lf ig : FVec Ideal S256x1 .f32) (m0 : FVec Ideal S1x1 .f32) (t s : Fin 256) :
    k0_pay44 (F := Ideal) Q K m0 k0_pay29 (k0_pay30 ig) (k0_pay31 lf) k0_pay32 (k0_pay33 lf) k0_pay34 (ix2 t s)
      = score (col lf) (col ig) (m0 (ix2 (0 : Fin 1) (0 : Fin 1))) (mat Q) (mat K) t s := by
  rw [pay44_gen, pay37_at, pay35_at]; rfl

theorem pay42_at (K V : FVec Ideal S256x256 .bf16) (lf ig : FVec Ideal S256x1 .f32) (C0 : FVec Ideal S256x256 .f32) (m0 : FVec Ideal S1x1 .f32) (d e : Fin 256) :
    k0_pay42 (F := Ideal) K V ig C0 m0 k0_pay29 (k0_pay30 ig) (k0_pay31 lf) k0_pay32 (k0_pay33 lf) k0_pay34 (ix2 d e)
      = newC (col lf) (col ig) (m0 (ix2 (0 : Fin 1) (0 : Fin 1))) (mat K) (mat V) (fun d e => C0 (ix2 d e)) 255 d e := by
  rw [pay42_gen, pay40_at]; simp only [pay41_at]; rfl

theorem pay43_at (K : FVec Ideal S256x256 .bf16) (lf ig : FVec Ideal S256x1 .f32) (n0 : FVec Ideal S1x256 .f32) (m0 : FVec Ideal S1x1 .f32) (d : Fin 256) :
    k0_pay43 (F := Ideal) K ig n0 m0 k0_pay29 (k0_pay30 ig) (k0_pay31 lf) k0_pay32 (k0_pay33 lf) k0_pay34 (ix2 (0 : Fin 1) d)
      = newn (col lf) (col ig) (m0 (ix2 (0 : Fin 1) (0 : Fin 1))) (mat K) (fun d => n0 (ix2 (0 : Fin 1) d)) 255 d := by
  rw [pay43_gen, pay40_at]; simp only [pay41_at]; rfl

theorem pay46_at (Q : FVec Ideal S256x256 .bf16) (lf ig : FVec Ideal S256x1 .f32) (C0 : FVec Ideal S256x256 .f32) (m0 : FVec Ideal S1x1 .f32) (t e : Fin 256) :
    k0_pay46 (F := Ideal) Q C0 m0 k0_pay29 (k0_pay30 ig) (k0_pay31 lf) k0_pay32 (k0_pay33 lf) k0_pay34 (ix2 t e)
      = carry (col lf) (col ig) (m0 (ix2 (0 : Fin 1) (0 : Fin 1))) t * ∑ j, mat Q t j * C0 (ix2 j e) := by
  rw [pay46_gen, pay45_at]

theorem pay47_at (Q K V : FVec Ideal S256x256 .bf16) (lf ig : FVec Ideal S256x1 .f32) (m0 : FVec Ideal S1x1 .f32) (t e : Fin 256) :
    k0_pay47 (F := Ideal) Q K V m0 k0_pay29 (k0_pay30 ig) (k0_pay31 lf) k0_pay32 (k0_pay33 lf) k0_pay34 (ix2 t e)
      = ∑ s, score (col lf) (col ig) (m0 (ix2 (0 : Fin 1) (0 : Fin 1))) (mat Q) (mat K) t s * mat V s e := by
  rw [pay47_gen]; simp only [pay44_at]

/-- The head's output of a token among the first eight, over any chunk. -/
theorem pay51_at (Q K V : FVec Ideal S256x256 .bf16) (lf ig : FVec Ideal S256x1 .f32) (C0 : FVec Ideal S256x256 .f32) (n0 : FVec Ideal S1x256 .f32) (m0 : FVec Ideal S1x1 .f32) (t : Fin 8) (e : Fin 256) :
    k0_pay51 (F := Ideal) Q n0 (k0_pay37 m0 k0_pay29 (k0_pay30 ig) (k0_pay31 lf) k0_pay32 (k0_pay33 lf) k0_pay34)
        (k0_pay44 Q K m0 k0_pay29 (k0_pay30 ig) (k0_pay31 lf) k0_pay32 (k0_pay33 lf) k0_pay34)
        (k0_pay45 m0 k0_pay29 (k0_pay30 ig) (k0_pay31 lf) k0_pay32 (k0_pay33 lf) k0_pay34)
        (k0_pay46 Q C0 m0 k0_pay29 (k0_pay30 ig) (k0_pay31 lf) k0_pay32 (k0_pay33 lf) k0_pay34)
        (k0_pay47 Q K V m0 k0_pay29 (k0_pay30 ig) (k0_pay31 lf) k0_pay32 (k0_pay33 lf) k0_pay34) (ix2 t e)
      = head (col lf) (col ig) (m0 (ix2 (0 : Fin 1) (0 : Fin 1))) (mat Q) (mat K) (mat V) (fun d e => C0 (ix2 d e)) (fun d => n0 (ix2 (0 : Fin 1) d)) (⟨t, by omega⟩ : Fin 256) e := by
  rw [pay51_gen, pay46_at, pay47_at, pay45_at, pay37_at]; simp only [pay44_at]; rw [zero_sub]; rfl

end Cert.KernelIdeal.Value

end
-- ==== Proof.MlstmSpec.lean ====
module

public import proofs.«01_k».proof.Proof.MlstmForm

@[expose] public section

noncomputable section

open Idealize.ShloMosaic Idealize.ShloMosaic.TcCoe

/-! One head's decoding step as functions of the twelve arguments: what kernel and reference are both compared with. -/

namespace Cert.Mlstm

/-- A gate's log sigmoid, as the kernel writes it. -/
def logsig (x : EReal) : EReal := min x 0 - Ideal.log (1 + Ideal.exp (0 - FloatOps.absf (F := Ideal) (φ := .f32) x))

/-- What one head of one sequence reads. -/
structure Args where
  st : Fin 3 → Fin 256 → EReal
  u : Fin 4 → Fin 256 → EReal
  v : Fin 4 → Fin 256 → EReal
  og : Fin 4 → Fin 256 → EReal
  gi : Fin 4 → EReal
  gf : Fin 4 → EReal
  C0 : Fin 256 → Fin 256 → EReal
  n0 : Fin 256 → EReal
  m0 : EReal
  w : Fin 4 → Fin 256 → EReal
  cb : Fin 256 → EReal
  wq : Fin 256 → Fin 256 → EReal
  wk : Fin 256 → Fin 256 → EReal
  g : Fin 256 → EReal

namespace Args

variable (A : Args)

/-- The convolution's input: the three carried rows, then the four tokens. -/
def pad (j : ℕ) (d : Fin 256) : EReal := if h : j < 3 then A.st ⟨j, h⟩ d else if h : j - 3 < 4 then A.u ⟨j - 3, h⟩ d else 0
/-- The convolution of a token. -/
def conv (t : Fin 4) (d : Fin 256) : EReal :=
  A.cb d + A.pad t.val d * A.w 0 d + A.pad (1 + t.val) d * A.w 1 d + A.pad (2 + t.val) d * A.w 2 d + A.pad (3 + t.val) d * A.w 3 d
/-- The convolution through its gate. -/
def act (t : Fin 4) (d : Fin 256) : EReal := A.conv t d * Ideal.logistic (A.conv t d)
/-- The queries. -/
def q (t : Fin 4) (e : Fin 256) : EReal := ∑ j, A.act t j * A.wq j e
/-- The keys, scaled by 1/16. -/
def k (t : Fin 4) (e : Fin 256) : EReal := (∑ j, A.act t j * A.wk j e) * Ideal.ofBits .f32 0x3D800000#32
/-- The log forget gates. -/
def lf (t : Fin 4) : EReal := logsig (A.gf t)
/-- The head's output before its norm. -/
def hid (t : Fin 4) (e : Fin 256) : EReal := head A.lf A.gi A.m0 A.q A.k A.v A.C0 A.n0 t e
/-- The head's output, normed and gated. -/
def out (t : Fin 4) (e : Fin 256) : EReal :=
  A.hid t e * Ideal.rsqrt (Ideal.div (∑ x, A.hid t x * A.hid t x) (Ideal.ofBits .f32 0x43800000#32) + Ideal.ofBits .f32 0x358637BD#32)
    * A.g e * Ideal.logistic (A.og t e)
/-- The matrix memory after the four tokens. -/
def C (d e : Fin 256) : EReal := newC A.lf A.gi A.m0 A.k A.v A.C0 3 d e
/-- The normaliser after the four tokens. -/
def n (d : Fin 256) : EReal := newn A.lf A.gi A.m0 A.k A.n0 3 d
/-- The stabiliser after the four tokens. -/
def m : EReal := stab A.lf A.gi A.m0 3

end Args

/-- Channel `d` of head `h`. -/
abbrev chan (h : Fin 4) (d : Fin 256) : Fin 1024 := ⟨h.val * 256 + d.val, by omega⟩
/-- The row of token `t` of sequence `b`. -/
abbrev tok (b : Fin 8) (t : Fin 4) : Fin 80 := ⟨16 + (b.val * 8 + t.val), by omega⟩

/-- What head `h` of sequence `b` reads of the arguments. -/
def mk (x0 : FVec Ideal ⟨2, ![80, 6144]⟩ .f32) (x1 : FVec Ideal ⟨2, ![80, 128]⟩ .f32) (x2 : FVec Ideal ⟨4, ![1, 8, 3, 1024]⟩ .f32)
    (x3 : FVec Ideal ⟨4, ![8, 4, 256, 256]⟩ .f32) (x4 : FVec Ideal ⟨3, ![8, 4, 256]⟩ .f32) (x5 : FVec Ideal ⟨2, ![8, 4]⟩ .f32)
    (x6 : FVec Ideal ⟨2, ![4, 1024]⟩ .f32) (x7 : FVec Ideal ⟨1, ![1024]⟩ .f32) (x8 x9 : FVec Ideal ⟨3, ![4, 256, 256]⟩ .f32)
    (x10 : FVec Ideal ⟨2, ![2, 4]⟩ .f32) (x11 : FVec Ideal ⟨1, ![256]⟩ .f32) (b : Fin 8) (h : Fin 4) : Args where
  st j d := x2 (ix4 (0 : Fin 1) b j (chan h d))
  u t d := x0 (ix2 (tok b t) (⟨3072 + (h.val * 256 + d.val), by omega⟩ : Fin 6144))
  v t d := x0 (ix2 (tok b t) (⟨4096 + (h.val * 256 + d.val), by omega⟩ : Fin 6144))
  og t d := x0 (ix2 (tok b t) (⟨5120 + (h.val * 256 + d.val), by omega⟩ : Fin 6144))
  gi t := x1 (ix2 (tok b t) (⟨h.val, by omega⟩ : Fin 128)) + x10 (ix2 (0 : Fin 2) h)
  gf t := x1 (ix2 (tok b t) (⟨4 + h.val, by omega⟩ : Fin 128)) + x10 (ix2 (1 : Fin 2) h)
  C0 d e := x3 (ix4 b h d e)
  n0 d := x4 (ix3 b h d)
  m0 := x5 (ix2 b h)
  w j d := x6 (ix2 j (chan h d))
  cb d := x7 (ix1 (chan h d))
  wq j e := x8 (ix3 h j e)
  wk j e := x9 (ix3 h j e)
  g e := x11 (ix1 e)

/-- The host's softplus of the negated gate, negated, is the kernel's log sigmoid. -/
theorem logsig_eq (x : EReal) :
    -(max (-x) 0 + Ideal.log1p (Ideal.exp (-FloatOps.absf (F := Ideal) (φ := .f32) (-x)))) = logsig x := by
  have habs : FloatOps.absf (F := Ideal) (φ := .f32) (-x) = FloatOps.absf (F := Ideal) (φ := .f32) x := by
    show max (-x) (- -x) = max x (-x)
    rw [neg_neg, max_comm]
  rw [habs]
  unfold logsig Ideal.log1p
  rw [zero_sub]
  have hneg : -(max (-x) 0) = min x 0 := by
    rcases le_total x 0 with h | h
    · rw [max_eq_left (by rwa [EReal.neg_nonneg]), min_eq_left h, neg_neg]
    · rw [max_eq_right (by rw [EReal.neg_le]; simpa using h), min_eq_right h, neg_zero]
  have hlog : ∃ r : ℝ, Ideal.log (1 + Ideal.exp (-FloatOps.absf (F := Ideal) (φ := .f32) x)) = (r : EReal) := by
    have hx : ∃ r : ℝ, 0 ≤ r ∧ Ideal.exp (-FloatOps.absf (F := Ideal) (φ := .f32) x) = (r : EReal) := by
      induction x with
      | bot => exact ⟨0, le_refl _, by show Ideal.exp (-(max ⊥ (-⊥))) = _; simp⟩
      | top => exact ⟨0, le_refl _, by show Ideal.exp (-(max ⊤ (-⊤))) = _; simp⟩
      | coe r =>
        refine ⟨Real.exp (-(max r (-r))), (Real.exp_pos _).le, ?_⟩
        show Ideal.exp (-(max (r : EReal) (-(r : EReal)))) = _
        rw [← EReal.coe_neg, ← EReal.coe_strictMono.monotone.map_max, ← EReal.coe_neg]
        rfl
    obtain ⟨r, hr, e⟩ := hx
    refine ⟨Real.log (1 + r), ?_⟩
    rw [e, ← EReal.coe_one, ← EReal.coe_add]
    show (if 1 + r ≤ 0 then ⊥ else (Real.log (1 + r) : EReal)) = _
    rw [if_neg (by linarith)]
  obtain ⟨r, hr⟩ := hlog
  rw [hr, EReal.neg_add (Or.inr (EReal.coe_ne_top r)) (Or.inr (EReal.coe_ne_bot r)), hneg]

end Cert.Mlstm

end
-- ==== Proof.MlstmRead.lean ====
module

public import proofs.«01_k».proof.Proof.MlstmPay
public import proofs.«01_k».proof.Proof.MlstmSpec
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! What the decoding step's loads of its scratches read, and its blocks as parts of the arguments. -/

namespace Cert.KernelIdeal.Value

open Cert.KernelIdeal Cert.KernelIdeal.Gen Cert.Mlstm

section Canon
variable {s : Shape} {e : EltTy} {off size : Fin s.rank → ℕ} {inb : ∀ a, off a + size a ≤ s.size a}

/-- An index inside the last stored rectangle reads that store. -/
theorem canon_in (P : (Rect.unit off size inb).shape.Idx → Elt Ideal e) (L : List (View.Piece (Elt Ideal) s e)) (y : s.Idx)
    (x : (Rect.unit off size inb).shape.Idx) (h : ∀ a, (y a).val = off a + (x a).val) :
    View.canon (⟨Rect.unit off size inb, P⟩ :: L) y = P x := by
  have e : y = (Rect.unit off size inb).emb x := by
    funext a
    apply Fin.ext
    refine (h a).trans ?_
    show off a + (x a).val = off a + 1 * (x a).val
    omega
  rw [e]
  exact View.canon_cons_emb _ P L x

/-- An index outside it on some axis reads the earlier stores. -/
theorem canon_out (P : (Rect.unit off size inb).shape.Idx → Elt Ideal e) (L : List (View.Piece (Elt Ideal) s e)) (y : s.Idx)
    (a : Fin s.rank) (h : (y a).val < off a ∨ off a + size a ≤ (y a).val) :
    View.canon (⟨Rect.unit off size inb, P⟩ :: L) y = View.canon L y := by
  refine View.canon_cons_of_not_mem _ L fun hm => ?_
  have := (Rect.mem_set_unit (inb := inb).mp hm) a
  omega

/-- A load of what the stores left, at an index. -/
theorem load_at {sp : Space} (v : View sig .tc sp s e) (L : List (View.Piece (Elt Ideal) s e))
    (x : (Rect.unit off size inb).toLoadRect.shape.Idx) (y : s.Idx) (h : ∀ a, (y a).val = off a + (x a).val) :
    v.readCov L (Rect.unit off size inb).toLoadRect x = View.canon L y := by
  rw [View.readCov_eq_canon']
  refine congrArg (View.canon L) ?_
  funext a
  apply Fin.ext
  refine Eq.trans ?_ (h a).symm
  show off a + 1 * (x a).val = off a + (x a).val
  omega
end Canon

/-- Two indices of a matrix differ by the rectangle's first row. -/
theorem shift {R C n : ℕ} (o : ℕ) (r : Fin R) (r' : Fin n) (d : Fin C) (h : r.val = o + r'.val) :
    ∀ a : Fin 2, ((ix2 r d : (⟨2, ![R, C]⟩ : Shape).Idx) a).val = (![o, 0] : Fin 2 → ℕ) a + ((ix2 r' d : (⟨2, ![n, C]⟩ : Shape).Idx) a).val := by
  intro a
  match a with
  | ⟨0, _⟩ => exact h
  | ⟨1, _⟩ => exact (Nat.zero_add _).symm

/-- A row among the first sixteen of a scratch filled and then stored through its first sixteen rows. -/
theorem read_mat {sp : Space} (v : View sig .tc sp S256x256 .bf16) (P : FVec Ideal S16x256 .bf16) (Z : FVec Ideal S256x256 .bf16)
    (h1 : ∀ a, (![0, 0] : Fin 2 → ℕ) a + (![16, 256] : Fin 2 → ℕ) a ≤ S256x256.size a)
    (h2 : ∀ a, (![0, 0] : Fin 2 → ℕ) a + (![256, 256] : Fin 2 → ℕ) a ≤ S256x256.size a)
    (h3 : ∀ a, (![0, 0] : Fin 2 → ℕ) a + (![256, 256] : Fin 2 → ℕ) a ≤ S256x256.size a) (s : Fin 4) (d : Fin 256) :
    v.readCov (Val := Elt Ideal) [⟨Rect.unit (s := S256x256) ![0, 0] ![16, 256] h1, P⟩, ⟨Rect.unit (s := S256x256) ![0, 0] ![256, 256] h2, Z⟩]
      (Rect.unit (s := S256x256) ![0, 0] ![256, 256] h3).toLoadRect (ix2 (up s) d) = P (ix2 (⟨s.val, by omega⟩ : Fin 16) d) :=
  (load_at (s := S256x256) (e := .bf16) (inb := h3) v _ (ix2 (up s) d) (ix2 (up s) d) (shift 0 (up s) (up s) d (Nat.zero_add _).symm)).trans
    (canon_in (s := S256x256) (e := .bf16) (inb := h1) P _ (ix2 (up s) d) (ix2 (⟨s.val, by omega⟩ : Fin 16) d) (shift 0 (up s) (⟨s.val, by omega⟩ : Fin 16) d (Nat.zero_add _).symm))

/-- A row of a gate scratch, filled and then stored through its first eight rows. -/
theorem read_col {sp : Space} (v : View sig .tc sp S256x1 .f32) (P : FVec Ideal S8x1 .f32) (Z : FVec Ideal S256x1 .f32)
    (h1 : ∀ a, (![0, 0] : Fin 2 → ℕ) a + (![8, 1] : Fin 2 → ℕ) a ≤ S256x1.size a)
    (h2 : ∀ a, (![0, 0] : Fin 2 → ℕ) a + (![256, 1] : Fin 2 → ℕ) a ≤ S256x1.size a)
    (h3 : ∀ a, (![0, 0] : Fin 2 → ℕ) a + (![256, 1] : Fin 2 → ℕ) a ≤ S256x1.size a) (s : Fin 256) :
    v.readCov (Val := Elt Ideal) [⟨Rect.unit (s := S256x1) ![0, 0] ![8, 1] h1, P⟩, ⟨Rect.unit (s := S256x1) ![0, 0] ![256, 1] h2, Z⟩]
      (Rect.unit (s := S256x1) ![0, 0] ![256, 1] h3).toLoadRect (ix2 s (0 : Fin 1))
      = if h : s.val < 8 then P (ix2 (⟨s.val, h⟩ : Fin 8) (0 : Fin 1)) else Z (ix2 s (0 : Fin 1)) := by
  refine (load_at (s := S256x1) (e := .f32) (inb := h3) v _ (ix2 s (0 : Fin 1)) (ix2 s (0 : Fin 1)) (shift 0 s s (0 : Fin 1) (Nat.zero_add _).symm)).trans ?_
  by_cases h : s.val < 8
  · rw [dif_pos h]
    exact canon_in (s := S256x1) (e := .f32) (inb := h1) P _ (ix2 s (0 : Fin 1)) (ix2 (⟨s.val, h⟩ : Fin 8) (0 : Fin 1)) (shift 0 s (⟨s.val, h⟩ : Fin 8) (0 : Fin 1) (Nat.zero_add _).symm)
  · rw [dif_neg h]
    refine (canon_out (s := S256x1) (e := .f32) (inb := h1) P _ (ix2 s (0 : Fin 1)) (0 : Fin 2) (.inr (show 0 + 8 ≤ s.val by omega))).trans ?_
    exact canon_in (s := S256x1) (e := .f32) (inb := h2) Z _ (ix2 s (0 : Fin 1)) (ix2 s (0 : Fin 1)) (shift 0 s s (0 : Fin 1) (Nat.zero_add _).symm)

/-- A row of the convolution's buffer: zeros, the three carried rows from row 5, the eight tokens from row 8, zeros. -/
theorem read_buf {sp : Space} (v : View sig .tc sp S24x256 .f32) (P8 P7 P5 : FVec Ideal S8x256 .f32) (P6 : FVec Ideal S3x256 .f32)
    (h8 : ∀ a, (![16, 0] : Fin 2 → ℕ) a + (![8, 256] : Fin 2 → ℕ) a ≤ S24x256.size a)
    (h7 : ∀ a, (![8, 0] : Fin 2 → ℕ) a + (![8, 256] : Fin 2 → ℕ) a ≤ S24x256.size a)
    (h6 : ∀ a, (![5, 0] : Fin 2 → ℕ) a + (![3, 256] : Fin 2 → ℕ) a ≤ S24x256.size a)
    (h5 : ∀ a, (![0, 0] : Fin 2 → ℕ) a + (![8, 256] : Fin 2 → ℕ) a ≤ S24x256.size a)
    (o n : ℕ) (hB : ∀ a, (![o, 0] : Fin 2 → ℕ) a + (![n, 256] : Fin 2 → ℕ) a ≤ S24x256.size a)
    (r : Fin n) (d : Fin 256) (hlo : 5 ≤ o + r.val) (hhi : o + r.val < 12) :
    v.readCov (Val := Elt Ideal) [⟨Rect.unit (s := S24x256) ![16, 0] ![8, 256] h8, P8⟩, ⟨Rect.unit (s := S24x256) ![8, 0] ![8, 256] h7, P7⟩,
      ⟨Rect.unit (s := S24x256) ![5, 0] ![3, 256] h6, P6⟩, ⟨Rect.unit (s := S24x256) ![0, 0] ![8, 256] h5, P5⟩]
      (Rect.unit (s := S24x256) ![o, 0] ![n, 256] hB).toLoadRect (ix2 r d)
      = if h : o + r.val < 8 then P6 (ix2 (⟨o + r.val - 5, by omega⟩ : Fin 3) d) else P7 (ix2 (⟨o + r.val - 8, by omega⟩ : Fin 8) d) := by
  refine (load_at (s := S24x256) (e := .f32) (inb := hB) v _ (ix2 r d) (ix2 (⟨o + r.val, by omega⟩ : Fin 24) d) (shift o (⟨o + r.val, by omega⟩ : Fin 24) r d rfl)).trans ?_
  refine (canon_out (s := S24x256) (e := .f32) (inb := h8) P8 _ (ix2 (⟨o + r.val, by omega⟩ : Fin 24) d) (0 : Fin 2) (.inl (show o + r.val < 16 by omega))).trans ?_
  by_cases h : o + r.val < 8
  · rw [dif_pos h]
    refine (canon_out (s := S24x256) (e := .f32) (inb := h7) P7 _ (ix2 (⟨o + r.val, by omega⟩ : Fin 24) d) (0 : Fin 2) (.inl (show o + r.val < 8 by omega))).trans ?_
    exact canon_in (s := S24x256) (e := .f32) (inb := h6) P6 _ (ix2 (⟨o + r.val, by omega⟩ : Fin 24) d) (ix2 (⟨o + r.val - 5, by omega⟩ : Fin 3) d)
      (shift 5 (⟨o + r.val, by omega⟩ : Fin 24) (⟨o + r.val - 5, by omega⟩ : Fin 3) d (show o + r.val = 5 + (o + r.val - 5) by omega))
  · rw [dif_neg h]
    exact canon_in (s := S24x256) (e := .f32) (inb := h7) P7 _ (ix2 (⟨o + r.val, by omega⟩ : Fin 24) d) (ix2 (⟨o + r.val - 8, by omega⟩ : Fin 8) d)
      (shift 8 (⟨o + r.val, by omega⟩ : Fin 24) (⟨o + r.val - 8, by omega⟩ : Fin 8) d (show o + r.val = 8 + (o + r.val - 8) by omega))

variable (m : (ℓ : Loc nD τ sig) → Buf (Elt Ideal) ℓ) (c : Dev nD)

/-- Which block of its array each window holds at each grid point. -/
theorem idx : ∀ t : Fin cfg0.N, (win0_0.index t = ![t.val / 4 + 2, 12 + t.val % 4] ∧ win0_1.index t = ![t.val / 4 + 2, 16 + t.val % 4]
    ∧ win0_2.index t = ![t.val / 4 + 2, 20 + t.val % 4] ∧ win0_3.index t = ![t.val / 4 + 2, 0] ∧ win0_4.index t = ![0, t.val / 4, 0, t.val % 4]
    ∧ win0_5.index t = ![t.val, 0, 0] ∧ win0_6.index t = ![t.val, 0, 0] ∧ win0_7.index t = ![t.val, 0, 0] ∧ win0_8.index t = ![0, t.val % 4]
    ∧ win0_9.index t = ![0, t.val % 4] ∧ win0_10.index t = ![t.val % 4, 0, 0] ∧ win0_11.index t = ![t.val % 4, 0, 0] ∧ win0_12.index t = ![0, 0]
    ∧ win0_13.index t = ![0, 0]) ∧ (win0_14.index t = ![t.val / 4, t.val % 4] ∧ win0_15.index t = ![t.val, 0, 0] ∧ win0_16.index t = ![t.val, 0, 0]
    ∧ win0_17.index t = ![t.val, 0, 0] ∧ win0_18.index t = ![0, t.val / 4, 0, t.val % 4]) ∧ (grid0.coords t 1).val = t.val % 4 ∧ t.val < 32 :=
  (by decide +kernel : ∀ t : Fin grid0.N, _)

/-- A point's sequence. -/
abbrev sq (t : Fin cfg0.N) : Fin 8 := ⟨t.val / 4, by have := (idx t).2.2.2; omega⟩
/-- A point's head. -/
abbrev hd (t : Fin cfg0.N) : Fin 4 := ⟨t.val % 4, by omega⟩

/-- The convolution's bias as the region finds it. -/
theorem V_v2 (j : Fin 1024) : (V m c main_v2 : FVec Ideal S1x1024 .f32) (ix2 (0 : Fin 1) j) = m ((c : Thread nD τ).loc main_arg7) (ix1 j) := by
  unfold V
  simp only [hostOps0, hostOps0_1, hostOps0_2, List.flatten_cons, List.flatten_nil, List.append_nil, List.cons_append, List.nil_append]
  after_results
  pointwise []
  try rfl
/-- The output gain as the region finds it. -/
theorem V_v3 (j : Fin 256) : (V m c main_v3 : FVec Ideal S1x256 .f32) (ix2 (0 : Fin 1) j) = m ((c : Thread nD τ).loc main_arg11) (ix1 j) := by
  unfold V
  simp only [hostOps0, hostOps0_1, hostOps0_2, List.flatten_cons, List.flatten_nil, List.append_nil, List.cons_append, List.nil_append]
  after_results
  pointwise []
  try rfl
/-- The matrix memories as the region finds them. -/
theorem V_v4 (b : Fin 8) (h : Fin 4) (d e : Fin 256) : (V m c main_v4 : FVec Ideal S32x256x256 .f32) (ix3 (⟨b.val * 4 + h.val, by omega⟩ : Fin 32) d e) = m ((c : Thread nD τ).loc main_arg3) (ix4 b h d e) := by
  unfold V
  simp only [hostOps0, hostOps0_1, hostOps0_2, List.flatten_cons, List.flatten_nil, List.append_nil, List.cons_append, List.nil_append]
  after_results
  pointwise []
  try rfl
/-- The normalisers as the region finds them. -/
theorem V_v5 (b : Fin 8) (h : Fin 4) (d : Fin 256) : (V m c main_v5 : FVec Ideal S32x1x256 .f32) (ix3 (⟨b.val * 4 + h.val, by omega⟩ : Fin 32) (0 : Fin 1) d) = m ((c : Thread nD τ).loc main_arg4) (ix3 b h d) := by
  unfold V
  simp only [hostOps0, hostOps0_1, hostOps0_2, List.flatten_cons, List.flatten_nil, List.append_nil, List.cons_append, List.nil_append]
  after_results
  pointwise []
  try rfl
/-- The stabilisers as the region finds them. -/
theorem V_v7 (b : Fin 8) (h : Fin 4) (l : Fin 128) : (V m c main_v7 : FVec Ideal S32x1x128 .f32) (ix3 (⟨b.val * 4 + h.val, by omega⟩ : Fin 32) (0 : Fin 1) l) = m ((c : Thread nD τ).loc main_arg5) (ix2 b h) := by
  unfold V
  simp only [hostOps0, hostOps0_1, hostOps0_2, List.flatten_cons, List.flatten_nil, List.append_nil, List.cons_append, List.nil_append]
  after_results
  pointwise []
  exact congrArg₂ (fun (i : Fin 8) (j : Fin 4) => m ((c : Thread nD τ).loc main_arg5) (ix2 i j)) (Fin.ext (show (b.val * 4 + h.val) / 4 = b.val by omega)) (Fin.ext (show (b.val * 4 + h.val) % 4 = h.val by omega))
/-- The gates' biases as the region finds them: the two rows one after the other, padded. -/
theorem V_v1 (x : Fin 8) : (V m c main_v1 : FVec Ideal S1x128 .f32) (ix2 (0 : Fin 1) (⟨x.val, by omega⟩ : Fin 128))
    = m ((c : Thread nD τ).loc main_arg10) (ix2 (⟨x.val / 4, by omega⟩ : Fin 2) (⟨x.val % 4, by omega⟩ : Fin 4)) := by
  unfold V
  simp only [hostOps0, hostOps0_1, hostOps0_2, List.flatten_cons, List.flatten_nil, List.append_nil, List.cons_append, List.nil_append]
  after_results
  show pad S1x128 ![0, 0] ![0, 120] ![0, 0] (shapeCast S1x8 (m ((c : Thread nD τ).loc main_arg10) : FVec Ideal S2x4 .f32) shapeCasts_S2x4_S1x8)
    (sitofp (F := Ideal) .f32 (constantI S_ 32 0#32)) pads_S1x8_S1x128_000_01200 h_S_ (ix2 (0 : Fin 1) (⟨x.val, by omega⟩ : Fin 128)) = _
  pointwise []

theorem iblk0 (t : Fin cfg0.N) (s : Fin 4) (d : Fin 256) : iblk m c 0 t (ix2 (⟨s.val, by omega⟩ : Fin 8) d)
    = m ((c : Thread nD τ).loc main_arg0) (ix2 (tok (sq t) s) (⟨3072 + (t.val % 4 * 256 + d.val), by omega⟩ : Fin 6144)) := by
  blk_ext [iblk, V_main_arg0, idx t]
theorem iblk1 (t : Fin cfg0.N) (s : Fin 4) (d : Fin 256) : iblk m c 1 t (ix2 (⟨s.val, by omega⟩ : Fin 8) d)
    = m ((c : Thread nD τ).loc main_arg0) (ix2 (tok (sq t) s) (⟨4096 + (t.val % 4 * 256 + d.val), by omega⟩ : Fin 6144)) := by
  blk_ext [iblk, V_main_arg0, idx t]
theorem iblk2 (t : Fin cfg0.N) (s : Fin 4) (d : Fin 256) : iblk m c 2 t (ix2 (⟨s.val, by omega⟩ : Fin 8) d)
    = m ((c : Thread nD τ).loc main_arg0) (ix2 (tok (sq t) s) (⟨5120 + (t.val % 4 * 256 + d.val), by omega⟩ : Fin 6144)) := by
  blk_ext [iblk, V_main_arg0, idx t]
theorem iblk3 (t : Fin cfg0.N) (s : Fin 4) (x : Fin 128) : iblk m c 3 t (ix2 (⟨s.val, by omega⟩ : Fin 8) x)
    = m ((c : Thread nD τ).loc main_arg1) (ix2 (tok (sq t) s) x) := by
  blk_ext [iblk, V_main_arg1, idx t]
theorem iblk4 (t : Fin cfg0.N) (j : Fin 3) (d : Fin 256) : iblk m c 4 t (ix4 (0 : Fin 1) (0 : Fin 1) j d)
    = m ((c : Thread nD τ).loc main_arg2) (ix4 (0 : Fin 1) (sq t) j (chan (hd t) d)) := by
  blk_ext [iblk, V_main_arg2, idx t]
theorem iblk5 (t : Fin cfg0.N) (d e : Fin 256) : iblk m c 5 t (ix3 (0 : Fin 1) d e)
    = V m c main_v4 (ix3 (⟨t.val / 4 * 4 + t.val % 4, by have := (idx t).2.2.2; omega⟩ : Fin 32) d e) := by
  blk_ext [iblk, idx t]
theorem iblk6 (t : Fin cfg0.N) (d : Fin 256) : iblk m c 6 t (ix3 (0 : Fin 1) (0 : Fin 1) d)
    = V m c main_v5 (ix3 (⟨t.val / 4 * 4 + t.val % 4, by have := (idx t).2.2.2; omega⟩ : Fin 32) (0 : Fin 1) d) := by
  blk_ext [iblk, idx t]
theorem iblk7 (t : Fin cfg0.N) (l : Fin 128) : iblk m c 7 t (ix3 (0 : Fin 1) (0 : Fin 1) l)
    = V m c main_v7 (ix3 (⟨t.val / 4 * 4 + t.val % 4, by have := (idx t).2.2.2; omega⟩ : Fin 32) (0 : Fin 1) l) := by
  blk_ext [iblk, idx t]
theorem iblk8 (t : Fin cfg0.N) (j : Fin 4) (d : Fin 256) : iblk m c 8 t (ix2 j d)
    = m ((c : Thread nD τ).loc main_arg6) (ix2 j (chan (hd t) d)) := by
  blk_ext [iblk, V_main_arg6, idx t]
theorem iblk9 (t : Fin cfg0.N) (d : Fin 256) : iblk m c 9 t (ix2 (0 : Fin 1) d)
    = V m c main_v2 (ix2 (0 : Fin 1) (chan (hd t) d)) := by
  blk_ext [iblk, idx t]
theorem iblk10 (t : Fin cfg0.N) (j e : Fin 256) : iblk m c 10 t (ix3 (0 : Fin 1) j e)
    = m ((c : Thread nD τ).loc main_arg8) (ix3 (hd t) j e) := by
  blk_ext [iblk, V_main_arg8, idx t]
theorem iblk11 (t : Fin cfg0.N) (j e : Fin 256) : iblk m c 11 t (ix3 (0 : Fin 1) j e)
    = m ((c : Thread nD τ).loc main_arg9) (ix3 (hd t) j e) := by
  blk_ext [iblk, V_main_arg9, idx t]
theorem iblk12 (t : Fin cfg0.N) (x : Fin 128) : iblk m c 12 t (ix2 (0 : Fin 1) x)
    = V m c main_v1 (ix2 (0 : Fin 1) x) := by
  blk_ext [iblk, idx t]
theorem iblk13 (t : Fin cfg0.N) (x : Fin 256) : iblk m c 13 t (ix2 (0 : Fin 1) x)
    = V m c main_v3 (ix2 (0 : Fin 1) x) := by
  blk_ext [iblk, idx t]

end Cert.KernelIdeal.Value

end
-- ==== Proof.MlstmStep.lean ====
module

public import proofs.«01_k».proof.Proof.MlstmPay
public import proofs.«01_k».proof.Proof.MlstmSpec

@[expose] public section

set_option maxRecDepth 16384

noncomputable section

open Idealize.ShloMosaic Idealize.ShloMosaic.TcCoe Idealize.SL.Sem
open Idealize.ShloMosaic.Pipeline (Dat)

/-! The stored terms of the decoding step from what one head reads: its convolution, queries, keys, values and gates at
the rows of its four tokens, and the state after them. -/

namespace Cert.KernelIdeal.Value

open Cert.KernelIdeal Cert.KernelIdeal.Gen Cert.Mlstm

section Gen
variable (W : FVec Ideal S256x256 .bf16) (v23 : FVec Ideal S4x256 .f32) (v25 : FVec Ideal S1x256 .f32) (v26 v32 v37 v42 : FVec Ideal S8x256 .f32)

theorem pay10_gen (t : Fin 8) (d : Fin 256) : k0_pay10 (F := Ideal) v23 v25 v26 v32 v37 v42 (ix2 t d)
    = (v25 (ix2 (0 : Fin 1) d) + v26 (ix2 t d) * v23 (ix2 (0 : Fin 4) d) + v32 (ix2 t d) * v23 (ix2 (1 : Fin 4) d) + v37 (ix2 t d) * v23 (ix2 (2 : Fin 4) d) + v42 (ix2 t d) * v23 (ix2 (3 : Fin 4) d))
      * Ideal.logistic (v25 (ix2 (0 : Fin 1) d) + v26 (ix2 t d) * v23 (ix2 (0 : Fin 4) d) + v32 (ix2 t d) * v23 (ix2 (1 : Fin 4) d) + v37 (ix2 t d) * v23 (ix2 (2 : Fin 4) d) + v42 (ix2 t d) * v23 (ix2 (3 : Fin 4) d)) := by
  pointwise [k0_pay10]
  try rfl

theorem pay15_gen (t : Fin 4) (d : Fin 256) : k0_pay15 (F := Ideal) (k0_pay14 W v23 v25 v26 v32 v37 v42) (ix2 (⟨t.val, by omega⟩ : Fin 16) d)
    = ∑ x, k0_pay10 v23 v25 v26 v32 v37 v42 (ix2 (⟨t.val, by omega⟩ : Fin 8) x) * W (ix2 x d) := by
  pointwise [k0_pay15, k0_pay14]
  rw [dif_pos (show t.val < 8 by omega)]
  try rfl

theorem pay16_gen (a : FVec Ideal S8x256 .bf16) (t : Fin 4) (d : Fin 256) : k0_pay16 (F := Ideal) W a (ix2 (⟨t.val, by omega⟩ : Fin 16) d)
    = (∑ x, a (ix2 (⟨t.val, by omega⟩ : Fin 8) x) * W (ix2 x d)) * Ideal.ofBits .f32 0x3D800000#32 := by
  pointwise [k0_pay16]
  rw [dif_pos (show t.val < 8 by omega)]
  try rfl

theorem pay17_gen (a : FVec Ideal S8x256 .f32) (t : Fin 4) (d : Fin 256) : k0_pay17 (F := Ideal) a (ix2 (⟨t.val, by omega⟩ : Fin 16) d)
    = a (ix2 (⟨t.val, by omega⟩ : Fin 8) d) := by
  pointwise [k0_pay17]
  rw [dif_pos (show t.val < 8 by omega)]
  try rfl

theorem pay19_gen (k : ℕ) (hk : k < 4) (g : FVec Ideal S8x128 .f32) (h : FVec Ideal S1x128 .f32) (t : Fin 8) :
    k0_pay19 (F := Ideal) (BitVec.ofNat 32 k) g h (ix2 t (0 : Fin 1))
      = g (ix2 t (⟨k, by omega⟩ : Fin 128)) + h (ix2 (0 : Fin 1) (⟨k, by omega⟩ : Fin 128)) := by
  pointwise [k0_pay19, k0_pay18]
  have e : ∀ x : Fin 128, (x.val = k) = (x = (⟨k, by omega⟩ : Fin 128)) := fun x => propext ⟨fun h => Fin.ext h, fun h => congrArg Fin.val h⟩
  simp only [sel_eq (n := 128) (by omega) _ (show k ≤ 256 by omega), e]
  rw [Finset.sum_ite_eq' Finset.univ (⟨k, by omega⟩ : Fin 128), if_pos (Finset.mem_univ _)]

theorem pay23_gen (a : FVec Ideal S8x1 .f32) (t : Fin 8) :
    k0_pay23 (F := Ideal) a (ix2 t (0 : Fin 1)) = if t.val < 4 then a (ix2 t (0 : Fin 1)) else ⊥ := by
  pointwise [k0_pay23]
  rw [sel_lt4, mask_val]

theorem pay24_gen (k : ℕ) (hk : k < 4) (g : FVec Ideal S8x128 .f32) (h : FVec Ideal S1x128 .f32) (t : Fin 8) :
    k0_pay24 (F := Ideal) (k0_pay20 (BitVec.ofNat 32 k) g h) (ix2 t (0 : Fin 1))
      = if t.val < 4 then logsig (g (ix2 t (⟨4 + k, by omega⟩ : Fin 128)) + h (ix2 (0 : Fin 1) (⟨4 + k, by omega⟩ : Fin 128))) else 0 := by
  pointwise [k0_pay24, k0_pay20, k0_pay18]
  have hk' : Scalar.addi (BitVec.ofNat 32 k) 4#32 = BitVec.ofNat 32 (4 + k) := by
    interval_cases k <;> rfl
  have e : ∀ x : Fin 128, (x.val = 4 + k) = (x = (⟨4 + k, by omega⟩ : Fin 128)) := fun x => propext ⟨fun h => Fin.ext h, fun h => congrArg Fin.val h⟩
  rw [hk', sel_lt4]
  simp only [sel_eq (n := 128) (by omega) _ (show 4 + k ≤ 256 by omega), e]
  rw [Finset.sum_ite_eq' Finset.univ (⟨4 + k, by omega⟩ : Fin 128), if_pos (Finset.mem_univ _)]
  rfl

theorem pay21_gen (s : Fin 256) : k0_pay21 (F := Ideal) (ix2 s (0 : Fin 1)) = ⊥ := by
  pointwise [k0_pay21]
  exact mask_val
theorem pay22_gen (s : Fin 256) : k0_pay22 (F := Ideal) (ix2 s (0 : Fin 1)) = 0 := by
  pointwise [k0_pay22]

theorem pay53_gen (Q : FVec Ideal S256x256 .bf16) (n0 : FVec Ideal S1x256 .f32) (B37 : FVec Ideal S256x1 .f32) (B44 : FVec Ideal S256x256 .f32) (B45 : FVec Ideal S256x1 .f32) (B46 B47 : FVec Ideal S256x256 .f32) (t : Fin 8) (e : Fin 256) :
    k0_pay53 (F := Ideal) Q n0 B37 B44 B45 B46 B47 (ix2 t e)
      = Ideal.rsqrt (Ideal.div (∑ x, k0_pay51 Q n0 B37 B44 B45 B46 B47 (ix2 t x) * k0_pay51 Q n0 B37 B44 B45 B46 B47 (ix2 t x)) (Ideal.ofBits .f32 0x43800000#32) + Ideal.ofBits .f32 0x358637BD#32) := by
  pointwise [k0_pay53]
  try rfl

theorem pay1_gen (a c o : FVec Ideal S8x256 .f32) (b : FVec Ideal S1x256 .f32) (t : Fin 8) (e : Fin 256) :
    k0_pay1 (F := Ideal) a (k0_pay52 b) c o (ix2 t e) = a (ix2 t e) * c (ix2 t e) * b (ix2 (0 : Fin 1) e) * Ideal.logistic (o (ix2 t e)) := by
  pointwise [k0_pay1, k0_pay52]
  try rfl

theorem pay2_gen (a : FVec Ideal S3x256 .f32) (j : Fin 3) (d : Fin 256) : k0_pay2 (F := Ideal) a (ix4 (0 : Fin 1) (0 : Fin 1) j d) = a (ix2 j d) := by
  pointwise [k0_pay2]
  try rfl
theorem pay3_gen (a : FVec Ideal S1x256x256 .f32) (j d : Fin 256) : k0_pay3 (F := Ideal) a (ix2 j d) = a (ix3 (0 : Fin 1) j d) := by
  pointwise [k0_pay3]
  try rfl
theorem pay4_gen (a : FVec Ideal S1x256x256 .f32) (j d : Fin 256) : k0_pay4 (F := Ideal) a (ix2 j d) = a (ix3 (0 : Fin 1) j d) := by
  pointwise [k0_pay4]
  try rfl
theorem pay6_gen (a : FVec Ideal S1x1x3x256 .f32) (j : Fin 3) (d : Fin 256) : k0_pay6 (F := Ideal) a (ix2 j d) = a (ix4 (0 : Fin 1) (0 : Fin 1) j d) := by
  pointwise [k0_pay6]
  try rfl
theorem pay7_gen (a : FVec Ideal S8x256 .f32) (j : Fin 8) (d : Fin 256) : k0_pay7 (F := Ideal) a (ix2 j d) = a (ix2 j d) := by
  pointwise [k0_pay7]
  try rfl
theorem pay9_gen (a : FVec Ideal S1x256 .f32) (d : Fin 256) : k0_pay9 (F := Ideal) a (ix2 (0 : Fin 1) d) = a (ix2 (0 : Fin 1) d) := by
  pointwise [k0_pay9]
  try rfl
theorem pay25_gen (a : FVec Ideal S1x256x256 .f32) (j d : Fin 256) : k0_pay25 (F := Ideal) a (ix2 j d) = a (ix3 (0 : Fin 1) j d) := by
  pointwise [k0_pay25]
  try rfl
theorem pay26_gen (a : FVec Ideal S1x1x256 .f32) (d : Fin 256) : k0_pay26 (F := Ideal) a (ix2 (0 : Fin 1) d) = a (ix3 (0 : Fin 1) (0 : Fin 1) d) := by
  pointwise [k0_pay26]
  try rfl
theorem pay27_gen (a : FVec Ideal S1x1x128 .f32) : k0_pay27 (F := Ideal) a (ix2 (0 : Fin 1) (0 : Fin 1)) = a (ix3 (0 : Fin 1) (0 : Fin 1) (0 : Fin 128)) := by
  pointwise [k0_pay27]
  try rfl
theorem pay48_gen (a : FVec Ideal S256x256 .f32) (d e : Fin 256) : k0_pay48 (F := Ideal) a (ix3 (0 : Fin 1) d e) = a (ix2 d e) := by
  pointwise [k0_pay48]
  try rfl
theorem pay49_gen (a : FVec Ideal S1x256 .f32) (d : Fin 256) : k0_pay49 (F := Ideal) a (ix3 (0 : Fin 1) (0 : Fin 1) d) = a (ix2 (0 : Fin 1) d) := by
  pointwise [k0_pay49]
  try rfl
theorem pay50_gen (a : FVec Ideal S1x1 .f32) (l : Fin 128) : k0_pay50 (F := Ideal) a (ix3 (0 : Fin 1) (0 : Fin 1) l) = a (ix2 (0 : Fin 1) (0 : Fin 1)) := by
  pointwise [k0_pay50]
  try rfl
end Gen

/-- The convolution through its gate, from the buffer's four shifted reads. -/
theorem act_of (A : Args) (v23 : FVec Ideal S4x256 .f32) (v25 : FVec Ideal S1x256 .f32) (v26 v32 v37 v42 : FVec Ideal S8x256 .f32)
    (hw : ∀ j d, v23 (ix2 j d) = A.w j d) (hb : ∀ d, v25 (ix2 (0 : Fin 1) d) = A.cb d)
    (h5 : ∀ (t : Fin 4) d, v26 (ix2 (⟨t.val, by omega⟩ : Fin 8) d) = A.pad t.val d) (h6 : ∀ (t : Fin 4) d, v32 (ix2 (⟨t.val, by omega⟩ : Fin 8) d) = A.pad (1 + t.val) d)
    (h7 : ∀ (t : Fin 4) d, v37 (ix2 (⟨t.val, by omega⟩ : Fin 8) d) = A.pad (2 + t.val) d) (h8 : ∀ (t : Fin 4) d, v42 (ix2 (⟨t.val, by omega⟩ : Fin 8) d) = A.pad (3 + t.val) d)
    (t : Fin 4) (d : Fin 256) : k0_pay10 (F := Ideal) v23 v25 v26 v32 v37 v42 (ix2 (⟨t.val, by omega⟩ : Fin 8) d) = A.act t d := by
  rw [pay10_gen, hw, hw, hw, hw, hb, h5, h6, h7, h8]
  rfl

/-- What the chunk's scratches hold of one head: its four tokens, then tokens of weight zero; and the state carried in. -/
structure Good (A : Args) (Q K V : FVec Ideal S256x256 .bf16) (lf ig : FVec Ideal S256x1 .f32) (C0 : FVec Ideal S256x256 .f32)
    (n0 : FVec Ideal S1x256 .f32) (m0 : FVec Ideal S1x1 .f32) : Prop where
  q : ∀ s : Fin 4, mat Q (up s) = A.q s
  k : ∀ s : Fin 4, mat K (up s) = A.k s
  v : ∀ s : Fin 4, mat V (up s) = A.v s
  hlf : ∀ s : Fin 4, col lf (up s) = A.lf s
  hig : ∀ s : Fin 4, col ig (up s) = A.gi s
  zlf : ∀ s : Fin 256, 4 ≤ s.val → col lf s = 0
  zig : ∀ s : Fin 256, 4 ≤ s.val → col ig s = ⊥
  c0 : (fun d e => C0 (ix2 d e)) = A.C0
  n : (fun d => n0 (ix2 (0 : Fin 1) d)) = A.n0
  m : m0 (ix2 (0 : Fin 1) (0 : Fin 1)) = A.m0

namespace Good
variable {A : Args} {Q K V : FVec Ideal S256x256 .bf16} {lf ig : FVec Ideal S256x1 .f32} {C0 : FVec Ideal S256x256 .f32}
    {n0 : FVec Ideal S1x256 .f32} {m0 : FVec Ideal S1x1 .f32} (G : Good A Q K V lf ig C0 n0 m0)
include G

/-- The stored matrix memory is the head's after its tokens. -/
theorem newC (d e : Fin 256) : k0_pay48 (F := Ideal) (k0_pay42 K V ig C0 m0 k0_pay29 (k0_pay30 ig) (k0_pay31 lf) k0_pay32 (k0_pay33 lf) k0_pay34) (ix3 (0 : Fin 1) d e) = A.C d e := by
  rw [pay48_gen, pay42_at, G.m, G.c0]
  exact newC_pad G.hlf G.hig G.zlf G.zig A.m0 G.k G.v A.C0 255 (by decide) d e

/-- The stored normaliser is the head's after its tokens. -/
theorem newn (d : Fin 256) : k0_pay49 (F := Ideal) (k0_pay43 K ig n0 m0 k0_pay29 (k0_pay30 ig) (k0_pay31 lf) k0_pay32 (k0_pay33 lf) k0_pay34) (ix3 (0 : Fin 1) (0 : Fin 1) d) = A.n d := by
  rw [pay49_gen, pay43_at, G.m, G.n]
  exact newn_pad G.hlf G.hig G.zlf G.zig A.m0 G.k A.n0 255 (by decide) d

/-- The stored stabiliser is the head's after its tokens. -/
theorem newm (l : Fin 128) : k0_pay50 (F := Ideal) (k0_pay39 m0 k0_pay29 (k0_pay30 ig) (k0_pay31 lf) k0_pay32 (k0_pay33 lf) k0_pay34) (ix3 (0 : Fin 1) (0 : Fin 1) l) = A.m := by
  rw [pay50_gen, pay39_at, G.m]
  exact stab_last G.hlf G.hig G.zlf G.zig A.m0 255 (by decide)

/-- The head's output of a token before its norm. -/
theorem hid (t : Fin 4) (e : Fin 256) : k0_pay51 (F := Ideal) Q n0 (k0_pay37 m0 k0_pay29 (k0_pay30 ig) (k0_pay31 lf) k0_pay32 (k0_pay33 lf) k0_pay34)
        (k0_pay44 Q K m0 k0_pay29 (k0_pay30 ig) (k0_pay31 lf) k0_pay32 (k0_pay33 lf) k0_pay34)
        (k0_pay45 m0 k0_pay29 (k0_pay30 ig) (k0_pay31 lf) k0_pay32 (k0_pay33 lf) k0_pay34)
        (k0_pay46 Q C0 m0 k0_pay29 (k0_pay30 ig) (k0_pay31 lf) k0_pay32 (k0_pay33 lf) k0_pay34)
        (k0_pay47 Q K V m0 k0_pay29 (k0_pay30 ig) (k0_pay31 lf) k0_pay32 (k0_pay33 lf) k0_pay34) (ix2 (⟨t.val, by omega⟩ : Fin 8) e) = A.hid t e := by
  rw [pay51_at, G.m, G.c0, G.n]
  exact head_pad G.hlf G.hig G.zlf G.zig A.m0 G.q G.k G.v A.C0 A.n0 t e

/-- The stored output of a token. -/
theorem out (g : FVec Ideal S1x256 .f32) (o : FVec Ideal S8x256 .f32) (hg : ∀ e, g (ix2 (0 : Fin 1) e) = A.g e)
    (ho : ∀ (t : Fin 4) e, o (ix2 (⟨t.val, by omega⟩ : Fin 8) e) = A.og t e) (t : Fin 4) (e : Fin 256) :
    k0_pay1 (F := Ideal) (k0_pay51 Q n0 (k0_pay37 m0 k0_pay29 (k0_pay30 ig) (k0_pay31 lf) k0_pay32 (k0_pay33 lf) k0_pay34)
        (k0_pay44 Q K m0 k0_pay29 (k0_pay30 ig) (k0_pay31 lf) k0_pay32 (k0_pay33 lf) k0_pay34)
        (k0_pay45 m0 k0_pay29 (k0_pay30 ig) (k0_pay31 lf) k0_pay32 (k0_pay33 lf) k0_pay34)
        (k0_pay46 Q C0 m0 k0_pay29 (k0_pay30 ig) (k0_pay31 lf) k0_pay32 (k0_pay33 lf) k0_pay34)
        (k0_pay47 Q K V m0 k0_pay29 (k0_pay30 ig) (k0_pay31 lf) k0_pay32 (k0_pay33 lf) k0_pay34)) (k0_pay52 g)
      (k0_pay53 Q n0 (k0_pay37 m0 k0_pay29 (k0_pay30 ig) (k0_pay31 lf) k0_pay32 (k0_pay33 lf) k0_pay34)
        (k0_pay44 Q K m0 k0_pay29 (k0_pay30 ig) (k0_pay31 lf) k0_pay32 (k0_pay33 lf) k0_pay34)
        (k0_pay45 m0 k0_pay29 (k0_pay30 ig) (k0_pay31 lf) k0_pay32 (k0_pay33 lf) k0_pay34)
        (k0_pay46 Q C0 m0 k0_pay29 (k0_pay30 ig) (k0_pay31 lf) k0_pay32 (k0_pay33 lf) k0_pay34)
        (k0_pay47 Q K V m0 k0_pay29 (k0_pay30 ig) (k0_pay31 lf) k0_pay32 (k0_pay33 lf) k0_pay34)) o (ix2 (⟨t.val, by omega⟩ : Fin 8) e) = A.out t e := by
  rw [pay1_gen, pay53_gen, hg, ho]
  simp only [G.hid]
  rfl
end Good

end Cert.KernelIdeal.Value

end
-- ==== Proof.MlstmKer.lean ====
module

public import proofs.«01_k».proof.Proof.MlstmRead
public import proofs.«01_k».proof.Proof.MlstmStep

@[expose] public section

set_option maxRecDepth 16384

noncomputable section

open Idealize.ShloMosaic Idealize.ShloMosaic.TcCoe Idealize.SL.Sem
open Idealize.ShloMosaic.Pipeline (Dat)

/-! What the decoding step writes back at each grid point: one head of one sequence. -/

namespace Cert.KernelIdeal.Value

open Cert.KernelIdeal Cert.KernelIdeal.Gen Cert.Mlstm

variable (m : (ℓ : Loc nD τ sig) → Buf (Elt Ideal) ℓ) (c : Dev nD)

/-- What a grid point's head reads of the arguments. -/
abbrev AA (t : Fin cfg0.N) : Args :=
  mk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (hd t)

/-- A load of a scratch filled and then stored through its first sixteen rows. -/
abbrev matScr {sp : Space} (v : View sig .tc sp S256x256 .bf16) (P : FVec Ideal S16x256 .bf16) (Z : FVec Ideal S256x256 .bf16) : FVec Ideal S256x256 .bf16 :=
  v.readCov (Val := Elt Ideal) [⟨Rect.unit (s := S256x256) ![0, 0] ![16, 256] inb_S256x256_S16x256_0_0, P⟩,
    ⟨Rect.unit (s := S256x256) ![0, 0] ![256, 256] inb_S256x256_S256x256_0_0, Z⟩] (Rect.unit (s := S256x256) ![0, 0] ![256, 256] inb_S256x256_S256x256_0_0).toLoadRect
/-- A load of a gate scratch filled and then stored through its first eight rows. -/
abbrev colScr {sp : Space} (v : View sig .tc sp S256x1 .f32) (P : FVec Ideal S8x1 .f32) (Z : FVec Ideal S256x1 .f32) : FVec Ideal S256x1 .f32 :=
  v.readCov (Val := Elt Ideal) [⟨Rect.unit (s := S256x1) ![0, 0] ![8, 1] inb_S256x1_S8x1_0_0, P⟩,
    ⟨Rect.unit (s := S256x1) ![0, 0] ![256, 1] inb_S256x1_S256x1_0_0, Z⟩] (Rect.unit (s := S256x1) ![0, 0] ![256, 1] inb_S256x1_S256x1_0_0).toLoadRect
/-- A load of the convolution's buffer from a row on. -/
abbrev bufScr {sp : Space} (v : View sig .tc sp S24x256 .f32) (P8 P7 P5 : FVec Ideal S8x256 .f32) (P6 : FVec Ideal S3x256 .f32) (o n : ℕ)
    (hB : ∀ a, (![o, 0] : Fin 2 → ℕ) a + (![n, 256] : Fin 2 → ℕ) a ≤ S24x256.size a) : FVec Ideal ⟨2, ![n, 256]⟩ .f32 :=
  v.readCov (Val := Elt Ideal) [⟨Rect.unit (s := S24x256) ![16, 0] ![8, 256] inb_S24x256_S8x256_16_0, P8⟩,
    ⟨Rect.unit (s := S24x256) ![8, 0] ![8, 256] inb_S24x256_S8x256_8_0, P7⟩, ⟨Rect.unit (s := S24x256) ![5, 0] ![3, 256] inb_S24x256_S3x256_5_0, P6⟩,
    ⟨Rect.unit (s := S24x256) ![0, 0] ![8, 256] inb_S24x256_S8x256_0_0, P5⟩] (Rect.unit (s := S24x256) ![o, 0] ![n, 256] hB).toLoadRect

/-- The convolution's buffer read from a row on. -/
abbrev Lrows (t : Fin cfg0.N) (o n : ℕ) (hB : ∀ a, (![o, 0] : Fin 2 → ℕ) a + (![n, 256] : Fin 2 → ℕ) a ≤ S24x256.size a) : FVec Ideal ⟨2, ![n, 256]⟩ .f32 :=
  bufScr (View.whole cc0_scratch0) k0_pay8 (k0_pay7 (iblk m c 0 t)) k0_pay5 (k0_pay6 (iblk m c 4 t)) o n hB

/-- The buffer's rows from row 5 on are the carried rows and the tokens. -/
theorem Lrows_at (t : Fin cfg0.N) (o n : ℕ) (hB : ∀ a, (![o, 0] : Fin 2 → ℕ) a + (![n, 256] : Fin 2 → ℕ) a ≤ S24x256.size a)
    (r : Fin n) (d : Fin 256) (hlo : 5 ≤ o + r.val) (hhi : o + r.val < 12) (j : ℕ) (hj : o + r.val = j + 5) :
    Lrows m c t o n hB (ix2 r d) = (AA m c t).pad j d := by
  refine (read_buf (View.whole cc0_scratch0) _ _ _ _ _ _ _ _ o n hB r d hlo hhi).trans ?_
  unfold Args.pad
  by_cases h : o + r.val < 8
  · rw [dif_pos h, dif_pos (show j < 3 by omega), pay6_gen]
    refine (iblk4 m c t _ d).trans ?_
    show m ((c : Thread nD τ).loc main_arg2) _ = m ((c : Thread nD τ).loc main_arg2) (ix4 (0 : Fin 1) (sq t) (⟨j, _⟩ : Fin 3) (chan (hd t) d))
    exact congrArg (fun i => m ((c : Thread nD τ).loc main_arg2) (ix4 (0 : Fin 1) (sq t) i (chan (hd t) d))) (Fin.ext (show o + r.val - 5 = j by omega))
  · rw [dif_neg h, dif_neg (show ¬ j < 3 by omega), dif_pos (show j - 3 < 4 by omega), pay7_gen]
    refine Eq.trans ?_ (iblk0 m c t (⟨j - 3, by omega⟩ : Fin 4) d)
    exact congrArg (fun i : Fin 8 => iblk m c 0 t (ix2 i d)) (Fin.ext (show o + r.val - 8 = j - 3 by omega))

/-- The convolution through its gate, as the point computes it. -/
abbrev Act (t : Fin cfg0.N) : FVec Ideal S8x256 .bf16 :=
  k0_pay10 (iblk m c 8 t) (k0_pay9 (iblk m c 9 t)) (Lrows m c t 5 8 inb_S24x256_S8x256_5_0) (Lrows m c t 6 8 inb_S24x256_S8x256_6_0)
    (Lrows m c t 7 8 inb_S24x256_S8x256_7_0) (Lrows m c t 8 8 inb_S24x256_S8x256_8_0)

theorem Act_at (t : Fin cfg0.N) (s : Fin 4) (d : Fin 256) : Act m c t (ix2 (⟨s.val, by omega⟩ : Fin 8) d) = (AA m c t).act s d := by
  refine act_of (AA m c t) _ _ _ _ _ _ (fun j d => (iblk8 m c t j d)) (fun d => ?_) (fun s d => ?_) (fun s d => ?_) (fun s d => ?_) (fun s d => ?_) s d
  · rw [pay9_gen, iblk9, V_v2]; rfl
  · exact Lrows_at m c t 5 8 _ _ d (by show 5 ≤ 5 + s.val; omega) (by show 5 + s.val < 12; omega) _ (by show 5 + s.val = s.val + 5; omega)
  · exact Lrows_at m c t 6 8 _ _ d (by show 5 ≤ 6 + s.val; omega) (by show 6 + s.val < 12; omega) _ (by show 6 + s.val = 1 + s.val + 5; omega)
  · exact Lrows_at m c t 7 8 _ _ d (by show 5 ≤ 7 + s.val; omega) (by show 7 + s.val < 12; omega) _ (by show 7 + s.val = 2 + s.val + 5; omega)
  · exact Lrows_at m c t 8 8 _ _ d (by show 5 ≤ 8 + s.val; omega) (by show 8 + s.val < 12; omega) _ (by show 8 + s.val = 3 + s.val + 5; omega)

/-- The queries' scratch, as the point's later loads read it. -/
abbrev Qs (t : Fin cfg0.N) : FVec Ideal S256x256 .bf16 :=
  matScr (View.whole cc0_scratch1) (k0_pay15 (k0_pay14 (k0_pay3 (iblk m c 10 t)) (iblk m c 8 t) (k0_pay9 (iblk m c 9 t)) (Lrows m c t 5 8 inb_S24x256_S8x256_5_0)
    (Lrows m c t 6 8 inb_S24x256_S8x256_6_0) (Lrows m c t 7 8 inb_S24x256_S8x256_7_0) (Lrows m c t 8 8 inb_S24x256_S8x256_8_0))) k0_pay11
/-- The keys' scratch. -/
abbrev Ks (t : Fin cfg0.N) : FVec Ideal S256x256 .bf16 :=
  matScr (View.whole cc0_scratch2) (k0_pay16 (k0_pay4 (iblk m c 11 t)) (Act m c t)) k0_pay12
/-- The values' scratch. -/
abbrev Vs (t : Fin cfg0.N) : FVec Ideal S256x256 .bf16 :=
  matScr (View.whole cc0_scratch3) (k0_pay17 (iblk m c 1 t)) k0_pay13
/-- The input gates' scratch. -/
abbrev Is (t : Fin cfg0.N) : FVec Ideal S256x1 .f32 :=
  colScr (View.whole cc0_scratch4) (k0_pay23 (k0_pay19 (BitVec.ofNat 32 (grid0.coords t 1)) (iblk m c 3 t) (iblk m c 12 t))) k0_pay21
/-- The log forget gates' scratch. -/
abbrev Fs (t : Fin cfg0.N) : FVec Ideal S256x1 .f32 :=
  colScr (View.whole cc0_scratch5) (k0_pay24 (k0_pay20 (BitVec.ofNat 32 (grid0.coords t 1)) (iblk m c 3 t) (iblk m c 12 t))) k0_pay22

theorem Qs_at (t : Fin cfg0.N) (s : Fin 4) : mat (Qs m c t) (up s) = (AA m c t).q s := by
  funext e
  refine (read_mat (View.whole cc0_scratch1) _ _ _ _ _ s e).trans ((pay15_gen _ _ _ _ _ _ _ s e).trans ?_)
  refine Finset.sum_congr rfl fun x _ => ?_
  refine congrArg₂ (fun a b : EReal => a * b) (Act_at m c t s x) ?_
  rw [pay3_gen, iblk10]; rfl

theorem Ks_at (t : Fin cfg0.N) (s : Fin 4) : mat (Ks m c t) (up s) = (AA m c t).k s := by
  funext e
  refine (read_mat (View.whole cc0_scratch2) _ _ _ _ _ s e).trans ((pay16_gen _ _ s e).trans ?_)
  refine congrArg (fun a : EReal => a * _) (Finset.sum_congr rfl fun x _ => ?_)
  refine congrArg₂ (fun a b : EReal => a * b) (Act_at m c t s x) ?_
  rw [pay4_gen, iblk11]; rfl

theorem Vs_at (t : Fin cfg0.N) (s : Fin 4) : mat (Vs m c t) (up s) = (AA m c t).v s := by
  funext e
  refine (read_mat (View.whole cc0_scratch3) _ _ _ _ _ s e).trans ((pay17_gen _ s e).trans ?_)
  exact iblk1 m c t s e

/-- A sum of two extended reals. -/
abbrev plus (a b : EReal) : EReal := a + b

/-- A gate column of a token with its bias. -/
theorem gate_at (t : Fin cfg0.N) (s : Fin 4) (x : Fin 8) :
    plus (iblk m c 3 t (ix2 (⟨s.val, by omega⟩ : Fin 8) (⟨x.val, by omega⟩ : Fin 128))) (iblk m c 12 t (ix2 (0 : Fin 1) (⟨x.val, by omega⟩ : Fin 128)))
      = plus (m ((c : Thread nD τ).loc main_arg1) (ix2 (tok (sq t) s) (⟨x.val, by omega⟩ : Fin 128)))
        (m ((c : Thread nD τ).loc main_arg10) (ix2 (⟨x.val / 4, by omega⟩ : Fin 2) (⟨x.val % 4, by omega⟩ : Fin 4))) :=
  congrArg₂ plus (iblk3 m c t s _) ((iblk12 m c t _).trans (V_v1 m c x))

theorem Is_at (t : Fin cfg0.N) (s : Fin 4) : col (Is m c t) (up s) = (AA m c t).gi s := by
  refine (read_col (View.whole cc0_scratch4) _ _ _ _ _ (up s)).trans ?_
  rw [dif_pos (show (up s).val < 8 by show s.val < 8; omega), (idx t).2.2.1]
  refine (pay23_gen _ _).trans ((if_pos (show s.val < 4 from s.isLt)).trans ((pay19_gen _ (by omega) _ _ _).trans ?_))
  refine (gate_at m c t s (⟨t.val % 4, by omega⟩ : Fin 8)).trans ?_
  exact congrArg₂ (fun (i : Fin 2) (j : Fin 4) => plus (m ((c : Thread nD τ).loc main_arg1) (ix2 (tok (sq t) s) (⟨t.val % 4, by omega⟩ : Fin 128)))
      (m ((c : Thread nD τ).loc main_arg10) (ix2 i j))) (Fin.ext (show t.val % 4 / 4 = 0 by omega)) (Fin.ext (show t.val % 4 % 4 = t.val % 4 by omega))

theorem Is_zero (t : Fin cfg0.N) (s : Fin 256) (hs : 4 ≤ s.val) : col (Is m c t) s = ⊥ := by
  refine (read_col (View.whole cc0_scratch4) _ _ _ _ _ s).trans ?_
  by_cases h : s.val < 8
  · rw [dif_pos h]
    exact (pay23_gen _ _).trans (if_neg (show ¬ s.val < 4 by omega))
  · rw [dif_neg h]
    exact pay21_gen s

theorem Fs_at (t : Fin cfg0.N) (s : Fin 4) : col (Fs m c t) (up s) = (AA m c t).lf s := by
  refine (read_col (View.whole cc0_scratch5) _ _ _ _ _ (up s)).trans ?_
  rw [dif_pos (show (up s).val < 8 by show s.val < 8; omega), (idx t).2.2.1]
  refine (pay24_gen _ (by omega) _ _ _).trans ((if_pos (show s.val < 4 from s.isLt)).trans (congrArg logsig ?_))
  refine (gate_at m c t s (⟨4 + t.val % 4, by omega⟩ : Fin 8)).trans ?_
  exact congrArg₂ (fun (i : Fin 2) (j : Fin 4) => plus (m ((c : Thread nD τ).loc main_arg1) (ix2 (tok (sq t) s) (⟨4 + t.val % 4, by omega⟩ : Fin 128)))
      (m ((c : Thread nD τ).loc main_arg10) (ix2 i j))) (Fin.ext (show (4 + t.val % 4) / 4 = 1 by omega)) (Fin.ext (show (4 + t.val % 4) % 4 = t.val % 4 by omega))

theorem Fs_zero (t : Fin cfg0.N) (s : Fin 256) (hs : 4 ≤ s.val) : col (Fs m c t) s = 0 := by
  refine (read_col (View.whole cc0_scratch5) _ _ _ _ _ s).trans ?_
  by_cases h : s.val < 8
  · rw [dif_pos h, (idx t).2.2.1]
    exact (pay24_gen _ (by omega) _ _ _).trans (if_neg (show ¬ s.val < 4 by omega))
  · rw [dif_neg h]
    exact pay22_gen s

/-- The row of the stacked states of a point is that of its sequence and head. -/
theorem row_eq (t : Fin cfg0.N) (h : t.val / 4 * 4 + t.val % 4 < 32) : (⟨t.val / 4 * 4 + t.val % 4, h⟩ : Fin 32) = (⟨(sq t).val * 4 + (hd t).val, h⟩ : Fin 32) := rfl

/-- At every grid point the scratches and the carried state hold its head. -/
theorem good (t : Fin cfg0.N) : Good (AA m c t) (Qs m c t) (Ks m c t) (Vs m c t) (Fs m c t) (Is m c t)
    (k0_pay25 (iblk m c 5 t)) (k0_pay26 (iblk m c 6 t)) (k0_pay27 (iblk m c 7 t)) where
  q := Qs_at m c t
  k := Ks_at m c t
  v := Vs_at m c t
  hlf := Fs_at m c t
  hig := Is_at m c t
  zlf := Fs_zero m c t
  zig := Is_zero m c t
  c0 := by
    funext d e
    rw [pay25_gen, iblk5]
    exact V_v4 m c (sq t) (hd t) d e
  n := by
    funext d
    rw [pay26_gen, iblk6]
    exact V_v5 m c (sq t) (hd t) d
  m := by
    rw [pay27_gen, iblk7]
    exact V_v7 m c (sq t) (hd t) 0

/-- The point's output of a token. -/
theorem point14 (t : Fin cfg0.N) (s : Fin 4) (e : Fin 256) : (outsAt0 m c t).1 (ix2 (⟨s.val, by omega⟩ : Fin 8) e) = (AA m c t).out s e := by
  simp only [outsAt0]
  frame_out
  exact (good m c t).out (iblk m c 13 t) (iblk m c 2 t) (fun e => (iblk13 m c t e).trans (V_v3 m c e)) (fun s e => iblk2 m c t s e) s e

/-- The point's matrix memory. -/
theorem point15 (t : Fin cfg0.N) (d e : Fin 256) : (outsAt0 m c t).2.1 (ix3 (0 : Fin 1) d e) = (AA m c t).C d e := by
  simp only [outsAt0]
  frame_out
  exact (good m c t).newC d e

/-- The point's normaliser. -/
theorem point16 (t : Fin cfg0.N) (d : Fin 256) : (outsAt0 m c t).2.2.1 (ix3 (0 : Fin 1) (0 : Fin 1) d) = (AA m c t).n d := by
  simp only [outsAt0]
  frame_out
  exact (good m c t).newn d

/-- The point's stabiliser. -/
theorem point17 (t : Fin cfg0.N) (l : Fin 128) : (outsAt0 m c t).2.2.2.1 (ix3 (0 : Fin 1) (0 : Fin 1) l) = (AA m c t).m := by
  simp only [outsAt0]
  frame_out
  exact (good m c t).newm l

/-- The point's last three rows of the convolution's input. -/
theorem point18 (t : Fin cfg0.N) (j : Fin 3) (d : Fin 256) : (outsAt0 m c t).2.2.2.2 (ix4 (0 : Fin 1) (0 : Fin 1) j d) = (AA m c t).pad (4 + j.val) d := by
  simp only [outsAt0]
  frame_out
  exact (pay2_gen _ j d).trans (Lrows_at m c t 9 3 inb_S24x256_S3x256_9_0 j d (by show 5 ≤ 9 + j.val; omega) (by show 9 + j.val < 12; omega) _ (by show 9 + j.val = 4 + j.val + 5; omega))

end Cert.KernelIdeal.Value

end
-- ==== Proof.MlstmRef.lean ====
module

public import proofs.«01_k».proof.Proof.MlstmSpec
public import proofs.«01_k».proof.Proof.Gen.ReferenceIdeal.Read
public import Idealize.ShloMosaic.Lib.Pointwise
public import Idealize.ShloMosaic.Lib.WordCmp

@[expose] public section

set_option maxRecDepth 16384

noncomputable section

open Idealize.ShloMosaic Idealize.ShloMosaic.TcCoe Idealize.SL.Sem

/-! The reference's stages at an index: the decoding step's formulas over its four tokens. -/

namespace Cert.ReferenceIdeal.Step

open Cert.ReferenceIdeal Cert.ReferenceIdeal.Read Cert.Mlstm

variable (x0 : FVec Ideal S80x6144 .f32) (x1 : FVec Ideal S80x128 .f32) (x2 : FVec Ideal S1x8x3x1024 .f32) (x3 : FVec Ideal S8x4x256x256 .f32)
  (x4 : FVec Ideal S8x4x256 .f32) (x5 : FVec Ideal S8x4 .f32) (x6 : FVec Ideal S4x1024 .f32) (x7 : FVec Ideal S1024 .f32) (x8 x9 : FVec Ideal S4x256x256 .f32)
  (x10 : FVec Ideal S2x4 .f32) (x11 : FVec Ideal S256 .f32)

theorem r12 (b : Fin 8) (h : Fin 4) (j : Fin 7) (d : Fin 256) : val_main_v12 (F := Ideal) x0 x2 (ix3 b j (chan h d)) = (mk x0 x1 x2 x3 x4 x5 x6 x7 x8 x9 x10 x11 b h).pad j.val d := by
  pointwise [val_main_v12, val_main_v11, val_main_v6, val_main_v2, val_main_v1, val_main_v0]
  unfold Args.pad
  by_cases h3 : j.val < 3
  · rw [dif_pos h3, dif_pos h3]; rfl
  · rw [dif_neg h3, dif_neg h3, dif_pos (show j.val - 3 < 4 by omega)]; rfl

theorem r42 (b : Fin 8) (h t : Fin 4) (d : Fin 256) : val_main_v42 (F := Ideal) x0 x2 x6 x7 (ix3 b t (chan h d)) = (mk x0 x1 x2 x3 x4 x5 x6 x7 x8 x9 x10 x11 b h).conv t d := by
  pointwise [val_main_v42, val_main_v41, val_main_v40, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13]
  have e0 : val_main_v12 (F := Ideal) x0 x2 (ix3 b (⟨t.val, by omega⟩ : Fin 7) (chan h d)) = (mk x0 x1 x2 x3 x4 x5 x6 x7 x8 x9 x10 x11 b h).pad (t.val) d := r12 x0 x1 x2 x3 x4 x5 x6 x7 x8 x9 x10 x11 b h _ d
  have e1 : val_main_v12 (F := Ideal) x0 x2 (ix3 b (⟨1 + t.val, by omega⟩ : Fin 7) (chan h d)) = (mk x0 x1 x2 x3 x4 x5 x6 x7 x8 x9 x10 x11 b h).pad (1 + t.val) d := r12 x0 x1 x2 x3 x4 x5 x6 x7 x8 x9 x10 x11 b h _ d
  have e2 : val_main_v12 (F := Ideal) x0 x2 (ix3 b (⟨2 + t.val, by omega⟩ : Fin 7) (chan h d)) = (mk x0 x1 x2 x3 x4 x5 x6 x7 x8 x9 x10 x11 b h).pad (2 + t.val) d := r12 x0 x1 x2 x3 x4 x5 x6 x7 x8 x9 x10 x11 b h _ d
  have e3 : val_main_v12 (F := Ideal) x0 x2 (ix3 b (⟨3 + t.val, by omega⟩ : Fin 7) (chan h d)) = (mk x0 x1 x2 x3 x4 x5 x6 x7 x8 x9 x10 x11 b h).pad (3 + t.val) d := r12 x0 x1 x2 x3 x4 x5 x6 x7 x8 x9 x10 x11 b h _ d
  unfold Args.conv
  rw [← e0, ← e1, ← e2, ← e3]
  rfl

theorem r43 (b : Fin 8) (h t : Fin 4) (d : Fin 256) : val_main_v43 (F := Ideal) x0 x2 x6 x7 (ix3 b t (chan h d)) = (mk x0 x1 x2 x3 x4 x5 x6 x7 x8 x9 x10 x11 b h).act t d := by
  pointwise [val_main_v43, val_main_call0_v0, val_main_call0_v1, val_main_call0_v2, val_main_call0_v3, val_main_call0_v4, val_main_call0_v5, val_main_call0_cst, val_main_call0_cst_0]
  unfold Args.act Ideal.logistic
  rw [← r42 x0 x1 x2 x3 x4 x5 x6 x7 x8 x9 x10 x11]

theorem r46 (b : Fin 8) (t h : Fin 4) (e : Fin 256) : val_main_v46 (F := Ideal) x0 x2 x6 x7 x8 (ix4 b t h e) = (mk x0 x1 x2 x3 x4 x5 x6 x7 x8 x9 x10 x11 b h).q t e := by
  pointwise [val_main_v46, val_main_v45, val_main_v44]
  unfold Args.q
  refine Finset.sum_congr rfl fun j _ => ?_
  rw [← r43 x0 x1 x2 x3 x4 x5 x6 x7 x8 x9 x10 x11, mul_comm]
  rfl

theorem r50 (b : Fin 8) (t h : Fin 4) (e : Fin 256) : val_main_v50 (F := Ideal) x0 x2 x6 x7 x9 (ix4 b t h e) = (mk x0 x1 x2 x3 x4 x5 x6 x7 x8 x9 x10 x11 b h).k t e := by
  pointwise [val_main_v50, val_main_v49, val_main_cst, val_main_v48, val_main_v47, val_main_v44]
  unfold Args.k
  congr 1
  refine Finset.sum_congr rfl fun j _ => ?_
  rw [← r43 x0 x1 x2 x3 x4 x5 x6 x7 x8 x9 x10 x11, mul_comm]
  rfl

theorem r51 (b : Fin 8) (t h : Fin 4) (e : Fin 256) : val_main_v51 (F := Ideal) x0 (ix4 b t h e) = (mk x0 x1 x2 x3 x4 x5 x6 x7 x8 x9 x10 x11 b h).v t e := by
  pointwise [val_main_v51, val_main_v7, val_main_v2, val_main_v1, val_main_v0]
  rfl

theorem r56 (b : Fin 8) (t h : Fin 4) : val_main_v56 (F := Ideal) x1 x10 (ix3 b t h) = (mk x0 x1 x2 x3 x4 x5 x6 x7 x8 x9 x10 x11 b h).gi t := by
  pointwise [val_main_v56, val_main_v55, val_main_v54, val_main_v53, val_main_v52, val_main_v9, val_main_v5, val_main_v4, val_main_v3]
  rfl

theorem r61 (b : Fin 8) (t h : Fin 4) : val_main_v61 (F := Ideal) x1 x10 (ix3 b t h) = (mk x0 x1 x2 x3 x4 x5 x6 x7 x8 x9 x10 x11 b h).gf t := by
  pointwise [val_main_v61, val_main_v60, val_main_v59, val_main_v58, val_main_v57, val_main_v10, val_main_v5, val_main_v4, val_main_v3]
  rfl

theorem r62 (b : Fin 8) (t h : Fin 4) : val_main_v62 (F := Ideal) x1 x10 (ix3 b t h) = (mk x0 x1 x2 x3 x4 x5 x6 x7 x8 x9 x10 x11 b h).lf t := by
  pointwise [val_main_v62, val_main_call1_v0, val_main_call1_v1, val_main_call1_call0_cst, val_main_call1_call0_v0, val_main_call1_call0_v1, val_main_call1_call0_v2, val_main_call1_call0_v3, val_main_call1_call0_v4, val_main_call1_call0_v5, val_main_call1_call0_v6, val_main_call1_call0_v7, val_main_call1_call0_v8, val_main_call1_call0_v9, val_main_call1_call0_v10, val_main_call1_call0_v11]
  rw [if_neg (fun hne => hne rfl), logsig_eq, r61 x0 x1 x2 x3 x4 x5 x6 x7 x8 x9 x10 x11]
  rfl

/-- A running sum of four, read at an index. -/
theorem window_at (x : FVec Ideal S8x4x4 .f32) (z : FVec Ideal S_ .f32) (hz : ∀ i, z i = (0 : EReal)) (b : Fin 8) (t h : Fin 4) :
    Host.reduceWindowAdd (F := Ideal) ![1, 4, 1] ![1, 1, 1] ![0, 3, 0] ![0, 0, 0] x z
      Gen.reduceWindows_S8x4x4_S8x4x4_w1s1p0_0_w4s1p3_0_w1s1p0_0 Gen.h_S_ (ix3 b t h) = cum (fun s => x (ix3 b s h)) t := by
  have key : ∀ p : (⟨3, ![1, 4, 1]⟩ : Shape).Idx, (if hin : ∀ a : Fin 3, (![0, 3, 0] : Fin 3 → ℕ) a ≤ ((ix3 b t h : S8x4x4.Idx) a).val * (![1, 1, 1] : Fin 3 → ℕ) a + (p a).val
        ∧ ((ix3 b t h : S8x4x4.Idx) a).val * (![1, 1, 1] : Fin 3 → ℕ) a + (p a).val - (![0, 3, 0] : Fin 3 → ℕ) a < S8x4x4.size a
      then x (fun a => ⟨_, (hin a).2⟩) else (0 : EReal)) = if hn : 3 ≤ t.val + (p 1).val then x (ix3 b (⟨t.val + (p 1).val - 3, by have : (p 1).val < 4 := (p 1).isLt; omega⟩ : Fin 4) h) else 0 := by
    intro p
    have p0 : (p 0).val < 1 := (p 0).isLt
    have p1 : (p 1).val < 4 := (p 1).isLt
    have p2 : (p 2).val < 1 := (p 2).isLt
    by_cases hn : 3 ≤ t.val + (p 1).val
    · rw [dif_pos hn, dif_pos]
      · congr 1
        funext a
        apply Fin.ext
        match a with
        | ⟨0, _⟩ => show b.val * 1 + (p 0).val - 0 = b.val; omega
        | ⟨1, _⟩ => show t.val * 1 + (p 1).val - 3 = t.val + (p 1).val - 3; omega
        | ⟨2, _⟩ => show h.val * 1 + (p 2).val - 0 = h.val; omega
      · intro a
        match a with
        | ⟨0, _⟩ => exact ⟨Nat.zero_le _, (by have := b.isLt; show b.val * 1 + (p 0).val - 0 < 8; omega)⟩
        | ⟨1, _⟩ => exact ⟨(show 3 ≤ t.val * 1 + (p 1).val by omega), (show t.val * 1 + (p 1).val - 3 < 4 by omega)⟩
        | ⟨2, _⟩ => exact ⟨Nat.zero_le _, (by have := h.isLt; show h.val * 1 + (p 2).val - 0 < 4; omega)⟩
    · rw [dif_neg hn, dif_neg]
      intro hin
      have h1 := (hin 1).1
      change 3 ≤ t.val * 1 + (p 1).val at h1
      omega
  have hrm : ∀ n : Fin (⟨3, ![1, 4, 1]⟩ : Shape).numel, (((⟨3, ![1, 4, 1]⟩ : Shape).rowMajor.symm n) 1).val = n.val := by decide +kernel
  show Host.reduceWindow (fun a b : EReal => a + b) ![1, 4, 1] ![1, 1, 1] ![0, 3, 0] ![0, 0, 0] x z
      Gen.reduceWindows_S8x4x4_S8x4x4_w1s1p0_0_w4s1p3_0_w1s1p0_0 Gen.h_S_ (ix3 b t h) = _
  unfold Host.reduceWindow
  simp only [hz]
  refine (List.foldl_ext _ (fun (r : EReal) (n : Fin (⟨3, ![1, 4, 1]⟩ : Shape).numel) => r + (if hn : 3 ≤ t.val + n.val then x (ix3 b (⟨t.val + n.val - 3, by have : n.val < 4 := n.isLt; omega⟩ : Fin 4) h) else 0)) _ (fun r n _ => ?_)).trans ?_
  · refine (congrArg (fun y : EReal => r + y) (key ((⟨3, ![1, 4, 1]⟩ : Shape).rowMajor.symm n))).trans ?_
    simp only [hrm]
  · rw [show List.finRange (⟨3, ![1, 4, 1]⟩ : Shape).numel = ([0, 1, 2, 3] : List (Fin 4)) from rfl]
    unfold cum
    simp only [List.foldl, Fin.sum_univ_four, zero_add]
    fin_cases t <;> simp [Fin.le_def]

theorem r64 (b : Fin 8) (t h : Fin 4) : val_main_v64 (F := Ideal) x1 x10 (ix3 b t h) = cum (mk x0 x1 x2 x3 x4 x5 x6 x7 x8 x9 x10 x11 b h).lf t := by
  unfold val_main_v64
  refine (window_at _ _ (fun i => ?_) b t h).trans ?_
  · show Ideal.ofBits .f32 0x00000000#32 = 0
    simp [Ideal.ofBits, Ideal.ieee]
  · exact congrArg (fun f => cum f t) (funext fun s => r62 x0 x1 x2 x3 x4 x5 x6 x7 x8 x9 x10 x11 b s h)

theorem r77 (b : Fin 8) (h t s : Fin 4) : val_main_v77 (F := Ideal) x1 x10 (ix4 b h t s) = gap (mk x0 x1 x2 x3 x4 x5 x6 x7 x8 x9 x10 x11 b h).lf (mk x0 x1 x2 x3 x4 x5 x6 x7 x8 x9 x10 x11 b h).gi t s := by
  pointwise [val_main_v77, val_main_call4_v0, val_main_call4_v1, val_main_call4_v2, val_main_cst_0, val_main_v76, val_main_v75, val_main_v74, val_main_v73, val_main_v72, val_main_v71, val_main_v70, val_main_v69, val_main_v68, val_main_call3_v0, val_main_call3_v1, val_main_call3_v2, val_main_call3_v3, val_main_call3_v4, val_main_call3_v5, val_main_call3_c, val_main_call3_c_0, val_main_v67, val_main_v66, val_main_v65, val_main_c]
  rw [r64 x0 x1 x2 x3 x4 x5 x6 x7 x8 x9 x10 x11 b t h, r64 x0 x1 x2 x3 x4 x5 x6 x7 x8 x9 x10 x11 b s h, r56 x0 x1 x2 x3 x4 x5 x6 x7 x8 x9 x10 x11]
  rw [show IntOp.addi (BitVec.ofNat 32 t.val) 0#32 = BitVec.ofNat 32 t.val from BitVec.add_zero _, WordCmp.cmpi_sge_ofNat (by omega) (by omega)]
  have hb : id (constant (F := Ideal) S_ FTy.f32 4286578688#32) ix0 = (⊥ : EReal) := by
    show Ideal.ofBits .f32 0xFF800000#32 = ⊥
    simp [Ideal.ofBits, Ideal.ieee]
  rw [hb]
  unfold gap
  by_cases hs : s ≤ t
  · rw [if_pos hs, decide_eq_true (show s.val ≤ t.val from hs)]; rfl
  · rw [if_neg hs, decide_eq_false (show ¬ s.val ≤ t.val from hs)]; rfl

theorem r82 (b : Fin 8) (h t : Fin 4) : val_main_v82 (F := Ideal) x1 x5 x10 (ix3 b h t) = stab (mk x0 x1 x2 x3 x4 x5 x6 x7 x8 x9 x10 x11 b h).lf (mk x0 x1 x2 x3 x4 x5 x6 x7 x8 x9 x10 x11 b h).gi (mk x0 x1 x2 x3 x4 x5 x6 x7 x8 x9 x10 x11 b h).m0 t := by
  pointwise [val_main_v82, val_main_v81, val_main_v80, val_main_v79, val_main_v78, val_main_v65, val_main_cst_1]
  rw [r64 x0 x1 x2 x3 x4 x5 x6 x7 x8 x9 x10 x11, show Ideal.ofBits FTy.f32 4286578688#32 = ⊥ by simp [Ideal.ofBits, Ideal.ieee]]
  unfold stab
  congr 1
  exact congrArg (fun f => Finset.fold max ⊥ f Finset.univ) (funext fun s => r77 x0 x1 x2 x3 x4 x5 x6 x7 x8 x9 x10 x11 b h t s)

theorem r84 (b : Fin 8) (h t : Fin 4) : val_main_v84 (F := Ideal) x1 x5 x10 (ix3 b h t) = carry (mk x0 x1 x2 x3 x4 x5 x6 x7 x8 x9 x10 x11 b h).lf (mk x0 x1 x2 x3 x4 x5 x6 x7 x8 x9 x10 x11 b h).gi (mk x0 x1 x2 x3 x4 x5 x6 x7 x8 x9 x10 x11 b h).m0 t := by
  pointwise [val_main_v84, val_main_v83, val_main_v80, val_main_v79, val_main_v78, val_main_v65]
  rw [r64 x0 x1 x2 x3 x4 x5 x6 x7 x8 x9 x10 x11, r82 x0 x1 x2 x3 x4 x5 x6 x7 x8 x9 x10 x11]
  rfl

theorem r90 (b : Fin 8) (h t s : Fin 4) : val_main_v90 (F := Ideal) x0 x1 x2 x5 x6 x7 x8 x9 x10 (ix4 b h t s) = score (mk x0 x1 x2 x3 x4 x5 x6 x7 x8 x9 x10 x11 b h).lf (mk x0 x1 x2 x3 x4 x5 x6 x7 x8 x9 x10 x11 b h).gi (mk x0 x1 x2 x3 x4 x5 x6 x7 x8 x9 x10 x11 b h).m0 (mk x0 x1 x2 x3 x4 x5 x6 x7 x8 x9 x10 x11 b h).q (mk x0 x1 x2 x3 x4 x5 x6 x7 x8 x9 x10 x11 b h).k t s := by
  pointwise [val_main_v90, val_main_v89, val_main_v88, val_main_v87, val_main_v86, val_main_v85]
  rw [r77 x0 x1 x2 x3 x4 x5 x6 x7 x8 x9 x10 x11, r82 x0 x1 x2 x3 x4 x5 x6 x7 x8 x9 x10 x11]
  unfold score
  simp only [r46 x0 x1 x2 x3 x4 x5 x6 x7 x8 x9 x10 x11, r50 x0 x1 x2 x3 x4 x5 x6 x7 x8 x9 x10 x11]

theorem r137 (b : Fin 8) (h t : Fin 4) (e : Fin 256) : val_main_v137 (F := Ideal) x0 x1 x2 x3 x4 x5 x6 x7 x8 x9 x10 (ix4 b t h e) = (mk x0 x1 x2 x3 x4 x5 x6 x7 x8 x9 x10 x11 b h).hid t e := by
  pointwise [val_main_v137, val_main_v107, val_main_v106, val_main_v105, val_main_v104, val_main_v103, val_main_v102, val_main_v101, val_main_v100, val_main_v99, val_main_cst_2, val_main_v98, val_main_v97, val_main_v96, val_main_v95, val_main_v94, val_main_v93, val_main_v92, val_main_v91]
  rw [r84 x0 x1 x2 x3 x4 x5 x6 x7 x8 x9 x10 x11, r82 x0 x1 x2 x3 x4 x5 x6 x7 x8 x9 x10 x11]
  simp only [r46 x0 x1 x2 x3 x4 x5 x6 x7 x8 x9 x10 x11, r90 x0 x1 x2 x3 x4 x5 x6 x7 x8 x9 x10 x11, r51 x0 x1 x2 x3 x4 x5 x6 x7 x8 x9 x10 x11]
  rfl

theorem r109 (b : Fin 8) (h : Fin 4) : val_main_v109 (F := Ideal) x1 x5 x10 (ix2 b h) = (mk x0 x1 x2 x3 x4 x5 x6 x7 x8 x9 x10 x11 b h).m := by
  pointwise [val_main_v109, val_main_v108]
  exact r82 x0 x1 x2 x3 x4 x5 x6 x7 x8 x9 x10 x11 b h 3

theorem r114 (b : Fin 8) (h : Fin 4) : val_main_v114 (F := Ideal) x1 x5 x10 (ix2 b h) = carry (mk x0 x1 x2 x3 x4 x5 x6 x7 x8 x9 x10 x11 b h).lf (mk x0 x1 x2 x3 x4 x5 x6 x7 x8 x9 x10 x11 b h).gi (mk x0 x1 x2 x3 x4 x5 x6 x7 x8 x9 x10 x11 b h).m0 3 := by
  pointwise [val_main_v114, val_main_v113, val_main_v112, val_main_v111, val_main_v110, val_main_v65]
  rw [r109 x0 x1 x2 x3 x4 x5 x6 x7 x8 x9 x10 x11]
  unfold carry Args.m
  rw [← r64 x0 x1 x2 x3 x4 x5 x6 x7 x8 x9 x10 x11]
  rfl

theorem r122 (b : Fin 8) (h s : Fin 4) : val_main_v122 (F := Ideal) x1 x5 x10 (ix3 b h s) = share (mk x0 x1 x2 x3 x4 x5 x6 x7 x8 x9 x10 x11 b h).lf (mk x0 x1 x2 x3 x4 x5 x6 x7 x8 x9 x10 x11 b h).gi (mk x0 x1 x2 x3 x4 x5 x6 x7 x8 x9 x10 x11 b h).m0 3 s := by
  pointwise [val_main_v122, val_main_v121, val_main_v120, val_main_v119, val_main_v118, val_main_v117, val_main_v116, val_main_v115, val_main_v66, val_main_v65]
  rw [r109 x0 x1 x2 x3 x4 x5 x6 x7 x8 x9 x10 x11, r56 x0 x1 x2 x3 x4 x5 x6 x7 x8 x9 x10 x11, r64 x0 x1 x2 x3 x4 x5 x6 x7 x8 x9 x10 x11 b s h]
  unfold share Args.m
  rw [← r64 x0 x1 x2 x3 x4 x5 x6 x7 x8 x9 x10 x11 b 3 h]

theorem r131 (b : Fin 8) (h : Fin 4) (d e : Fin 256) : val_main_v131 (F := Ideal) x0 x1 x2 x3 x5 x6 x7 x9 x10 (ix4 b h d e) = (mk x0 x1 x2 x3 x4 x5 x6 x7 x8 x9 x10 x11 b h).C d e := by
  pointwise [val_main_v131, val_main_v130, val_main_v129, val_main_v128, val_main_v127, val_main_v126, val_main_v125, val_main_v124, val_main_v123]
  rw [r114 x0 x1 x2 x3 x4 x5 x6 x7 x8 x9 x10 x11]
  simp only [r122 x0 x1 x2 x3 x4 x5 x6 x7 x8 x9 x10 x11, r50 x0 x1 x2 x3 x4 x5 x6 x7 x8 x9 x10 x11, r51 x0 x1 x2 x3 x4 x5 x6 x7 x8 x9 x10 x11]
  unfold Args.C newC
  congr 1
  exact Finset.sum_congr rfl fun s _ => by rw [mul_comm (share _ _ _ _ _)]

theorem r136 (b : Fin 8) (h : Fin 4) (d : Fin 256) : val_main_v136 (F := Ideal) x0 x1 x2 x4 x5 x6 x7 x9 x10 (ix3 b h d) = (mk x0 x1 x2 x3 x4 x5 x6 x7 x8 x9 x10 x11 b h).n d := by
  pointwise [val_main_v136, val_main_v135, val_main_v134, val_main_v133, val_main_v132]
  rw [r114 x0 x1 x2 x3 x4 x5 x6 x7 x8 x9 x10 x11]
  simp only [r122 x0 x1 x2 x3 x4 x5 x6 x7 x8 x9 x10 x11, r50 x0 x1 x2 x3 x4 x5 x6 x7 x8 x9 x10 x11]
  unfold Args.n newn
  congr 1
  exact Finset.sum_congr rfl fun s _ => by rw [mul_comm (share _ _ _ _ _)]

theorem r158 (b : Fin 8) (h t : Fin 4) (e : Fin 256) : val_main_v158 (F := Ideal) x0 x1 x2 x3 x4 x5 x6 x7 x8 x9 x10 x11 (ix4 b t h e) = (mk x0 x1 x2 x3 x4 x5 x6 x7 x8 x9 x10 x11 b h).out t e := by
  pointwise [val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v140, val_main_v139, val_main_v138, val_main_cst_3, val_main_cst_4, val_main_cst_5, val_main_cst_6, val_main_cst_7, val_main_v8, val_main_v2, val_main_v1, val_main_v0]
  simp only [r137 x0 x1 x2 x3 x4 x5 x6 x7 x8 x9 x10 x11]
  rfl

/-- The first result at a token's row. -/
theorem r161 (b : Fin 8) (h t : Fin 4) (e : Fin 256) : val_main_v161 (F := Ideal) x0 x1 x2 x3 x4 x5 x6 x7 x8 x9 x10 x11
    (ix2 (⟨b.val * 8 + t.val, by omega⟩ : Fin 64) (chan h e)) = (mk x0 x1 x2 x3 x4 x5 x6 x7 x8 x9 x10 x11 b h).out t e := by
  pointwise [val_main_v161, val_main_v160, val_main_v159]
  rw [dif_pos ⟨by omega, by omega⟩]
  refine Eq.trans ?_ (r158 x0 x1 x2 x3 x4 x5 x6 x7 x8 x9 x10 x11 b h t e)
  generalize val_main_v158 (F := Ideal) x0 x1 x2 x3 x4 x5 x6 x7 x8 x9 x10 x11 = W
  exact congrArg (fun q : Fin 4 => W (ix4 b q h e)) (Fin.ext (show (b.val * 8 + t.val) % 8 = t.val by omega))
/-- The second result: the matrix memories. -/
theorem r162 (b : Fin 8) (h : Fin 4) (d e : Fin 256) : val_main_v162 (F := Ideal) x0 x1 x2 x3 x5 x6 x7 x9 x10
    (ix3 (⟨b.val * 4 + h.val, by omega⟩ : Fin 32) d e) = (mk x0 x1 x2 x3 x4 x5 x6 x7 x8 x9 x10 x11 b h).C d e := by
  rw [← r131 x0 x1 x2 x3 x4 x5 x6 x7 x8 x9 x10 x11]
  pointwise [val_main_v162]
  try rfl
/-- The third result: the normalisers. -/
theorem r163 (b : Fin 8) (h : Fin 4) (d : Fin 256) : val_main_v163 (F := Ideal) x0 x1 x2 x4 x5 x6 x7 x9 x10
    (ix3 (⟨b.val * 4 + h.val, by omega⟩ : Fin 32) (0 : Fin 1) d) = (mk x0 x1 x2 x3 x4 x5 x6 x7 x8 x9 x10 x11 b h).n d := by
  rw [← r136 x0 x1 x2 x3 x4 x5 x6 x7 x8 x9 x10 x11]
  pointwise [val_main_v163]
  try rfl
/-- The fourth result: the stabilisers. -/
theorem r165 (b : Fin 8) (h : Fin 4) (l : Fin 128) : val_main_v165 (F := Ideal) x1 x5 x10
    (ix3 (⟨b.val * 4 + h.val, by omega⟩ : Fin 32) (0 : Fin 1) l) = (mk x0 x1 x2 x3 x4 x5 x6 x7 x8 x9 x10 x11 b h).m := by
  rw [← r109 x0 x1 x2 x3 x4 x5 x6 x7 x8 x9 x10 x11]
  pointwise [val_main_v165, val_main_v164]
  try rfl
/-- The fifth result: the last three rows of the convolution's input. -/
theorem r166 (b : Fin 8) (h : Fin 4) (j : Fin 3) (d : Fin 256) : val_main_v166 (F := Ideal) x0 x2
    (ix4 (0 : Fin 1) b j (chan h d)) = (mk x0 x1 x2 x3 x4 x5 x6 x7 x8 x9 x10 x11 b h).pad (4 + j.val) d := by
  pointwise [val_main_v166, val_main_v63]
  exact r12 x0 x1 x2 x3 x4 x5 x6 x7 x8 x9 x10 x11 b h ⟨4 + j.val, by omega⟩ d

end Cert.ReferenceIdeal.Step

end
-- ==== Proof.MlstmValue.lean ====
module

public import proofs.«01_k».proof.Proof.MlstmKer
public import proofs.«01_k».proof.Proof.MlstmRef
public import proofs.«01_k».proof.Proof.Gen.ReferenceIdeal.Run
public import proofs.«01_k».proof.Defs
public import proofs.«01_k».proof.Proof.Gen.On_sample_tokens
public import Idealize.ShloMosaic.Lib.Claim

@[expose] public section

set_option maxRecDepth 16384

noncomputable section

open Idealize.ShloMosaic Idealize.ShloMosaic.TcCoe Idealize.SL.Sem
open Idealize.ShloMosaic.Pipeline (Dat)

/-! The decoding step's results: the kernel's arrays are the reference's. -/

namespace Cert.KernelIdeal.Value

open Cert.KernelIdeal Cert.KernelIdeal.Gen Cert.Mlstm

variable (m : (ℓ : Loc nD τ sig) → Buf (Elt Ideal) ℓ) (c : Dev nD)

/-- The reference's result for window 14, of the kernel's arguments. -/
abbrev RV14 := Cert.ReferenceIdeal.Read.val_main_v161 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
/-- The reference's result for window 15, of the kernel's arguments. -/
abbrev RV15 := Cert.ReferenceIdeal.Read.val_main_v162 (F := Ideal) (m ((c : Thread nD τ).loc main_arg0)) (m ((c : Thread nD τ).loc main_arg1)) (m ((c : Thread nD τ).loc main_arg2)) (m ((c : Thread nD τ).loc main_arg3)) (m ((c : Thread nD τ).loc main_arg5)) (m ((c : Thread nD τ).loc main_arg6)) (m ((c : Thread nD τ).loc main_arg7)) (m ((c : Thread nD τ).loc main_arg9)) (m ((c : Thread nD τ).loc main_arg10))
/-- The reference's result for window 16, of the kernel's arguments. -/
abbrev RV16 := Cert.ReferenceIdeal.Read.val_main_v163 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg9)) (m ((c : Thread nD τ).loc main_arg10))
/-- The reference's result for window 17, of the kernel's arguments. -/
abbrev RV17 := Cert.ReferenceIdeal.Read.val_main_v165 (F := Ideal) (m ((c : Thread nD τ).loc main_arg1)) (m ((c : Thread nD τ).loc main_arg5)) (m ((c : Thread nD τ).loc main_arg10))
/-- The reference's result for window 18, of the kernel's arguments. -/
abbrev RV18 := Cert.ReferenceIdeal.Read.val_main_v166 (F := Ideal) (m ((c : Thread nD τ).loc main_arg0)) (m ((c : Thread nD τ).loc main_arg2))

/-- The output array holds the reference's at the rows of the sequences' tokens. -/
theorem final14 (i : S64x1024.Idx) : (i 0).val % 8 < 4 → (dats m 0 c).arrAt 14 cfg0.N i = RV14 m c i := by
  refine (dats m 0 c).arrAt_forall_of_covers 14 (fun i v => (i (0 : Fin 2)).val % 8 < 4 → v = RV14 m c i) (by decide +kernel) (fun t hf y => ?_) i
  intro h
  revert h
  blk_simp
  rw [after0_14]
  idx_vars y
  intro h
  have hy : y0.val < 4 := by
    have e : (t.val / 4 * 8 + y0.val) % 8 < 4 := by
      refine lt_of_eq_of_lt ?_ h
      simp only [idx t]
      rfl
    have := y0.isLt
    omega
  refine (point14 m c t ⟨y0.val, hy⟩ y1).trans ((Cert.ReferenceIdeal.Step.r161 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (hd t) ⟨y0.val, hy⟩ y1).symm.trans (congrArg (RV14 m c) ?_))
  blk_ext [idx t]

/-- The array of the matrix memories is the reference's. -/
theorem final15 : (dats m 0 c).arrAt 15 cfg0.N = RV15 m c := by
  refine (dats m 0 c).arrAt_eq_of_covers 15 _ (by decide +kernel) fun t _ y => ?_
  blk_simp
  rw [after0_15]
  idx_vars y
  obtain rfl : y0 = 0 := Subsingleton.elim _ _
  refine (point15 m c t y1 y2).trans ((Cert.ReferenceIdeal.Step.r162 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (hd t) y1 y2).symm.trans (congrArg (RV15 m c) ?_))
  blk_ext [idx t]

/-- The array of the normalisers is the reference's. -/
theorem final16 : (dats m 0 c).arrAt 16 cfg0.N = RV16 m c := by
  refine (dats m 0 c).arrAt_eq_of_covers 16 _ (by decide +kernel) fun t _ y => ?_
  blk_simp
  rw [after0_16]
  idx_vars y
  obtain rfl : y0 = 0 := Subsingleton.elim _ _
  obtain rfl : y1 = 0 := Subsingleton.elim _ _
  refine (point16 m c t y2).trans ((Cert.ReferenceIdeal.Step.r163 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (hd t) y2).symm.trans (congrArg (RV16 m c) ?_))
  blk_ext [idx t]

/-- The array of the stabilisers is the reference's. -/
theorem final17 : (dats m 0 c).arrAt 17 cfg0.N = RV17 m c := by
  refine (dats m 0 c).arrAt_eq_of_covers 17 _ (by decide +kernel) fun t _ y => ?_
  blk_simp
  rw [after0_17]
  idx_vars y
  obtain rfl : y0 = 0 := Subsingleton.elim _ _
  obtain rfl : y1 = 0 := Subsingleton.elim _ _
  refine (point17 m c t y2).trans ((Cert.ReferenceIdeal.Step.r165 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (hd t) y2).symm.trans (congrArg (RV17 m c) ?_))
  blk_ext [idx t]

/-- The array of the convolution states is the reference's. -/
theorem final18 : (dats m 0 c).arrAt 18 cfg0.N = RV18 m c := by
  refine (dats m 0 c).arrAt_eq_of_covers 18 _ (by decide +kernel) fun t _ y => ?_
  blk_simp
  rw [after0_18]
  idx_vars y
  obtain rfl : y0 = 0 := Subsingleton.elim _ _
  obtain rfl : y1 = 0 := Subsingleton.elim _ _
  refine (point18 m c t y2 y3).trans ((Cert.ReferenceIdeal.Step.r166 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (sq t) (hd t) y2 y3).symm.trans (congrArg (RV18 m c) ?_))
  blk_ext [idx t]

/-- The rows the mask selects are the sequences' tokens. -/
theorem mask_rows : ∀ r : Fin 64, IntOp.cmpi CmpIPredicate.slt (IntOp.andi (BitVec.ofNat 32 r.val) 7#32) 4#32 = 1#1 → r.val % 8 < 4 := by decide

/-- The mLSTM decoding step: at every element the mask selects, the kernel's results are the reference's. -/
theorem algebraic : Cert.algebraic_KernelIdeal_ReferenceIdeal_on_sample_tokens := by
  intro m g m' g' _ hagree
  refine ⟨fun c => RV14 m c, fun c => RV15 m c, fun c => RV16 m c, fun c => RV17 m c, fun c => RV18 m c, ?_, ?_⟩
  · refine (θ_run Cert.KernelIdeal.defs _ _).mono (fun r h c => ?_) (run_blocks m g)
    obtain ⟨h0, h1, h2, h3, h4, hargs⟩ := h c
    refine ⟨fun i hi => ?_, fun i _ => congrFun (h1.trans (final15 m c)) i, fun i _ => congrFun (h2.trans (final16 m c)) i,
      fun i _ => congrFun (h3.trans (final17 m c)) i, fun i _ => congrFun (h4.trans (final18 m c)) i, hargs⟩
    refine (congrFun h0 i).trans (final14 m c i (mask_rows (i 0) hi))
  · refine (θ_run Cert.ReferenceIdeal.defs _ _).mono (fun r h c => ?_) (Cert.ReferenceIdeal.Value.run (F := Ideal) m' g')
    obtain ⟨h0, h1, h2, h3, h4, hargs⟩ := h c
    obtain ⟨a0, a1, a2, a3, a4, a5, a6, a7, a8, a9, a10, a11⟩ := hagree c
    refine ⟨fun i _ => congrFun (h0.trans ((Cert.ReferenceIdeal.Read.val_main_v161_eq _).trans ?_)) i, fun i _ => congrFun (h1.trans ((Cert.ReferenceIdeal.Read.val_main_v162_eq _).trans ?_)) i,
      fun i _ => congrFun (h2.trans ((Cert.ReferenceIdeal.Read.val_main_v163_eq _).trans ?_)) i, fun i _ => congrFun (h3.trans ((Cert.ReferenceIdeal.Read.val_main_v165_eq _).trans ?_)) i,
      fun i _ => congrFun (h4.trans ((Cert.ReferenceIdeal.Read.val_main_v166_eq _).trans ?_)) i, hargs⟩
    · unfold RV14; rw [← a0, ← a1, ← a2, ← a3, ← a4, ← a5, ← a6, ← a7, ← a8, ← a9, ← a10, ← a11]
    · unfold RV15; rw [← a0, ← a1, ← a2, ← a3, ← a5, ← a6, ← a7, ← a9, ← a10]
    · unfold RV16; rw [← a0, ← a1, ← a2, ← a4, ← a5, ← a6, ← a7, ← a9, ← a10]
    · unfold RV17; rw [← a1, ← a5, ← a10]
    · unfold RV18; rw [← a0, ← a2]

end Cert.KernelIdeal.Value

end
-- ==== Proof.OutprojValue.lean ====
module

public import proofs.«01_k».proof.Defs
public import proofs.«01_k».proof.Proof.Gen.OutprojIdeal.Frame
public import proofs.«01_k».proof.Proof.Gen.OutprojRefIdeal.Run
public import proofs.«01_k».proof.Proof.Gen.OutprojRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.OutprojIdeal.Value

open Cert.OutprojIdeal Cert.OutprojIdeal.Gen

variable (m : (ℓ : Loc nD τ sig) → Buf (Elt Ideal) ℓ)

/-- The reference's composed term: the residual plus the two halves, side by side, times the output weights. -/
def REF (X : FVec Ideal Cert.OutprojRefIdeal.S4x2048x2048 .f32) (A M : FVec Ideal Cert.OutprojRefIdeal.S8192x1024 .bf16)
    (W : FVec Ideal Cert.OutprojRefIdeal.S2048x2048 .f32) : FVec Ideal Cert.OutprojRefIdeal.S8192x2048 .f32 :=
  addf (shapeCast _ X Cert.OutprojRefIdeal.Gen.shapeCasts_S4x2048x2048_S8192x2048)
    (Host.dotGeneral Cert.OutprojRefIdeal.dot_S8192x2048_S2048x2048_S8192x2048_1_0_0_1_n_n none
      (concatenate Cert.OutprojRefIdeal.S8192x2048 1
        [⟨Cert.OutprojRefIdeal.S8192x1024, (extf .f32 A Cert.OutprojRefIdeal.Gen.bitsLt_bf16_f32)⟩,
          ⟨Cert.OutprojRefIdeal.S8192x1024, (extf .f32 M Cert.OutprojRefIdeal.Gen.bitsLt_bf16_f32)⟩]
        Cert.OutprojRefIdeal.Gen.concatenates_S8192x1024_S8192x1024_S8192x2048_d1) W)

/-- Which block of its array each window holds at each grid point. -/
theorem idx : ∀ t : Fin cfg0.N, win0_0.index t = ![t.val / 4, t.val % 4] ∧ win0_1.index t = ![t.val / 4, 0]
    ∧ win0_2.index t = ![t.val / 4, 0] ∧ win0_3.index t = ![0, t.val % 4] ∧ win0_4.index t = ![0, t.val % 4]
    ∧ win0_5.index t = ![t.val / 4, t.val % 4] ∧ t.val / 4 < 8 :=
  (by decide +kernel : ∀ t : Fin grid0.N, _)

/-- The residual's array as the region finds it: the argument, its rows numbered through. -/
theorem V_v0 (c : Dev nD) (i : Fin 8192) (j : Fin 2048) : (V m c main_v0 : FVec Ideal S8192x2048 .f32) (ix2 i j)
    = m ((c : Thread nD τ).loc main_arg0) (ix3 (⟨i.val / 2048, by omega⟩ : Fin 4) (⟨i.val % 2048, by omega⟩ : Fin 2048) j) := by
  entry_read
  pointwise []
  try rfl

/-- The upper half of the output weights, which the attention's half of the row meets. -/
theorem V_v1 (c : Dev nD) (i : Fin 1024) (j : Fin 2048) : (V m c main_v1 : FVec Ideal S1024x2048 .f32) (ix2 i j)
    = m ((c : Thread nD τ).loc main_arg3) (ix2 (⟨i, by omega⟩ : Fin 2048) j) := by
  entry_read
  pointwise []
  blk_ext

/-- The lower half of the output weights, which the mLSTM's half of the row meets. -/
theorem V_v2 (c : Dev nD) (i : Fin 1024) (j : Fin 2048) : (V m c main_v2 : FVec Ideal S1024x2048 .f32) (ix2 i j)
    = m ((c : Thread nD τ).loc main_arg3) (ix2 (⟨1024 + i, by omega⟩ : Fin 2048) j) := by
  entry_read
  pointwise []
  blk_ext

/-- The residual's block at a point. -/
theorem iblk0 (c : Dev nD) (t : Fin cfg0.N) (r : Fin 1024) (k : Fin 512) :
    iblk m c 0 t (ix2 r k) = V m c main_v0 (ix2 (⟨t.val / 4 * 1024 + r, by have := (idx t).2.2.2.2.2.2; omega⟩ : Fin 8192) (⟨t.val % 4 * 512 + k, by omega⟩ : Fin 2048)) := by
  blk_ext [iblk, idx t]
/-- The attention's block at a point. -/
theorem iblk1 (c : Dev nD) (t : Fin cfg0.N) (r : Fin 1024) (k : Fin 1024) :
    iblk m c 1 t (ix2 r k) = m ((c : Thread nD τ).loc main_arg1) (ix2 (⟨t.val / 4 * 1024 + r, by have := (idx t).2.2.2.2.2.2; omega⟩ : Fin 8192) k) := by
  blk_ext [iblk, V_main_arg1, idx t]
/-- The mLSTM's block at a point. -/
theorem iblk2 (c : Dev nD) (t : Fin cfg0.N) (r : Fin 1024) (k : Fin 1024) :
    iblk m c 2 t (ix2 r k) = m ((c : Thread nD τ).loc main_arg2) (ix2 (⟨t.val / 4 * 1024 + r, by have := (idx t).2.2.2.2.2.2; omega⟩ : Fin 8192) k) := by
  blk_ext [iblk, V_main_arg2, idx t]
/-- The upper weights' block at a point. -/
theorem iblk3 (c : Dev nD) (t : Fin cfg0.N) (r : Fin 1024) (k : Fin 512) :
    iblk m c 3 t (ix2 r k) = V m c main_v1 (ix2 r (⟨t.val % 4 * 512 + k, by omega⟩ : Fin 2048)) := by
  blk_ext [iblk, idx t]
/-- The lower weights' block at a point. -/
theorem iblk4 (c : Dev nD) (t : Fin cfg0.N) (r : Fin 1024) (k : Fin 512) :
    iblk m c 4 t (ix2 r k) = V m c main_v2 (ix2 r (⟨t.val % 4 * 512 + k, by omega⟩ : Fin 2048)) := by
  blk_ext [iblk, idx t]

/-- The stored block at an index, over any blocks: the residual plus the two products. -/
theorem pay_at (A M : FVec Ideal S1024x1024 .bf16) (X Wa Wm : FVec Ideal S1024x512 .f32) (r : Fin 1024) (l : Fin 512) :
    k0_pay1 (F := Ideal) A M X Wa Wm (ix2 r l)
      = X (ix2 r l) + (∑ k : Fin 1024, A (ix2 r k) * Wa (ix2 k l) + ∑ k : Fin 1024, M (ix2 r k) * Wm (ix2 k l)) := by
  pointwise [k0_pay1]

/-- The reference's term at an index: the contraction over the joined row is the sum of the two halves' contractions. -/
theorem REF_at (X : FVec Ideal Cert.OutprojRefIdeal.S4x2048x2048 .f32) (A M : FVec Ideal Cert.OutprojRefIdeal.S8192x1024 .bf16)
    (W : FVec Ideal Cert.OutprojRefIdeal.S2048x2048 .f32) (i : Fin 8192) (j : Fin 2048) :
    REF X A M W (ix2 i j) = X (ix3 (⟨i.val / 2048, by omega⟩ : Fin 4) (⟨i.val % 2048, by omega⟩ : Fin 2048) j)
      + (∑ k : Fin 1024, A (ix2 i k) * W (ix2 (⟨k, by omega⟩ : Fin 2048) j)
        + ∑ k : Fin 1024, M (ix2 i k) * W (ix2 (⟨1024 + k, by omega⟩ : Fin 2048) j)) := by
  pointwise [REF]

/-- What the body stores at a block index is the reference's term at the array index the block index sits at. -/
theorem point (c : Dev nD) (t : Fin cfg0.N) (r : Fin 1024) (l : Fin 512) :
    k0_pay1 (iblk m c 1 t) (iblk m c 2 t) (iblk m c 0 t) (iblk m c 3 t) (iblk m c 4 t) (ix2 r l)
    = REF (m ((c : Thread nD τ).loc main_arg0)) (m ((c : Thread nD τ).loc main_arg1)) (m ((c : Thread nD τ).loc main_arg2))
        (m ((c : Thread nD τ).loc main_arg3)) (ix2 (⟨t.val / 4 * 1024 + r, by have := (idx t).2.2.2.2.2.2; omega⟩ : Fin 8192) (⟨t.val % 4 * 512 + l, by omega⟩ : Fin 2048)) := by
  rw [REF_at]
  refine (pay_at _ _ _ _ _ r l).trans ?_
  refine Ideal.add_congr ((iblk0 m c t r l).trans (V_v0 m c _ _)) (Ideal.add_congr (Fin.sum_fin_congr fun k => Ideal.mul_congr (iblk1 m c t r k) ((iblk3 m c t k l).trans (V_v1 m c _ _)))
    (Fin.sum_fin_congr fun k => Ideal.mul_congr (iblk2 m c t r k) ((iblk4 m c t k l).trans (V_v2 m c _ _))))

/-- The result array after the run is the reference's term. -/
theorem final (c : Dev nD) : (dats m 0 c).arrAt 5 (cfgs 0).N
    = REF (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]; frame_out
  idx_vars y
  refine (point m c t y0 y1).trans (congrArg _ ?_)
  blk_ext [idx t]

/-- The prompt group's output projection: the kernel's result is the reference's, for all arguments. -/
theorem algebraic : Cert.algebraic_OutprojIdeal_OutprojRefIdeal := by
  pair_intro
  · run_from Cert.OutprojIdeal.Gen.run_main m g
  · run_from Cert.OutprojRefIdeal.Value.run m' g'
    obtain ⟨h0, h1, h2, h3⟩ := hagree c
    refine Eq.trans ?_ (final m c).symm
    rw [← h1, ← h2]
    rfl

end Cert.OutprojIdeal.Value

end
-- ==== Proof.SOutprojValue.lean ====
module

public import proofs.«01_k».proof.Defs
public import proofs.«01_k».proof.Proof.Gen.SOutprojIdeal.Frame
public import proofs.«01_k».proof.Proof.Gen.SOutprojRefIdeal.Run
public import proofs.«01_k».proof.Proof.Gen.SOutprojRefIdeal
public import Idealize.ShloMosaic.Lib.Pipeline.ValueKit
public import Idealize.ShloMosaic.Lib.Pointwise
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SOutprojIdeal.Value

open Cert.SOutprojIdeal Cert.SOutprojIdeal.Gen

variable (m : (ℓ : Loc nD τ sig) → Buf (Elt Ideal) ℓ)

/-- The rows of the sample tokens: eight for each sequence, its four tokens and four of zeros. -/
def ROWS (X : FVec Ideal Cert.SOutprojRefIdeal.S8x4x2048 .f32) : FVec Ideal Cert.SOutprojRefIdeal.S64x2048 .f32 :=
  shapeCast _ (pad Cert.SOutprojRefIdeal.S8x8x2048 ![0, 0, 0] ![0, 4, 0] ![0, 0, 0] X
    (sitofp (F := Ideal) .f32 (constantI Cert.SOutprojRefIdeal.S_ 32 0#32))
    Cert.SOutprojRefIdeal.Gen.pads_S8x4x2048_S8x8x2048_000_040_000 Cert.SOutprojRefIdeal.Gen.h_S_)
    Cert.SOutprojRefIdeal.Gen.shapeCasts_S8x8x2048_S64x2048

/-- The reference's composed term: the rows plus the two halves, side by side, times the output weights. -/
def REF (X : FVec Ideal Cert.SOutprojRefIdeal.S8x4x2048 .f32) (A M : FVec Ideal Cert.SOutprojRefIdeal.S64x1024 .f32)
    (W : FVec Ideal Cert.SOutprojRefIdeal.S2048x2048 .f32) : FVec Ideal Cert.SOutprojRefIdeal.S64x2048 .f32 :=
  addf (ROWS X)
    (Host.dotGeneral Cert.SOutprojRefIdeal.dot_S64x2048_S2048x2048_S64x2048_1_0_0_1_n_n none
      (concatenate Cert.SOutprojRefIdeal.S64x2048 1
        [⟨Cert.SOutprojRefIdeal.S64x1024, A⟩, ⟨Cert.SOutprojRefIdeal.S64x1024, M⟩]
        Cert.SOutprojRefIdeal.Gen.concatenates_S64x1024_S64x1024_S64x2048_d1) W)

/-- Which block of its array each window holds at each grid point: every row of a block of columns. -/
theorem idx : ∀ t : Fin cfg0.N, win0_0.index t = ![0, t.val] ∧ win0_1.index t = ![0, 0]
    ∧ win0_2.index t = ![0, 0] ∧ win0_3.index t = ![0, t.val] ∧ win0_4.index t = ![0, t.val]
    ∧ win0_5.index t = ![0, t.val] ∧ t.val < 4 :=
  (by decide +kernel : ∀ t : Fin grid0.N, _)

/-- The column that block column `k` is at point `t`. -/
abbrev col (t : Fin cfg0.N) (k : Fin 512) : Fin 2048 := ⟨t.val * 512 + k, by have := (idx t).2.2.2.2.2.2; omega⟩

/-- The residual's array as the region finds it: of the meta tokens' rows and the sample rows, the sample rows. -/
theorem V_v5 (c : Dev nD) (i : Fin 64) (j : Fin 2048) : (V m c main_v5 : FVec Ideal S64x2048 .f32) (ix2 i j)
    = ROWS (m ((c : Thread nD τ).loc main_arg0)) (ix2 i j) := by
  have e : (V m c main_v5 : FVec Ideal S64x2048 .f32)
      = extractStridedSlice S64x2048 ![16, 0] (concatenate S80x2048 0 [⟨S16x2048, m ((c : Thread nD τ).loc main_arg1)⟩,
        ⟨S64x2048, ROWS (m ((c : Thread nD τ).loc main_arg0))⟩] concatenates_S16x2048_S64x2048_S80x2048_d0) slices_S80x2048_S64x2048_16_0 := by
    entry_read
    try rfl
  rw [e]
  pointwise []

/-- The upper half of the output weights, which the attention's half of the row meets. -/
theorem V_v3 (c : Dev nD) (i : Fin 1024) (j : Fin 2048) : (V m c main_v3 : FVec Ideal S1024x2048 .f32) (ix2 i j)
    = m ((c : Thread nD τ).loc main_arg4) (ix2 (⟨i, by omega⟩ : Fin 2048) j) := by
  have e : (V m c main_v3 : FVec Ideal S1024x2048 .f32) = extractStridedSlice S1024x2048 ![0, 0] (m ((c : Thread nD τ).loc main_arg4) : FVec Ideal S2048x2048 .f32) slices_S2048x2048_S1024x2048_0_0 := by
    entry_read
    try rfl
  rw [e]
  pointwise []

/-- The lower half of the output weights, which the mLSTM's half of the row meets. -/
theorem V_v4 (c : Dev nD) (i : Fin 1024) (j : Fin 2048) : (V m c main_v4 : FVec Ideal S1024x2048 .f32) (ix2 i j)
    = m ((c : Thread nD τ).loc main_arg4) (ix2 (⟨1024 + i, by omega⟩ : Fin 2048) j) := by
  have e : (V m c main_v4 : FVec Ideal S1024x2048 .f32) = extractStridedSlice S1024x2048 ![1024, 0] (m ((c : Thread nD τ).loc main_arg4) : FVec Ideal S2048x2048 .f32) slices_S2048x2048_S1024x2048_1024_0 := by
    entry_read
    try rfl
  rw [e]
  pointwise []

/-- The residual's block at a point. -/
theorem iblk0 (c : Dev nD) (t : Fin cfg0.N) (r : Fin 64) (k : Fin 512) :
    iblk m c 0 t (ix2 r k) = V m c main_v5 (ix2 r (col t k)) := by
  blk_ext [iblk, idx t]
/-- The attention's block at a point. -/
theorem iblk1 (c : Dev nD) (t : Fin cfg0.N) (r : Fin 64) (k : Fin 1024) :
    iblk m c 1 t (ix2 r k) = m ((c : Thread nD τ).loc main_arg2) (ix2 r k) := by
  blk_ext [iblk, V_main_arg2, idx t]
/-- The mLSTM's block at a point. -/
theorem iblk2 (c : Dev nD) (t : Fin cfg0.N) (r : Fin 64) (k : Fin 1024) :
    iblk m c 2 t (ix2 r k) = m ((c : Thread nD τ).loc main_arg3) (ix2 r k) := by
  blk_ext [iblk, V_main_arg3, idx t]
/-- The upper weights' block at a point. -/
theorem iblk3 (c : Dev nD) (t : Fin cfg0.N) (r : Fin 1024) (k : Fin 512) :
    iblk m c 3 t (ix2 r k) = V m c main_v3 (ix2 r (col t k)) := by
  blk_ext [iblk, idx t]
/-- The lower weights' block at a point. -/
theorem iblk4 (c : Dev nD) (t : Fin cfg0.N) (r : Fin 1024) (k : Fin 512) :
    iblk m c 4 t (ix2 r k) = V m c main_v4 (ix2 r (col t k)) := by
  blk_ext [iblk, idx t]

/-- The stored block at an index, over any blocks: the residual plus the two products. -/
theorem pay_at (A M : FVec Ideal S64x1024 .f32) (X : FVec Ideal S64x512 .f32) (Wa Wm : FVec Ideal S1024x512 .f32) (r : Fin 64) (l : Fin 512) :
    k0_pay1 (F := Ideal) A M X Wa Wm (ix2 r l)
      = X (ix2 r l) + (∑ k : Fin 1024, A (ix2 r k) * Wa (ix2 k l) + ∑ k : Fin 1024, M (ix2 r k) * Wm (ix2 k l)) := by
  pointwise [k0_pay1]

/-- The reference's term at an index: the contraction over the joined row is the sum of the two halves' contractions. -/
theorem REF_at (X : FVec Ideal Cert.SOutprojRefIdeal.S8x4x2048 .f32) (A M : FVec Ideal Cert.SOutprojRefIdeal.S64x1024 .f32)
    (W : FVec Ideal Cert.SOutprojRefIdeal.S2048x2048 .f32) (i : Fin 64) (j : Fin 2048) :
    REF X A M W (ix2 i j) = ROWS X (ix2 i j)
      + (∑ k : Fin 1024, A (ix2 i k) * W (ix2 (⟨k, by omega⟩ : Fin 2048) j)
        + ∑ k : Fin 1024, M (ix2 i k) * W (ix2 (⟨1024 + k, by omega⟩ : Fin 2048) j)) := by
  pointwise [REF]

/-- What the body stores at a block index is the reference's term at the array index the block index sits at. -/
theorem point (c : Dev nD) (t : Fin cfg0.N) (r : Fin 64) (l : Fin 512) :
    k0_pay1 (iblk m c 1 t) (iblk m c 2 t) (iblk m c 0 t) (iblk m c 3 t) (iblk m c 4 t) (ix2 r l)
    = REF (m ((c : Thread nD τ).loc main_arg0)) (m ((c : Thread nD τ).loc main_arg2)) (m ((c : Thread nD τ).loc main_arg3))
        (m ((c : Thread nD τ).loc main_arg4)) (ix2 r (col t l)) := by
  rw [REF_at]
  refine (pay_at _ _ _ _ _ r l).trans ?_
  refine Ideal.add_congr ((iblk0 m c t r l).trans (V_v5 m c _ _)) (Ideal.add_congr
    (Fin.sum_fin_congr fun k => Ideal.mul_congr (iblk1 m c t r k) ((iblk3 m c t k l).trans (V_v3 m c _ _)))
    (Fin.sum_fin_congr fun k => Ideal.mul_congr (iblk2 m c t r k) ((iblk4 m c t k l).trans (V_v4 m c _ _))))

/-- The result array after the run is the reference's term. -/
theorem final (c : Dev nD) : (dats m 0 c).arrAt 5 (cfgs 0).N
    = REF (m ((c : Thread nD τ).loc main_arg0)) (m ((c : Thread nD τ).loc main_arg2)) (m ((c : Thread nD τ).loc main_arg3))
        (m ((c : Thread nD τ).loc main_arg4)) := by
  refine (dats m 0 c).arrAt_eq_of_covers 5 _ (by decide +kernel) fun t _ y => ?_
  blk_simp
  rw [after0_5]; frame_out
  idx_vars y
  refine (point m c t y0 y1).trans (congrArg _ ?_)
  blk_ext [idx t]

/-- The sample group's output projection: the kernel's result is the reference's, for all arguments. -/
theorem algebraic : Cert.algebraic_SOutprojIdeal_SOutprojRefIdeal := by
  pair_intro
  · run_from Cert.SOutprojIdeal.Gen.run_main m g
    · exact V_main_arg0 m c
    · exact V_main_arg1 m c
    · exact V_main_arg4 m c
  · run_from Cert.SOutprojRefIdeal.Value.run m' g'
    obtain ⟨h0, h1, h2, h3, h4⟩ := hagree c
    refine Eq.trans ?_ (final m c).symm
    rw [← h2, ← h3]
    rfl

end Cert.SOutprojIdeal.Value

end
-- ==== Proof.ProjIdealFrame.lean ====
/- The body, the proof data and the run of the idealised input projections. -/
module

public import proofs.«01_k».proof.Proof.Gen.ProjIdeal.Frame
public import proofs.«01_k».proof.Proof.Gen.ProjIdeal.Skeleton
public import Idealize.ShloMosaic.Lib.Claim

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition: the second grid coordinate is zero. -/
abbrev cond0_0 (i : grid0.Coords) : Prop := (Scalar.cmpi .ne (Scalar.extui (Scalar.cmpi .eq (BitVec.ofNat 32 (i 1).val) 0#32)) 0#32) = 1#1
/-- It holds at every twelfth point. -/
theorem hcond0_0 : ∀ t : Fin cfg0.N, cond0_0 (grid0.coords t) ↔ t.val % 12 = 0 :=
  (fun t => by
    have ht : t.val < 96 := Nat.lt_of_lt_of_eq t.isLt N_0
    have e0 : (grid0.coords t 0).val = t.val / 12 % 8 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-- A staging buffer of the block of z, through which its contents are stated. -/
abbrev VO0_5 : View sig .tc .vmem S1024x512 .f32 := (Memref.whole cc0_stg5_0 : Memref sig .tc .vmem S1024x512 .f32).view
/-- A staging buffer of the block of the gates, through which its contents are stated. -/
abbrev VO0_6 : View sig .tc .vmem S1024x128 .f32 := (Memref.whole cc0_stg6_0 : Memref sig .tc .vmem S1024x128 .f32).view
/-- Window 0's staging buffer at a point, and that it is a whole buffer. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
/-- Window 1's staging buffer at a point, and that it is a whole buffer. -/
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- Window 2's staging buffer at a point, and that it is a whole buffer. -/
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
/-- Window 3's staging buffer at a point, and that it is a whole buffer. -/
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
/-- Window 4's staging buffer at a point, and that it is a whole buffer. -/
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
/-- Window 5's staging buffer at a point, and that it is a whole buffer. -/
abbrev ms0_5 (t : Fin cfg0.N) : Memref sig .tc .vmem S1024x512 .f32 := win0_5.stage (cfg0.slots t 5)
abbrev hs0_5 (t : Fin cfg0.N) : (ms0_5 t).IsWhole := hstage0_5 ((cfg0.slots t 5).cast nbuf0_5)
/-- Window 6's staging buffer at a point, and that it is a whole buffer. -/
abbrev ms0_6 (t : Fin cfg0.N) : Memref sig .tc .vmem S1024x128 .f32 := win0_6.stage (cfg0.slots t 6)
abbrev hs0_6 (t : Fin cfg0.N) : (ms0_6 t).IsWhole := hstage0_6 ((cfg0.slots t 6).cast nbuf0_6)
/-- The scratch holding the normalised rows, which the points of one row block share. -/
abbrev scM0_0 : Memref sig .tc .vmem S1024x2048 .bf16 := Memref.whole cc0_scratch0
abbrev VS0_0 : View sig .tc .vmem S1024x2048 .bf16 := scM0_0.view

/-- What the region is launched with: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body on any staging buffers -/

set_option maxHeartbeats 1000000 in
/-- The body at the first point of a row block: it stores the normalised rows, the gates and a block of z. -/
noncomputable def kernelRun0_A (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S2048x512 .f32) (x3 : Vec F S2048x128 .bf16) (x4 : Vec F S2048x128 .bf16) :
    Σ' (L5 : List (View.Piece (Elt F) S1024x512 .f32)) (L6 : List (View.Piece (Elt F) S1024x128 .f32)), { LS0 : List (View.Piece (Elt F) S1024x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, ?_, ?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

set_option maxHeartbeats 1000000 in
/-- The body at the other points: it stores a block of z; the gates and the normalised rows stay as they were. -/
noncomputable def kernelRun0_B (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 : Vec F S2048x512 .f32) (x3 : Vec F S2048x128 .bf16) (x4 : Vec F S2048x128 .bf16) (xo6 : Vec F S1024x128 .f32) (xs0 : Vec F S1024x2048 .bf16) :
    { L5 : List (View.Piece (Elt F) S1024x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xo6 ∗ owns (c : Thread nD τ) arg9 fullShare xs0) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact HS0

/-! ## What the body leaves -/

/-- The first point of a row block stores the whole block of z. -/
theorem cover0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S2048x512 .f32) (x3 : Vec F S2048x128 .bf16) (x4 : Vec F S2048x128 .bf16) (y : S1024x512.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S1024x512.size (by sl_kernel_rfl) y

/-- What the first point of a row block leaves in the block of z. -/
def out0_A_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S2048x512 .f32) (x3 : Vec F S2048x128 .bf16) (x4 : Vec F S2048x128 .bf16) : Vec F S1024x512 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

/-- The first point of a row block stores the whole block of gates. -/
theorem cover0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S2048x512 .f32) (x3 : Vec F S2048x128 .bf16) (x4 : Vec F S2048x128 .bf16) (y : S1024x128.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S1024x128.size (by sl_kernel_rfl) y

/-- What the first point of a row block leaves in the block of gates. -/
def out0_A_6 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S2048x512 .f32) (x3 : Vec F S2048x128 .bf16) (x4 : Vec F S2048x128 .bf16) : Vec F S1024x128 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4).2.1)

/-- The first point of a row block stores the whole scratch. -/
theorem scover0_A_S0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S2048x512 .f32) (x3 : Vec F S2048x128 .bf16) (x4 : Vec F S2048x128 .bf16) (y : S1024x2048.Idx) :
    ∃ pc ∈ (kernelRun0_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.2.1 S1024x2048.size (by sl_kernel_rfl) y

/-- What the first point of a row block leaves in the scratch. -/
def sout0_A_S0 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : cond0_0 i)
    (x0 : Vec F S1024x2048 .f32) (x1 : Vec F S1x2048 .f32) (x2 : Vec F S2048x512 .f32) (x3 : Vec F S2048x128 .bf16) (x4 : Vec F S2048x128 .bf16) : Vec F S1024x2048 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4).2.2.1)

/-- Every other point stores the whole block of z. -/
theorem cover0_B_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 : Vec F S2048x512 .f32) (x3 : Vec F S2048x128 .bf16) (x4 : Vec F S2048x128 .bf16) (xo6 : Vec F S1024x128 .f32) (xs0 : Vec F S1024x2048 .bf16) (y : S1024x512.Idx) :
    ∃ pc ∈ (kernelRun0_B c i arg2 harg2 arg3 harg3 arg4 harg4 arg5 harg5 arg6 harg6 arg7 harg7 arg8 harg8 arg9 harg9 hc0 x0 x1 x2 x3 x4 xo6 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 xo6 xs0).1 S1024x512.size (by sl_kernel_rfl) y

/-- What any other point leaves in the block of z. -/
def out0_B_5 (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S1024x512 .f32) (harg7 : arg7.IsWhole) (arg8 : Memref sig .tc .vmem S1024x128 .f32) (harg8 : arg8.IsWhole) (arg9 : Memref sig .tc .vmem S1024x2048 .bf16) (harg9 : arg9.IsWhole) (hc0 : ¬cond0_0 i)
    (x0 : Vec F S1024x2048 .f32) (x1 : Vec F S1x2048 .f32) (x2 : Vec F S2048x512 .f32) (x3 : Vec F S2048x128 .bf16) (x4 : Vec F S2048x128 .bf16) (xo6 : Vec F S1024x128 .f32) (xs0 : Vec F S1024x2048 .bf16) : Vec F S1024x512 .f32 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 xo6 xs0).1)

/-- The block of z, the block of gates and the scratch after the body at position `n`. -/
def outsAt0 (c : Dev nD) : (n : ℕ) → n < cfg0.N → Vec F S1024x512 .f32 × Vec F S1024x128 .f32 × Vec F S1024x2048 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩), sout0_A_S0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩))
  | n + 1, hn =>
    if h0 : (n + 1) % 12 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩), sout0_A_S0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, (outsAt0 c n (Nat.lt_of_succ_lt hn)).2.1, (outsAt0 c n (Nat.lt_of_succ_lt hn)).2.2)

/-- At the first point of a row block. -/
theorem outsAt0_A (c : Dev nD) (t : Fin cfg0.N) (h0 : t.val % 12 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t), sout0_A_S0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t)) := by
  obtain ⟨n, hn⟩ := t
  cases n with
  | zero => exact rfl
  | succ n => exact (dif_pos h0).trans rfl

/-- At any other point, over what the point before left. -/
theorem outsAt0_B (c : Dev nD) (t : Fin cfg0.N) (h0 : ¬t.val % 12 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (X0_2 m c t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: at the start the launch's, afterwards the scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The proof data: the arrays as the region finds them, each input's buffer at its block, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are those the region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The gates' window is live exactly at the first point of a row block. -/
theorem idle0_6 (t : Fin cfg0.N) (h0 : ¬t.val % 12 = 0) : cfg0.idle 6 (cfg0.grid.coords t) = true := by
  have h : ¬cond0_0 (grid0.coords t) := fun h => h0 ((hcond0_0 t).mp h)
  show (!(k0_cond1 (grid0.coords t) == 1#1)) = true
  rw [Bool.not_eq_true', beq_eq_false_iff_ne]
  exact h
theorem live0_6 (t : Fin cfg0.N) (h0 : t.val % 12 = 0) : cfg0.idle 6 (cfg0.grid.coords t) = false := by
  have h : cond0_0 (grid0.coords t) := (hcond0_0 t).mpr h0
  show (!(k0_cond1 (grid0.coords t) == 1#1)) = false
  rw [Bool.not_eq_false', beq_iff_eq]
  exact h

/-- What the body leaves in the gates' buffer does not depend on what it found there. -/
theorem kept0_6 (c : Dev nD) (t : Fin cfg0.N) (d) : (dats m 0 c).kept 6 t d = (outsAt0 m c t.val t.isLt).2.1 := by
  unfold Dat.kept
  rw [Pipeline.fill_of_clip_none 6 _ (fun _ => rfl) d ((dats m 0 c).after 6 t), Pipeline.Window.fill_cut, after0_6]

/-- Away from the first point of a row block the buffer of gates holds what the point before left. -/
theorem before0_6_nat (c : Dev nD) (d) : ∀ (n : ℕ) (hn : n + 1 < cfg0.N) (h0 : ¬(n + 1) % 12 = 0),
    (dats m 0 c).before 6 ⟨n + 1, hn⟩ d = (outsAt0 m c n (by omega)).2.1 := by
  intro n
  induction n with
  | zero =>
    intro hn h0
    rw [Dat.before_of_pos _ 6 ⟨0 + 1, hn⟩ (by dsimp only; omega) ((cfg0.win 6).fetch_out rfl _),
      if_neg (fun h => by have := (flush0_6 ⟨0 + 1 - 1, by omega⟩).mp h; dsimp only at this; omega)]
    unfold Dat.left
    rw [live0_6 ⟨0 + 1 - 1, _⟩ rfl]
    exact kept0_6 m c ⟨0, _⟩ d
  | succ n ih =>
    intro hn h0
    rw [Dat.before_of_pos _ 6 ⟨n + 1 + 1, hn⟩ (by dsimp only; omega) ((cfg0.win 6).fetch_out rfl _),
      if_neg (fun h => by have := (flush0_6 ⟨n + 1 + 1 - 1, by omega⟩).mp h; dsimp only at this; omega)]
    unfold Dat.left
    by_cases h1 : (n + 1) % 12 = 0
    · rw [live0_6 ⟨n + 1 + 1 - 1, by omega⟩ h1]
      exact kept0_6 m c ⟨n + 1, _⟩ d
    · rw [idle0_6 ⟨n + 1 + 1 - 1, by omega⟩ h1]
      refine (ih (by omega) h1).trans ?_
      rw [outsAt0_B m c ⟨n + 1, by omega⟩ h1]
      rfl

theorem before0_6_B (c : Dev nD) (t : Fin cfg0.N) (h0 : ¬t.val % 12 = 0) (d) :
    (dats m 0 c).before 6 t d = (outsAt0 m c (t.val - 1) (Nat.lt_of_le_of_lt (Nat.sub_le _ _) t.isLt)).2.1 := by
  obtain ⟨n, hn⟩ := t
  cases n with
  | zero => exact absurd (Nat.zero_mod _) h0
  | succ n => exact before0_6_nat m c d n hn h0

/-- What the body returns of the gates' buffer is what the pipeline asks of it, written there or left as found. -/
theorem leaves0_6 (c : Dev nD) (t : Fin cfg0.N) :
    owns (c : Thread nD τ) (ms0_6 t) fullShare ((dats m 0 c).after 6 t) ⊢ ((dats m 0 c).leavesExact 6 t : sProp 𝕄) := by
  by_cases h0 : t.val % 12 = 0
  · unfold Dat.leavesExact; rw [live0_6 t h0]
  · cases hf : (cfg0.win 6).flush t
    · rw [Dat.leavesExact_idle _ 6 t (idle0_6 t h0) hf]
      iintro H
      iexists ((dats m 0 c).after 6 t)
      rw [before0_6_B m c t h0, after0_6, outsAt0_B m c t h0]
      iexact H
    · unfold Dat.leavesExact; rw [idle0_6 t h0]; simp only [hf]; exact Idealize.SL.BI.Entails.refl _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3200000 in
/-- The body at any point takes its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 96 := lt_of_lt_of_eq t.isLt (show cfg0.N = 96 from N_0)
  by_cases h0 : t.val % 12 = 0
  · by_cases hz : t.val = 0
    · rw [PhiS_castSucc m c t, PhiS_zero m c _ _ hz, PhiA0_eq]
      rw [outsAt0_A m c t h0]
      unfold out0_A_5 out0_A_6 sout0_A_S0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (X0_2 m c t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_S0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
    · rw [PhiS_castSucc m c t, PhiS_pos m c _ _ hz]
      rw [outsAt0_A m c t h0]
      unfold out0_A_5 out0_A_6 sout0_A_S0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (X0_2 m c t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_S0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
  · by_cases hz : t.val = 0
    · exfalso; omega
    · rw [PhiS_castSucc m c t, PhiS_pos m c _ _ hz]
      rw [outsAt0_B m c t h0]
      simp only [before0_6_B m c t h0]
      unfold out0_B_5; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (X0_2 m c t) (iblk m c 3 t) (iblk m c 4 t) _ _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      iexact H6

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  exact sep_mono .rfl (sep_mono .rfl (sep_mono .rfl (sep_mono .rfl (sep_mono .rfl (sep_mono .rfl (sep_mono .rfl (sep_mono .rfl (leaves0_6 m c t))))))))

/-- The launch establishes the invariant, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives back what the launch handed over. -/
theorem hout (c : Dev nD) : (dats m 0 c).Φ (Fin.last cfg0.N) ⊢ Pipeline.ΦA spec0 c := by
  have ht : (Fin.last cfg0.N).val ≠ 0 := by rw [Fin.val_last]; have : cfg0.N = 96 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

set_option backward.isDefEq.respectTransparency.types false in
/-- Every run of the program ends with the arrays at what the proof data say and every semaphore at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the semaphores. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every run ends, with the argument arrays unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.ProjIdeal.Gen

end
-- ==== Proof.ProjPay.lean ====
module

public import proofs.«01_k».proof.Defs
public import proofs.«01_k».proof.Proof.ProjIdealFrame
public import proofs.«01_k».proof.Proof.Gen.ProjRefIdeal.Run
public import proofs.«01_k».proof.Proof.Gen.ProjRefIdeal
public import proofs.«01_k».proof.Proof.Gen.Pre_finite_inputs
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Claim

@[expose] public section

set_option maxRecDepth 16384

noncomputable section

open Idealize.ShloMosaic Idealize.ShloMosaic.TcCoe Idealize.SL.Sem

namespace Cert.ProjIdeal.Value

open Cert.ProjIdeal Cert.ProjIdeal.Gen

/-! The input projections of the prompt group: what the kernel's blocks and the reference's terms are at an index, and
    that finite inputs make the gates' correction terms vanish. -/

/-- A row's normalised entry: the entry times the inverse root of the row's mean square, times the gain. -/
def normed (x g : Fin 2048 → EReal) (k : Fin 2048) : EReal :=
  x k * Ideal.rsqrt (Ideal.div (∑ l, x l * x l) (Ideal.ofBits .f32 1157627904#32) + Ideal.ofBits .f32 897988541#32) * g k

/-- A difference and a product of extended reals, named so that they elaborate at any float format. -/
abbrev minus (a b : EReal) : EReal := a - b

/-- The block the first point of a run leaves in the scratch, at an index: the normalised row. -/
theorem pay3_at (x : FVec Ideal S1024x2048 .f32) (g : FVec Ideal S1x2048 .f32) (r : Fin 1024) (k : Fin 2048) :
    k0_pay3 (F := Ideal) x g (ix2 r k) = normed (fun l => x (ix2 r l)) (fun l => g (ix2 (0 : Fin 1) l)) k := by
  pointwise [k0_pay3, k0_pay2, k0_pay1, normed]

/-- The projected block of a point at an index: the scratch's row times the weights' column. -/
theorem pay5_at (s : FVec Ideal S1024x2048 .bf16) (w : FVec Ideal S2048x512 .f32) (r : Fin 1024) (j : Fin 512) :
    k0_pay5 (F := Ideal) s w (ix2 r j) = ∑ k : Fin 2048, s (ix2 r k) * w (ix2 k j) := by
  pointwise [k0_pay5]

/-- One gate from a normalised row and its two weight columns: the product with the high part and the two correction
    products. -/
def gate (n : Fin 2048 → EReal) (hi lo : Fin 2048 → EReal) : EReal :=
  ∑ k, n k * hi k + (∑ k, (n k - n k) * hi k + ∑ k, n k * lo k)

/-- The gates' block at an index. -/
theorem pay4_at (x : FVec Ideal S1024x2048 .f32) (g : FVec Ideal S1x2048 .f32) (hi lo : FVec Ideal S2048x128 .bf16) (r : Fin 1024) (j : Fin 128) :
    k0_pay4 (F := Ideal) x g hi lo (ix2 r j)
      = gate (normed (fun l => x (ix2 r l)) (fun l => g (ix2 (0 : Fin 1) l))) (fun k => hi (ix2 k j)) (fun k => lo (ix2 k j)) := by
  pointwise [k0_pay4, k0_pay2, k0_pay1, gate, normed]

/-- The reference's product before it is cut in two. -/
def PRE (X : FVec Ideal Cert.ProjRefIdeal.S8192x2048 .f32) (G : FVec Ideal Cert.ProjRefIdeal.S2048 .f32)
    (W : FVec Ideal Cert.ProjRefIdeal.S2048x6152 .f32) : FVec Ideal Cert.ProjRefIdeal.S8192x6152 .f32 :=
  Host.dotGeneral Cert.ProjRefIdeal.dot_S8192x2048_S2048x6152_S8192x6152_1_0_0_1_n_n none (mulf (mulf X (broadcastInDim Cert.ProjRefIdeal.S8192x2048 ![0, 1] Cert.ProjRefIdeal.Gen.bcast_S8192x1_S8192x2048_0_1 (Host.rsqrt (addf (Host.divf (broadcastInDim Cert.ProjRefIdeal.S8192x1 ![0] Cert.ProjRefIdeal.Gen.bcast_S8192_S8192x1_0 (Host.reduceAdd (mulf X X) (constant Cert.ProjRefIdeal.S_ .f32 0x00000000#32) Cert.ProjRefIdeal.Gen.reducesTo_S8192x2048_S8192_d1 Cert.ProjRefIdeal.Gen.h_S_)) (broadcastInDim Cert.ProjRefIdeal.S8192x1 ![] Cert.ProjRefIdeal.Gen.bcast_S_S8192x1 (constant Cert.ProjRefIdeal.S_ .f32 0x45000000#32))) (broadcastInDim Cert.ProjRefIdeal.S8192x1 ![] Cert.ProjRefIdeal.Gen.bcast_S_S8192x1 (constant Cert.ProjRefIdeal.S_ .f32 0x358637BD#32)))))) (broadcastInDim Cert.ProjRefIdeal.S8192x2048 ![0, 1] Cert.ProjRefIdeal.Gen.bcast_S1x2048_S8192x2048_0_1 (broadcastInDim Cert.ProjRefIdeal.S1x2048 ![1] Cert.ProjRefIdeal.Gen.bcast_S2048_S1x2048_1 G))) W

/-- The reference's first result: the product's first 6144 columns. -/
def REFz (X : FVec Ideal Cert.ProjRefIdeal.S8192x2048 .f32) (G : FVec Ideal Cert.ProjRefIdeal.S2048 .f32)
    (W : FVec Ideal Cert.ProjRefIdeal.S2048x6152 .f32) : FVec Ideal Cert.ProjRefIdeal.S8192x6144 .f32 :=
  extractStridedSlice Cert.ProjRefIdeal.S8192x6144 ![0, 0] (PRE X G W) Cert.ProjRefIdeal.Gen.slices_S8192x6152_S8192x6144_0_0

/-- The reference's second result: the product's last 8 columns, padded with zeros. -/
def REFg (X : FVec Ideal Cert.ProjRefIdeal.S8192x2048 .f32) (G : FVec Ideal Cert.ProjRefIdeal.S2048 .f32)
    (W : FVec Ideal Cert.ProjRefIdeal.S2048x6152 .f32) : FVec Ideal Cert.ProjRefIdeal.S8192x128 .f32 :=
  pad Cert.ProjRefIdeal.S8192x128 ![0, 0] ![0, 120] ![0, 0] (extractStridedSlice Cert.ProjRefIdeal.S8192x8 ![0, 6144] (PRE X G W) Cert.ProjRefIdeal.Gen.slices_S8192x6152_S8192x8_0_6144) (sitofp .f32 (constantI Cert.ProjRefIdeal.S_ 32 0#32)) Cert.ProjRefIdeal.Gen.pads_S8192x8_S8192x128_000_01200 Cert.ProjRefIdeal.Gen.h_S_

/-- The reference's product at an index. -/
theorem PRE_at (X : FVec Ideal Cert.ProjRefIdeal.S8192x2048 .f32) (G : FVec Ideal Cert.ProjRefIdeal.S2048 .f32)
    (W : FVec Ideal Cert.ProjRefIdeal.S2048x6152 .f32) (r : Fin 8192) (j : Fin 6152) :
    PRE X G W (ix2 r j) = ∑ k : Fin 2048, normed (fun l => X (ix2 r l)) (fun l => G (ix1 l)) k * W (ix2 k j) := by
  pointwise [PRE, normed]

/-- The reference's first result at an index. -/
theorem REFz_at (X : FVec Ideal Cert.ProjRefIdeal.S8192x2048 .f32) (G : FVec Ideal Cert.ProjRefIdeal.S2048 .f32)
    (W : FVec Ideal Cert.ProjRefIdeal.S2048x6152 .f32) (r : Fin 8192) (j : Fin 6144) :
    REFz X G W (ix2 r j) = ∑ k : Fin 2048, normed (fun l => X (ix2 r l)) (fun l => G (ix1 l)) k * W (ix2 k (⟨j.val, by omega⟩ : Fin 6152)) := by
  refine Eq.trans ?_ (PRE_at X G W r _)
  unfold REFz
  refine extractStridedSlice_apply (s := Cert.ProjRefIdeal.S8192x6152) ![0, 0] (PRE X G W) _ _ _ (fun a => ?_)
  fin_cases a <;> simp [ix2]

/-- The zero a pad writes. -/
theorem pad_zero (s : Shape) (i : s.Idx) : (sitofp (F := Ideal) .f32 (constantI s 32 0#32) : FVec Ideal s .f32) i = (0 : EReal) := by
  show ((((0#32 : BitVec 32).toInt : ℤ) : ℝ) : EReal) = 0
  simp

/-- The reference's second result at a gate's column. -/
theorem REFg_at (X : FVec Ideal Cert.ProjRefIdeal.S8192x2048 .f32) (G : FVec Ideal Cert.ProjRefIdeal.S2048 .f32)
    (W : FVec Ideal Cert.ProjRefIdeal.S2048x6152 .f32) (r : Fin 8192) (j : Fin 128) (hj : j.val < 8) :
    REFg X G W (ix2 r j) = ∑ k : Fin 2048, normed (fun l => X (ix2 r l)) (fun l => G (ix1 l)) k * W (ix2 k (⟨6144 + j.val, by omega⟩ : Fin 6152)) := by
  refine Eq.trans ?_ (PRE_at X G W r _)
  unfold REFg
  refine (pad_apply_of_inside (s := Cert.ProjRefIdeal.S8192x8) ![0, 0] ![0, 120] ![0, 0] _ _ _ _ (ix2 r j) (ix2 r (⟨j.val, hj⟩ : Fin 8)) (fun a => ?_)).trans ?_
  · fin_cases a <;> simp [ix2]
  · refine extractStridedSlice_apply (s := Cert.ProjRefIdeal.S8192x6152) ![0, 6144] (PRE X G W) _ _ _ (fun a => ?_)
    fin_cases a <;> simp [ix2]

/-- The reference's second result at a padded column. -/
theorem REFg_pad (X : FVec Ideal Cert.ProjRefIdeal.S8192x2048 .f32) (G : FVec Ideal Cert.ProjRefIdeal.S2048 .f32)
    (W : FVec Ideal Cert.ProjRefIdeal.S2048x6152 .f32) (r : Fin 8192) (j : Fin 128) (hj : ¬ j.val < 8) :
    REFg X G W (ix2 r j) = 0 := by
  unfold REFg
  refine (pad_apply_of_not_inside (s := Cert.ProjRefIdeal.S8192x8) ![0, 0] ![0, 120] ![0, 0] _ _ _ _ (ix2 r j) (1 : Fin 2) (fun h => hj ?_)).trans (pad_zero _ _)
  have := h.2.2
  simpa [ix2] using this

/-- The row length the mean divides by. -/
theorem len_val : Ideal.ofBits .f32 1157627904#32 = ((2048 : ℝ) : EReal) := by
  simp [Ideal.ofBits, Ideal.ieee, -EReal.coe_mul]
  norm_num

/-- The number added to the mean square is a positive real. -/
theorem eps_val : ∃ e : ℝ, 0 < e ∧ Ideal.ofBits .f32 897988541#32 = (e : EReal) := by
  refine ⟨8796093 * 2 ^ (-43 : ℤ), by positivity, ?_⟩
  simp [Ideal.ofBits, Ideal.ieee, -EReal.coe_mul]

/-- An extended real that is a real number. -/
def Fine (x : EReal) : Prop := ∃ r : ℝ, x = (r : EReal)

/-- A sum of real numbers is the same real number among the extended reals. -/
theorem coe_sum (f : Fin 2048 → ℝ) (s : Finset (Fin 2048)) : ((∑ l ∈ s, f l : ℝ) : EReal) = ∑ l ∈ s, (f l : EReal) := by
  induction s using Finset.induction_on with
  | empty => simp
  | insert a s ha ih => rw [Finset.sum_insert ha, Finset.sum_insert ha, EReal.coe_add, ih]

/-- A normalised entry of a finite row is finite. -/
theorem fine_normed {x g : Fin 2048 → EReal} (hx : ∀ k, Fine (x k)) (hg : ∀ k, Fine (g k)) (k : Fin 2048) : Fine (normed x g k) := by
  choose X hX using hx
  choose G hG using hg
  obtain ⟨e, he, hE⟩ := eps_val
  have hs : (∑ l, x l * x l) = ((∑ l, X l * X l : ℝ) : EReal) := by
    rw [coe_sum]
    exact Finset.sum_congr rfl fun l _ => by rw [hX, EReal.coe_mul]
  have h0 : 0 ≤ ∑ l, X l * X l := Finset.sum_nonneg fun l _ => mul_self_nonneg _
  have hp : 0 < (∑ l, X l * X l) * (1 / 2048) + e := by positivity
  refine ⟨X k * (Real.sqrt ((∑ l, X l * X l) * (1 / 2048) + e))⁻¹ * G k, ?_⟩
  unfold normed
  rw [hs, len_val, hE, Ideal.div_coe (by norm_num), ← EReal.coe_mul, ← EReal.coe_add, Ideal.rsqrt_coe, if_neg (not_lt.2 hp.le), if_neg hp.ne', hX, hG,
    ← EReal.coe_mul, ← EReal.coe_mul]

/-- A finite number's difference with itself. -/
theorem fine_sub {x : EReal} (h : Fine x) : x - x = 0 := by
  obtain ⟨r, rfl⟩ := h
  rw [← EReal.coe_sub, sub_self, EReal.coe_zero]

/-- On finite rows and weights whose low part vanishes a gate is the plain product. -/
theorem gate_fine {n hi lo : Fin 2048 → EReal} (hn : ∀ k, Fine (n k)) (hl : ∀ k, lo k = 0) : gate n hi lo = ∑ k, n k * hi k := by
  unfold gate
  rw [Finset.sum_eq_zero (f := fun k => (n k - n k) * hi k) fun k _ => by rw [fine_sub (hn k), zero_mul],
    Finset.sum_eq_zero (f := fun k => n k * lo k) fun k _ => by rw [hl k, mul_zero], add_zero, add_zero]

/-- What the finiteness test says of one number. -/
theorem fine_of_test {x : EReal} (h : Ideal.cmp .olt (max x (-x)) (Ideal.ofBits .f32 0x7F800000#32) = 1#1) : Fine x := by
  have htop : Ideal.ofBits .f32 0x7F800000#32 = ⊤ := by simp [Ideal.ofBits, Ideal.ieee]
  rw [htop] at h
  have h' := max_lt_iff.1 ((Ideal.cmp_olt_eq_one _ _).1 h)
  refine ⟨x.toReal, (EReal.coe_toReal h'.1.ne fun hb => ?_).symm⟩
  rw [hb] at h'
  exact absurd h'.2 (by simp)

end Cert.ProjIdeal.Value

end
-- ==== Proof.ProjValue.lean ====
module

public import proofs.«01_k».proof.Proof.ProjPay

@[expose] public section

set_option maxRecDepth 16384

noncomputable section

open Idealize.ShloMosaic Idealize.ShloMosaic.TcCoe Idealize.SL.Sem
open Idealize.ShloMosaic.Pipeline (Dat)

namespace Cert.ProjIdeal.Value

open Cert.ProjIdeal Cert.ProjIdeal.Gen

variable (m : (ℓ : Loc nD τ sig) → Buf (Elt Ideal) ℓ)

/-- Which block of its array each window holds at each grid point. -/
theorem idx : ∀ t : Fin cfg0.N, win0_0.index t = ![t.val / 12, 0] ∧ win0_1.index t = ![0, 0]
    ∧ win0_2.index t = ![0, t.val % 12] ∧ win0_3.index t = ![0, 0] ∧ win0_4.index t = ![0, 0]
    ∧ win0_5.index t = ![t.val / 12, t.val % 12] ∧ win0_6.index t = ![t.val / 12, 0] ∧ t.val / 12 < 8 :=
  (by decide +kernel : ∀ t : Fin grid0.N, _)

/-- The row block of a grid point is one of the array's eight. -/
theorem lt8 (t : Fin cfg0.N) : t.val / 12 < 8 := (idx t).2.2.2.2.2.2.2

/-- The prompt group's rows as one matrix. -/
def X (c : Dev nD) : FVec Ideal S8192x2048 .f32 :=
  shapeCast S8192x2048 (m ((c : Thread nD τ).loc main_arg0)) shapeCasts_S4x2048x2048_S8192x2048

/-- The rows' array as the region finds it. -/
theorem V_v0 (c : Dev nD) : (V m c main_v0 : FVec Ideal S8192x2048 .f32) = X m c := by
  entry_read
  try rfl

/-- The gain's array as the region finds it: the argument as one row. -/
theorem V_v7 (c : Dev nD) (j : Fin 2048) : (V m c main_v7 : FVec Ideal S1x2048 .f32) (ix2 (0 : Fin 1) j)
    = m ((c : Thread nD τ).loc main_arg1) (ix1 j) := by
  have e : (V m c main_v7 : FVec Ideal S1x2048 .f32) = shapeCast S1x2048 (m ((c : Thread nD τ).loc main_arg1)) shapeCasts_S2048_S1x2048 := by
    entry_read
    try rfl
  rw [e]
  pointwise []

/-- The gates' weights, padded with zero columns. -/
def WG (c : Dev nD) : FVec Ideal S2048x128 .f32 :=
  pad S2048x128 ![0, 0] ![0, 120] ![0, 0] (extractStridedSlice S2048x8 ![0, 6144] (m ((c : Thread nD τ).loc main_arg2) : FVec Ideal S2048x6152 .f32) slices_S2048x6152_S2048x8_0_6144) (sitofp (F := Ideal) .f32 (constantI S_ 32 0#32)) pads_S2048x8_S2048x128_000_01200 h_S_

/-- The gates' weights as the region finds them: the high part. -/
theorem V_v3 (c : Dev nD) : (V m c main_v3 : FVec Ideal S2048x128 .bf16) = truncf .bf16 (WG m c) bitsLt_bf16_f32 := by
  entry_read
  try rfl

/-- The gates' weights as the region finds them: the low part. -/
theorem V_v6 (c : Dev nD) : (V m c main_v6 : FVec Ideal S2048x128 .bf16)
    = truncf .bf16 (subf (WG m c) (extf .f32 (truncf .bf16 (WG m c) bitsLt_bf16_f32) bitsLt_bf16_f32)) bitsLt_bf16_f32 := by
  entry_read
  try rfl

/-- The rows' block at a point. -/
theorem iblk0 (c : Dev nD) (t : Fin cfg0.N) (r : Fin 1024) (k : Fin 2048) :
    iblk m c 0 t (ix2 r k) = V m c main_v0 (ix2 (⟨t.val / 12 * 1024 + r, by have := lt8 t; omega⟩ : Fin 8192) k) := by
  blk_ext [iblk, idx t]
/-- The gain's block at a point. -/
theorem iblk1 (c : Dev nD) (t : Fin cfg0.N) (k : Fin 2048) :
    iblk m c 1 t (ix2 (0 : Fin 1) k) = V m c main_v7 (ix2 (0 : Fin 1) k) := by
  blk_ext [iblk, idx t]
/-- The weights' block at a point. -/
theorem iblk2 (c : Dev nD) (t : Fin cfg0.N) (r : Fin 2048) (k : Fin 512) :
    X0_2 m c t (ix2 r k) = m ((c : Thread nD τ).loc main_arg2) (ix2 r (⟨t.val % 12 * 512 + k, by omega⟩ : Fin 6152)) := by
  unfold X0_2 Pipeline.Window.fill
  rw [dif_pos (moved0_2 t _)]
  blk_ext [iblk, V_main_arg2, idx t]
/-- The gates' high weights' block at a point. -/
theorem iblk3 (c : Dev nD) (t : Fin cfg0.N) (r : Fin 2048) (k : Fin 128) :
    iblk m c 3 t (ix2 r k) = V m c main_v3 (ix2 r k) := by
  blk_ext [iblk, idx t]
/-- The gates' low weights' block at a point. -/
theorem iblk4 (c : Dev nD) (t : Fin cfg0.N) (r : Fin 2048) (k : Fin 128) :
    iblk m c 4 t (ix2 r k) = V m c main_v6 (ix2 r k) := by
  blk_ext [iblk, idx t]

/-- The normalised row the reference uses for row `i`. -/
def row (c : Dev nD) (i : Fin 8192) : Fin 2048 → EReal :=
  normed (fun l => X m c (ix2 i l)) (fun l => m ((c : Thread nD τ).loc main_arg1) (ix1 l))

/-- The row of a point's blocks, normalised. -/
theorem norm_row (c : Dev nD) (t : Fin cfg0.N) (r : Fin 1024) :
    normed (fun l => iblk m c 0 t (ix2 r l)) (fun l => iblk m c 1 t (ix2 (0 : Fin 1) l))
      = row m c (⟨t.val / 12 * 1024 + r, by have := lt8 t; omega⟩ : Fin 8192) := by
  unfold row
  exact congrArg₂ normed (funext fun l => (iblk0 m c t r l).trans (congrFun (V_v0 m c) _))
    (funext fun l => (iblk1 m c t l).trans (V_v7 m c l))

/-- The normalised block of a point, at an index: the reference's normalised row. -/
theorem norm_at (c : Dev nD) (t : Fin cfg0.N) (r : Fin 1024) (k : Fin 2048) :
    k0_pay3 (F := Ideal) (iblk m c 0 t) (iblk m c 1 t) (ix2 r k)
      = row m c (⟨t.val / 12 * 1024 + r, by have := lt8 t; omega⟩ : Fin 8192) k :=
  (pay3_at _ _ r k).trans (congrFun (norm_row m c t r) k)

/-- What the scratch holds after a point, at an index: the normalised block of the point's rows, whichever point of the
    run computed it. -/
theorem scratch_at (c : Dev nD) : ∀ (n : ℕ) (h : n < cfg0.N) (r : Fin 1024) (k : Fin 2048),
    (outsAt0 m c n h).2.2 (ix2 r k)
      = row m c (⟨n / 12 * 1024 + r, by have := lt8 ⟨n, h⟩; dsimp only at this; omega⟩ : Fin 8192) k := by
  intro n
  induction n with
  | zero =>
    intro h r k
    rw [outsAt0_A m c ⟨0, h⟩ rfl]
    frame_out
    exact norm_at m c ⟨0, h⟩ r k
  | succ n ih =>
    intro h r k
    by_cases h0 : (n + 1) % 12 = 0
    · rw [outsAt0_A m c ⟨n + 1, h⟩ h0]
      frame_out
      exact norm_at m c ⟨n + 1, h⟩ r k
    · rw [outsAt0_B m c ⟨n + 1, h⟩ h0]
      refine (ih (by omega) r k).trans ?_
      exact congrArg (fun i : Fin 8192 => row m c i k) (Fin.ext (show n / 12 * 1024 + r.val = (n + 1) / 12 * 1024 + r.val by omega))

/-- A point's projected block when the scratch holds the normalised rows. -/
theorem step_at (c : Dev nD) (t : Fin cfg0.N) (s : FVec Ideal S1024x2048 .bf16)
    (hs : ∀ r k, s (ix2 r k) = row m c (⟨t.val / 12 * 1024 + (r : Fin 1024).val, by have := lt8 t; omega⟩ : Fin 8192) (k : Fin 2048))
    (r : Fin 1024) (j : Fin 512) :
    k0_pay5 (F := Ideal) s (X0_2 m c t) (ix2 r j)
      = ∑ k : Fin 2048, row m c (⟨t.val / 12 * 1024 + r, by have := lt8 t; omega⟩ : Fin 8192) k
          * m ((c : Thread nD τ).loc main_arg2) (ix2 k (⟨t.val % 12 * 512 + j, by omega⟩ : Fin 6152)) := by
  refine (pay5_at _ _ r j).trans (Fin.sum_fin_congr fun k => ?_)
  rw [hs r k, iblk2 m c t k j]

/-- What a point leaves in the projection's block, at an index. -/
theorem out_at (c : Dev nD) (t : Fin cfg0.N) (r : Fin 1024) (j : Fin 512) :
    (outsAt0 m c t.val t.isLt).1 (ix2 r j)
      = ∑ k : Fin 2048, row m c (⟨t.val / 12 * 1024 + r, by have := lt8 t; omega⟩ : Fin 8192) k
          * m ((c : Thread nD τ).loc main_arg2) (ix2 k (⟨t.val % 12 * 512 + j, by omega⟩ : Fin 6152)) := by
  by_cases h0 : t.val % 12 = 0
  · rw [outsAt0_A m c t h0]
    frame_out
    exact step_at m c t _ (fun r k => norm_at m c t r k) r j
  · rw [outsAt0_B m c t h0]
    frame_out
    refine step_at m c t _ (fun r k => ?_) r j
    rw [read_unread_whole]
    refine (scratch_at m c (t.val - 1) (by omega) r k).trans ?_
    exact congrArg (fun i : Fin 8192 => row m c i k) (Fin.ext (show (t.val - 1) / 12 * 1024 + r.val = t.val / 12 * 1024 + r.val by omega))

/-- What the gates' block holds after a point, at an index: the gate of the point's row, whichever point of the run
    computed it. -/
theorem gates_at (c : Dev nD) : ∀ (n : ℕ) (h : n < cfg0.N) (r : Fin 1024) (j : Fin 128),
    (outsAt0 m c n h).2.1 (ix2 r j)
      = gate (row m c (⟨n / 12 * 1024 + r, by have := lt8 ⟨n, h⟩; dsimp only at this; omega⟩ : Fin 8192))
          (fun k => V m c main_v3 (ix2 k j)) (fun k => V m c main_v6 (ix2 k j)) := by
  have base : ∀ (t : Fin cfg0.N) (r : Fin 1024) (j : Fin 128),
      k0_pay4 (F := Ideal) (iblk m c 0 t) (iblk m c 1 t) (iblk m c 3 t) (iblk m c 4 t) (ix2 r j)
      = gate (row m c (⟨t.val / 12 * 1024 + r, by have := lt8 t; omega⟩ : Fin 8192))
          (fun k => V m c main_v3 (ix2 k j)) (fun k => V m c main_v6 (ix2 k j)) := by
    intro t r j
    refine (pay4_at _ _ _ _ r j).trans ?_
    rw [norm_row m c t r]
    exact congrArg₂ (gate _) (funext fun k => iblk3 m c t k j) (funext fun k => iblk4 m c t k j)
  intro n
  induction n with
  | zero =>
    intro h r j
    rw [outsAt0_A m c ⟨0, h⟩ rfl]
    frame_out
    exact base ⟨0, h⟩ r j
  | succ n ih =>
    intro h r j
    by_cases h0 : (n + 1) % 12 = 0
    · rw [outsAt0_A m c ⟨n + 1, h⟩ h0]
      frame_out
      exact base ⟨n + 1, h⟩ r j
    · rw [outsAt0_B m c ⟨n + 1, h⟩ h0]
      refine (ih (by omega) r j).trans ?_
      exact congrArg (fun i : Fin 8192 => gate (row m c i) _ _) (Fin.ext (show n / 12 * 1024 + r.val = (n + 1) / 12 * 1024 + r.val by omega))

/-- The reference's first result of these arguments. -/
def Z (c : Dev nD) : FVec Ideal S8192x6144 .f32 :=
  REFz (X m c) (m ((c : Thread nD τ).loc main_arg1)) (m ((c : Thread nD τ).loc main_arg2))

/-- The reference's second result of these arguments. -/
def Gt (c : Dev nD) : FVec Ideal S8192x128 .f32 :=
  REFg (X m c) (m ((c : Thread nD τ).loc main_arg1)) (m ((c : Thread nD τ).loc main_arg2))

/-- The projection's array after the run is the reference's first result. -/
theorem final5 (c : Dev nD) : (dats m 0 c).arrAt 5 (cfgs 0).N = Z m c := by
  refine (dats m 0 c).arrAt_eq_of_covers 5 _ (by decide +kernel) fun t hf y => ?_
  blk_simp
  rw [after0_5]
  idx_vars y
  refine (out_at m c t y0 y1).trans (((REFz_at _ _ _ (⟨t.val / 12 * 1024 + y0, by have := lt8 t; omega⟩ : Fin 8192) (⟨t.val % 12 * 512 + y1, by omega⟩ : Fin 6144)).symm).trans ?_)
  refine congrArg _ ?_
  blk_ext [idx t]

/-- The gates' weights at a gate's column are the argument's. -/
theorem WG_in (c : Dev nD) (k : Fin 2048) (j : Fin 128) (hj : j.val < 8) :
    WG m c (ix2 k j) = m ((c : Thread nD τ).loc main_arg2) (ix2 k (⟨6144 + j.val, by omega⟩ : Fin 6152)) := by
  unfold WG
  refine (pad_apply_of_inside (s := S2048x8) ![0, 0] ![0, 120] ![0, 0] _ _ _ _ (ix2 k j) (ix2 k (⟨j.val, hj⟩ : Fin 8)) (fun a => ?_)).trans ?_
  · fin_cases a <;> simp [ix2]
  · refine extractStridedSlice_apply (s := S2048x6152) ![0, 6144] _ _ _ _ (fun a => ?_)
    fin_cases a <;> simp [ix2]

/-- The gates' weights vanish at a padded column. -/
theorem WG_out (c : Dev nD) (k : Fin 2048) (j : Fin 128) (hj : ¬ j.val < 8) : WG m c (ix2 k j) = (0 : EReal) := by
  unfold WG
  refine (pad_apply_of_not_inside (s := S2048x8) ![0, 0] ![0, 120] ![0, 0] _ _ _ _ (ix2 k j) (1 : Fin 2) (fun h => hj ?_)).trans (pad_zero _ _)
  have := h.2.2
  simpa [ix2] using this

variable {m}

/-- The finiteness precondition, on one device, number by number. -/
theorem fine_args (hp : Cert.Pre_ProjIdeal_finite_inputs m) (c : Dev nD) :
    (∀ i, Fine (X m c i)) ∧ (∀ i, Fine (m ((c : Thread nD τ).loc main_arg1) i)) ∧ (∀ i, Fine (m ((c : Thread nD τ).loc main_arg2) i)) := by
  obtain ⟨h0, h1, h2⟩ := hp c
  exact ⟨fun i => fine_of_test (congrFun h0 _), fun i => fine_of_test (congrFun h1 i), fun i => fine_of_test (congrFun h2 i)⟩

/-- On finite inputs every entry of a normalised row is finite. -/
theorem fine_row (hp : Cert.Pre_ProjIdeal_finite_inputs m) (c : Dev nD) (i : Fin 8192) (k : Fin 2048) : Fine (row m c i k) :=
  fine_normed (fun l => (fine_args hp c).1 _) (fun l => (fine_args hp c).2.1 _) k

/-- On finite inputs the gates' weights are finite, the padded columns with them. -/
theorem fine_WG (hp : Cert.Pre_ProjIdeal_finite_inputs m) (c : Dev nD) (k : Fin 2048) (j : Fin 128) : Fine (WG m c (ix2 k j)) := by
  by_cases hj : j.val < 8
  · rw [WG_in m c k j hj]
    exact (fine_args hp c).2.2 _
  · rw [WG_out m c k j hj]
    exact ⟨0, rfl⟩

/-- On finite inputs a gate is the plain product of the normalised row and the gates' weights. -/
theorem gate_at (hp : Cert.Pre_ProjIdeal_finite_inputs m) (c : Dev nD) (i : Fin 8192) (j : Fin 128) :
    gate (row m c i) (fun k => V m c main_v3 (ix2 k j)) (fun k => V m c main_v6 (ix2 k j)) = Gt m c (ix2 i j) := by
  have h3 : ∀ k : Fin 2048, (V m c main_v3 : FVec Ideal S2048x128 .bf16) (ix2 k j) = WG m c (ix2 k j) := fun k => by
    rw [V_v3]; rfl
  have h6 : ∀ k : Fin 2048, (V m c main_v6 : FVec Ideal S2048x128 .bf16) (ix2 k j) = (0 : EReal) := fun k => by
    rw [V_v6]; exact fine_sub (fine_WG hp c k j)
  refine (gate_fine (fine_row hp c i) h6).trans ?_
  unfold Gt
  by_cases hj : j.val < 8
  · rw [REFg_at _ _ _ i j hj]
    exact Finset.sum_congr rfl fun k _ => congrArg (row m c i k * ·) ((h3 k).trans (WG_in m c k j hj))
  · rw [REFg_pad _ _ _ i j hj]
    exact Finset.sum_eq_zero fun k _ => (congrArg (row m c i k * ·) ((h3 k).trans (WG_out m c k j hj))).trans (mul_zero _)

/-- On finite inputs the gates' array after the run is the reference's second result. -/
theorem final6 (hp : Cert.Pre_ProjIdeal_finite_inputs m) (c : Dev nD) : (dats m 0 c).arrAt 6 (cfgs 0).N = Gt m c := by
  refine (dats m 0 c).arrAt_eq_of_covers 6 _ (by decide +kernel) fun t hf y => ?_
  blk_simp
  rw [after0_6]
  idx_vars y
  refine (gates_at m c t.val t.isLt y0 y1).trans ((gate_at hp c _ y1).trans ?_)
  refine congrArg _ ?_
  blk_ext [idx t]

/-- The prompt group's input projections: on finite inputs the kernel's two results are the reference's. -/
theorem algebraic : Cert.algebraic_ProjIdeal_ProjRefIdeal_pre_finite_inputs := by
  intro m g m' g' hp hagree
  refine ⟨fun c => Z m c, fun c => Gt m c, ?_, ?_⟩
  · refine (θ_run Cert.ProjIdeal.defs _ _).mono (fun r h c => ?_) (θ_run_and (Cert.ProjIdeal.Gen.run_main m g) (Cert.ProjIdeal.Gen.frame m g))
    exact ⟨((h.1 c).1 5).trans (final5 m c), ((h.1 c).1 6).trans (final6 hp c), h.2.1 c⟩
  · refine (θ_run Cert.ProjRefIdeal.defs _ _).mono (fun r h c => ?_) (Cert.ProjRefIdeal.Value.run (F := Ideal) m' g')
    obtain ⟨h0, h1, hargs⟩ := h c
    obtain ⟨a0, a1, a2⟩ := hagree c
    refine ⟨h0.trans ?_, h1.trans ?_, hargs⟩
    · rw [a0, a1, a2]; rfl
    · rw [a0, a1, a2]; rfl

end Cert.ProjIdeal.Value

end
-- ==== Proof.SProjIdealFrame.lean ====
/- The body, the proof data and the run of the idealised input projections. -/
module

public import proofs.«01_k».proof.Proof.Gen.SProjIdeal.Frame
public import proofs.«01_k».proof.Proof.Gen.SProjIdeal.Skeleton
public import Idealize.ShloMosaic.Lib.Claim

@[expose] public section

set_option maxRecDepth 16384

noncomputable section

namespace Cert.SProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's condition: the second grid coordinate is zero. -/
abbrev cond0_0 (i : grid0.Coords) : Prop := (Scalar.cmpi .ne (Scalar.extui (Scalar.cmpi .eq (BitVec.ofNat 32 (i 1).val) 0#32)) 0#32) = 1#1
/-- It holds at the first of the twelve points. -/
theorem hcond0_0 : ∀ t : Fin cfg0.N, cond0_0 (grid0.coords t) ↔ t.val % 12 = 0 :=
  (fun t => by
    have ht : t.val < 12 := Nat.lt_of_lt_of_eq t.isLt N_0
    have e0 : (grid0.coords t 0).val = t.val / 12 % 1 := Pipeline.Grid.coords_val t 0 (by decide) rfl
    have e1 : (grid0.coords t 1).val = t.val / 1 % 12 := Pipeline.Grid.coords_val t 1 (by decide) rfl
    simp only [cond0_0, e0, e1]
    word_cmp
   : ∀ t : Fin grid0.N, cond0_0 (grid0.coords t) ↔ t.val % 12 = 0)

/-- A staging buffer of the block of z, through which its contents are stated. -/
abbrev VO0_5 : View sig .tc .vmem S80x512 .f32 := (Memref.whole cc0_stg5_0 : Memref sig .tc .vmem S80x512 .f32).view
/-- A staging buffer of the block of the gates, through which its contents are stated. -/
abbrev VO0_6 : View sig .tc .vmem S80x128 .f32 := (Memref.whole cc0_stg6_0 : Memref sig .tc .vmem S80x128 .f32).view
/-- Window 0's staging buffer at a point, and that it is a whole buffer. -/
abbrev ms0_0 (t : Fin cfg0.N) : Memref sig .tc .vmem S80x2048 .f32 := win0_0.stage (cfg0.slots t 0)
abbrev hs0_0 (t : Fin cfg0.N) : (ms0_0 t).IsWhole := hstage0_0 ((cfg0.slots t 0).cast nbuf0_0)
/-- Window 1's staging buffer at a point, and that it is a whole buffer. -/
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
/-- Window 2's staging buffer at a point, and that it is a whole buffer. -/
abbrev ms0_2 (t : Fin cfg0.N) : Memref sig .tc .vmem S2048x512 .f32 := win0_2.stage (cfg0.slots t 2)
abbrev hs0_2 (t : Fin cfg0.N) : (ms0_2 t).IsWhole := hstage0_2 ((cfg0.slots t 2).cast nbuf0_2)
/-- Window 3's staging buffer at a point, and that it is a whole buffer. -/
abbrev ms0_3 (t : Fin cfg0.N) : Memref sig .tc .vmem S2048x128 .bf16 := win0_3.stage (cfg0.slots t 3)
abbrev hs0_3 (t : Fin cfg0.N) : (ms0_3 t).IsWhole := hstage0_3 ((cfg0.slots t 3).cast nbuf0_3)
/-- Window 4's staging buffer at a point, and that it is a whole buffer. -/
abbrev ms0_4 (t : Fin cfg0.N) : Memref sig .tc .vmem S2048x128 .bf16 := win0_4.stage (cfg0.slots t 4)
abbrev hs0_4 (t : Fin cfg0.N) : (ms0_4 t).IsWhole := hstage0_4 ((cfg0.slots t 4).cast nbuf0_4)
/-- Window 5's staging buffer at a point, and that it is a whole buffer. -/
abbrev ms0_5 (t : Fin cfg0.N) : Memref sig .tc .vmem S80x512 .f32 := win0_5.stage (cfg0.slots t 5)
abbrev hs0_5 (t : Fin cfg0.N) : (ms0_5 t).IsWhole := hstage0_5 ((cfg0.slots t 5).cast nbuf0_5)
/-- Window 6's staging buffer at a point, and that it is a whole buffer. -/
abbrev ms0_6 (t : Fin cfg0.N) : Memref sig .tc .vmem S80x128 .f32 := win0_6.stage (cfg0.slots t 6)
abbrev hs0_6 (t : Fin cfg0.N) : (ms0_6 t).IsWhole := hstage0_6 ((cfg0.slots t 6).cast nbuf0_6)
/-- The scratch holding the normalised rows, which the points of one row block share. -/
abbrev scM0_0 : Memref sig .tc .vmem S80x2048 .bf16 := Memref.whole cc0_scratch0
abbrev VS0_0 : View sig .tc .vmem S80x2048 .bf16 := scM0_0.view

/-- What the region is launched with: the scratch at some contents and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body on any staging buffers -/

set_option maxHeartbeats 1000000 in
/-- The body at the first point of a row block: it stores the normalised rows, the gates and a block of z. -/
noncomputable def kernelRun0_A (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : cond0_0 i)
    (x0 : Vec F S80x2048 .f32) (x1 : Vec F S1x2048 .f32) (x2 : Vec F S2048x512 .f32) (x3 : Vec F S2048x128 .bf16) (x4 : Vec F S2048x128 .bf16) :
    Σ' (L5 : List (View.Piece (Elt F) S80x512 .f32)) (L6 : List (View.Piece (Elt F) S80x128 .f32)), { LS0 : List (View.Piece (Elt F) S80x2048 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f LS0)) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, ?_, ?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]; · iexists _; iexact H6
    iexists _; iexact HS0

set_option maxHeartbeats 1000000 in
/-- The body at the other points: it stores a block of z; the gates and the normalised rows stay as they were. -/
noncomputable def kernelRun0_B (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : ¬cond0_0 i)
    (x0 : Vec F S80x2048 .f32) (x1 : Vec F S1x2048 .f32) (x2 : Vec F S2048x512 .f32) (x3 : Vec F S2048x128 .bf16) (x4 : Vec F S2048x128 .bf16) (xo6 : Vec F S80x128 .f32) (xs0 : Vec F S80x2048 .bf16) :
    { L5 : List (View.Piece (Elt F) S80x512 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xo6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ owns (c : Thread nD τ) arg8 fullShare xo6 ∗ owns (c : Thread nD τ) arg9 fullShare xs0) -∗ K ⟨⟩))
          ⊢ wp frame (wpE (defs₀ (F := F)) Variants.none c none) E (cc0_inproj i arg2 harg2 arg3 harg3 arg4 harg4 arg5 harg5 arg6 harg6 arg7 harg7 arg8 harg8 arg9 harg9) K } := by
  refine ⟨?_, fun E K => ?run⟩
  case run =>
    simp only [cc0_inproj_eq_skeleton]; unfold cc0_inproj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf6; obtain rfl := harg9.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    isplitl [H6]
    · iexists _; isplitr; · ipureintro; exact harg8.read_unread _
      iexact H6
    iexists _; isplitr; · ipureintro; exact harg9.read_unread _
    iexact HS0

/-! ## What the body leaves -/

/-- The first point of a row block stores the whole block of z. -/
theorem cover0_A_5 (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : cond0_0 i)
    (x0 : Vec F S80x2048 .f32) (x1 : Vec F S1x2048 .f32) (x2 : Vec F S2048x512 .f32) (x3 : Vec F S2048x128 .bf16) (x4 : Vec F S2048x128 .bf16) (y : S80x512.Idx) :
    ∃ pc ∈ (kernelRun0_A c i arg2 harg2 arg3 harg3 arg4 harg4 arg5 harg5 arg6 harg6 arg7 harg7 arg8 harg8 arg9 harg9 hc0 x0 x1 x2 x3 x4).1, y ∈ pc.1.set :=
  View.cover_of_tiledL (kernelRun0_A c i arg2 harg2 arg3 harg3 arg4 harg4 arg5 harg5 arg6 harg6 arg7 harg7 arg8 harg8 arg9 harg9 hc0 x0 x1 x2 x3 x4).1 S80x512.size (by sl_kernel_rfl) y

/-- What the first point of a row block leaves in the block of z. -/
def out0_A_5 (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : cond0_0 i)
    (x0 : Vec F S80x2048 .f32) (x1 : Vec F S1x2048 .f32) (x2 : Vec F S2048x512 .f32) (x3 : Vec F S2048x128 .bf16) (x4 : Vec F S2048x128 .bf16) : Vec F S80x512 .f32 :=
  VO0_5.read (Elt F) (VO0_5.writes (Elt F) VO0_5.junk (kernelRun0_A c i arg2 harg2 arg3 harg3 arg4 harg4 arg5 harg5 arg6 harg6 arg7 harg7 arg8 harg8 arg9 harg9 hc0 x0 x1 x2 x3 x4).1)

/-- The first point of a row block stores the whole block of gates. -/
theorem cover0_A_6 (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : cond0_0 i)
    (x0 : Vec F S80x2048 .f32) (x1 : Vec F S1x2048 .f32) (x2 : Vec F S2048x512 .f32) (x3 : Vec F S2048x128 .bf16) (x4 : Vec F S2048x128 .bf16) (y : S80x128.Idx) :
    ∃ pc ∈ (kernelRun0_A c i arg2 harg2 arg3 harg3 arg4 harg4 arg5 harg5 arg6 harg6 arg7 harg7 arg8 harg8 arg9 harg9 hc0 x0 x1 x2 x3 x4).2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.1 S80x128.size (by sl_kernel_rfl) y

/-- What the first point of a row block leaves in the block of gates. -/
def out0_A_6 (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : cond0_0 i)
    (x0 : Vec F S80x2048 .f32) (x1 : Vec F S1x2048 .f32) (x2 : Vec F S2048x512 .f32) (x3 : Vec F S2048x128 .bf16) (x4 : Vec F S2048x128 .bf16) : Vec F S80x128 .f32 :=
  VO0_6.read (Elt F) (VO0_6.writes (Elt F) VO0_6.junk (kernelRun0_A c i arg2 harg2 arg3 harg3 arg4 harg4 arg5 harg5 arg6 harg6 arg7 harg7 arg8 harg8 arg9 harg9 hc0 x0 x1 x2 x3 x4).2.1)

/-- The first point of a row block stores the whole scratch. -/
theorem scover0_A_S0 (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : cond0_0 i)
    (x0 : Vec F S80x2048 .f32) (x1 : Vec F S1x2048 .f32) (x2 : Vec F S2048x512 .f32) (x3 : Vec F S2048x128 .bf16) (x4 : Vec F S2048x128 .bf16) (y : S80x2048.Idx) :
    ∃ pc ∈ (kernelRun0_A c i arg2 harg2 arg3 harg3 arg4 harg4 arg5 harg5 arg6 harg6 arg7 harg7 arg8 harg8 arg9 harg9 hc0 x0 x1 x2 x3 x4).2.2.1, y ∈ pc.1.set :=
  View.cover_of_tiledL (kernelRun0_A c i arg2 harg2 arg3 harg3 arg4 harg4 arg5 harg5 arg6 harg6 arg7 harg7 arg8 harg8 arg9 harg9 hc0 x0 x1 x2 x3 x4).2.2.1 S80x2048.size (by sl_kernel_rfl) y

/-- What the first point of a row block leaves in the scratch. -/
def sout0_A_S0 (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : cond0_0 i)
    (x0 : Vec F S80x2048 .f32) (x1 : Vec F S1x2048 .f32) (x2 : Vec F S2048x512 .f32) (x3 : Vec F S2048x128 .bf16) (x4 : Vec F S2048x128 .bf16) : Vec F S80x2048 .bf16 :=
  VS0_0.read (Elt F) (VS0_0.writes (Elt F) VS0_0.junk (kernelRun0_A c i arg2 harg2 arg3 harg3 arg4 harg4 arg5 harg5 arg6 harg6 arg7 harg7 arg8 harg8 arg9 harg9 hc0 x0 x1 x2 x3 x4).2.2.1)

/-- Every other point stores the whole block of z. -/
theorem cover0_B_5 (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : ¬cond0_0 i)
    (x0 : Vec F S80x2048 .f32) (x1 : Vec F S1x2048 .f32) (x2 : Vec F S2048x512 .f32) (x3 : Vec F S2048x128 .bf16) (x4 : Vec F S2048x128 .bf16) (xo6 : Vec F S80x128 .f32) (xs0 : Vec F S80x2048 .bf16) (y : S80x512.Idx) :
    ∃ pc ∈ (kernelRun0_B c i arg2 harg2 arg3 harg3 arg4 harg4 arg5 harg5 arg6 harg6 arg7 harg7 arg8 harg8 arg9 harg9 hc0 x0 x1 x2 x3 x4 xo6 xs0).1, y ∈ pc.1.set :=
  View.cover_of_tiledL (kernelRun0_B c i arg2 harg2 arg3 harg3 arg4 harg4 arg5 harg5 arg6 harg6 arg7 harg7 arg8 harg8 arg9 harg9 hc0 x0 x1 x2 x3 x4 xo6 xs0).1 S80x512.size (by sl_kernel_rfl) y

/-- What any other point leaves in the block of z. -/
def out0_B_5 (c : Dev nD) (i : grid0.Coords) (arg2 : Memref sig .tc .vmem S80x2048 .f32) (harg2 : arg2.IsWhole) (arg3 : Memref sig .tc .vmem S1x2048 .f32) (harg3 : arg3.IsWhole) (arg4 : Memref sig .tc .vmem S2048x512 .f32) (harg4 : arg4.IsWhole) (arg5 : Memref sig .tc .vmem S2048x128 .bf16) (harg5 : arg5.IsWhole) (arg6 : Memref sig .tc .vmem S2048x128 .bf16) (harg6 : arg6.IsWhole) (arg7 : Memref sig .tc .vmem S80x512 .f32) (harg7 : arg7.IsWhole) (arg8 : Memref sig .tc .vmem S80x128 .f32) (harg8 : arg8.IsWhole) (arg9 : Memref sig .tc .vmem S80x2048 .bf16) (harg9 : arg9.IsWhole) (hc0 : ¬cond0_0 i)
    (x0 : Vec F S80x2048 .f32) (x1 : Vec F S1x2048 .f32) (x2 : Vec F S2048x512 .f32) (x3 : Vec F S2048x128 .bf16) (x4 : Vec F S2048x128 .bf16) (xo6 : Vec F S80x128 .f32) (xs0 : Vec F S80x2048 .bf16) : Vec F S80x512 .f32 :=
  VO0_5.read (Elt F) (VO0_5.writes (Elt F) VO0_5.junk (kernelRun0_B c i arg2 harg2 arg3 harg3 arg4 harg4 arg5 harg5 arg6 harg6 arg7 harg7 arg8 harg8 arg9 harg9 hc0 x0 x1 x2 x3 x4 xo6 xs0).1)

/-- The block of z, the block of gates and the scratch after the body at position `n`. -/
def outsAt0 (c : Dev nD) : (n : ℕ) → n < cfg0.N → Vec F S80x512 .f32 × Vec F S80x128 .f32 × Vec F S80x2048 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩), out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩), sout0_A_S0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) scM0_0 (Memref.isWhole_whole _) ((hcond0_0 ⟨0, hn⟩).mpr (Nat.zero_mod _)) (iblk m c 0 ⟨0, hn⟩) (iblk m c 1 ⟨0, hn⟩) (X0_2 m c ⟨0, hn⟩) (iblk m c 3 ⟨0, hn⟩) (iblk m c 4 ⟨0, hn⟩))
  | n + 1, hn =>
    if h0 : (n + 1) % 12 = 0 then
      (out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩), out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩), sout0_A_S0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) ((hcond0_0 ⟨n + 1, hn⟩).mpr h0) (iblk m c 0 ⟨n + 1, hn⟩) (iblk m c 1 ⟨n + 1, hn⟩) (X0_2 m c ⟨n + 1, hn⟩) (iblk m c 3 ⟨n + 1, hn⟩) (iblk m c 4 ⟨n + 1, hn⟩))
    else
      (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) scM0_0 (Memref.isWhole_whole _) (fun h => h0 ((hcond0_0 ⟨n + 1, hn⟩).mp h)) (iblk m c 0 ⟨n + 1, hn⟩) (iblk m c 1 ⟨n + 1, hn⟩) (X0_2 m c ⟨n + 1, hn⟩) (iblk m c 3 ⟨n + 1, hn⟩) (iblk m c 4 ⟨n + 1, hn⟩) (outsAt0 c n (Nat.lt_of_succ_lt hn)).2.1 (outsAt0 c n (Nat.lt_of_succ_lt hn)).2.2, (outsAt0 c n (Nat.lt_of_succ_lt hn)).2.1, (outsAt0 c n (Nat.lt_of_succ_lt hn)).2.2)

/-- At the first point of a row block. -/
theorem outsAt0_A (c : Dev nD) (t : Fin cfg0.N) (h0 : t.val % 12 = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t), out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t), sout0_A_S0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (X0_2 m c t) (iblk m c 3 t) (iblk m c 4 t)) := by
  obtain ⟨n, hn⟩ := t
  cases n with
  | zero => exact rfl
  | succ n => exact (dif_pos h0).trans rfl

/-- At any other point, over what the point before left. -/
theorem outsAt0_B (c : Dev nD) (t : Fin cfg0.N) (h0 : ¬t.val % 12 = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (X0_2 m c t) (iblk m c 3 t) (iblk m c 4 t) (outsAt0 m c (t.val - 1) (Nat.lt_of_le_of_lt (Nat.sub_le _ _) t.isLt)).2.1 (outsAt0 m c (t.val - 1) (Nat.lt_of_le_of_lt (Nat.sub_le _ _) t.isLt)).2.2, (outsAt0 m c (t.val - 1) (Nat.lt_of_le_of_lt (Nat.sub_le _ _) t.isLt)).2.1, (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-- The invariant before position `n`: at the start the launch's, afterwards the scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2)) ∗ (∃ r, prngReg c r)) := by
  cases n with
  | zero => exact absurd rfl hz
  | succ n => rfl

/-- The proof data: the arrays as the region finds them, each input's buffer at its block, the outputs' at `outsAt0`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => X0_2 m c t
    | ⟨3, _⟩ => iblk m c 3 t
    | ⟨4, _⟩ => iblk m c 4 t
    | ⟨5, _⟩ => (outsAt0 m c t.val t.isLt).1
    | ⟨6, _⟩ => (outsAt0 m c t.val t.isLt).2.1
  Φ t := PhiS m c t.val (Nat.le_of_lt_succ t.isLt)
  q _ := fullShare
  owed _ := 0

/-- The proof data's arrays are those the region finds. -/
theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The gates' window is live exactly at the first point of a row block. -/
theorem idle0_6 (t : Fin cfg0.N) (h0 : ¬t.val % 12 = 0) : cfg0.idle 6 (cfg0.grid.coords t) = true := by
  have h : ¬cond0_0 (grid0.coords t) := fun h => h0 ((hcond0_0 t).mp h)
  show (!(k0_cond1 (grid0.coords t) == 1#1)) = true
  rw [Bool.not_eq_true', beq_eq_false_iff_ne]
  exact h
theorem live0_6 (t : Fin cfg0.N) (h0 : t.val % 12 = 0) : cfg0.idle 6 (cfg0.grid.coords t) = false := by
  have h : cond0_0 (grid0.coords t) := (hcond0_0 t).mpr h0
  show (!(k0_cond1 (grid0.coords t) == 1#1)) = false
  rw [Bool.not_eq_false', beq_iff_eq]
  exact h

/-- What the body leaves in the gates' buffer does not depend on what it found there. -/
theorem kept0_6 (c : Dev nD) (t : Fin cfg0.N) (d) : (dats m 0 c).kept 6 t d = (outsAt0 m c t.val t.isLt).2.1 := by
  unfold Dat.kept
  rw [Pipeline.fill_of_clip_none 6 _ (fun _ => rfl) d ((dats m 0 c).after 6 t), Pipeline.Window.fill_cut, after0_6]

/-- Away from the first point of a row block the buffer of gates holds what the point before left. -/
theorem before0_6_nat (c : Dev nD) (d) : ∀ (n : ℕ) (hn : n + 1 < cfg0.N) (h0 : ¬(n + 1) % 12 = 0),
    (dats m 0 c).before 6 ⟨n + 1, hn⟩ d = (outsAt0 m c n (by omega)).2.1 := by
  intro n
  induction n with
  | zero =>
    intro hn h0
    rw [Dat.before_of_pos _ 6 ⟨0 + 1, hn⟩ (by dsimp only; omega) ((cfg0.win 6).fetch_out rfl _),
      if_neg (fun h => by have := (flush0_6 ⟨0 + 1 - 1, by omega⟩).mp h; dsimp only at this; omega)]
    unfold Dat.left
    rw [live0_6 ⟨0 + 1 - 1, _⟩ rfl]
    exact kept0_6 m c ⟨0, _⟩ d
  | succ n ih =>
    intro hn h0
    rw [Dat.before_of_pos _ 6 ⟨n + 1 + 1, hn⟩ (by dsimp only; omega) ((cfg0.win 6).fetch_out rfl _),
      if_neg (fun h => by have := (flush0_6 ⟨n + 1 + 1 - 1, by omega⟩).mp h; dsimp only at this; omega)]
    unfold Dat.left
    by_cases h1 : (n + 1) % 12 = 0
    · rw [live0_6 ⟨n + 1 + 1 - 1, by omega⟩ h1]
      exact kept0_6 m c ⟨n + 1, _⟩ d
    · rw [idle0_6 ⟨n + 1 + 1 - 1, by omega⟩ h1]
      refine (ih (by omega) h1).trans ?_
      rw [outsAt0_B m c ⟨n + 1, by omega⟩ h1]
      rfl

theorem before0_6_B (c : Dev nD) (t : Fin cfg0.N) (h0 : ¬t.val % 12 = 0) (d) :
    (dats m 0 c).before 6 t d = (outsAt0 m c (t.val - 1) (Nat.lt_of_le_of_lt (Nat.sub_le _ _) t.isLt)).2.1 := by
  obtain ⟨n, hn⟩ := t
  cases n with
  | zero => exact absurd (Nat.zero_mod _) h0
  | succ n => exact before0_6_nat m c d n hn h0

/-- What the body returns of the gates' buffer is what the pipeline asks of it, written there or left as found. -/
theorem leaves0_6 (c : Dev nD) (t : Fin cfg0.N) :
    owns (c : Thread nD τ) (ms0_6 t) fullShare ((dats m 0 c).after 6 t) ⊢ ((dats m 0 c).leavesExact 6 t : sProp 𝕄) := by
  by_cases h0 : t.val % 12 = 0
  · unfold Dat.leavesExact; rw [live0_6 t h0]
  · cases hf : (cfg0.win 6).flush t
    · rw [Dat.leavesExact_idle _ 6 t (idle0_6 t h0) hf]
      iintro H
      iexists ((dats m 0 c).after 6 t)
      rw [before0_6_B m c t h0, after0_6, outsAt0_B m c t h0]
      iexact H
    · unfold Dat.leavesExact; rw [idle0_6 t h0]; simp only [hf]; exact Idealize.SL.BI.Entails.refl _

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 3200000 in
/-- The body at any point takes its precondition to its postcondition. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 12 := lt_of_lt_of_eq t.isLt (show cfg0.N = 12 from N_0)
  by_cases h0 : t.val % 12 = 0
  · by_cases hz : t.val = 0
    · rw [PhiS_castSucc m c t, PhiS_zero m c _ _ hz, PhiA0_eq]
      rw [outsAt0_A m c t h0]
      unfold out0_A_5 out0_A_6 sout0_A_S0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (X0_2 m c t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_S0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
    · rw [PhiS_castSucc m c t, PhiS_pos m c _ _ hz]
      rw [outsAt0_A m c t h0]
      unfold out0_A_5 out0_A_6 sout0_A_S0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ ((hcond0_0 t).mpr h0) (iblk m c 0 t) (iblk m c 1 t) (X0_2 m c t) (iblk m c 3 t) (iblk m c 4 t)).2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [HS0]; · iexists _; iexact HS0
      iintro ⟨H0, H1, H2, H3, H4, ⟨%e5, H5⟩, ⟨%e6, H6⟩, ⟨%es0, HS0⟩⟩
      isplitl [HS0 Hg]
      · isplitl [HS0]
        · unfold owns; iexists _; isplitr
          swap; · iexact HS0
          ipureintro; exact View.read_writes_of_cover _ _ _ _ _ (scover0_A_S0 c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_A_5 c _ _ _ _ _ _ _ _ _ _ _ _ _ _ _ _ _ _ _ _ _ _ _)
      unfold owns; iexists _; isplitr
      swap; · iexact H6
      ipureintro; exact View.read_writes_of_cover _ _ _ _ _ (cover0_A_6 c _ _ _ _ _ _ _ _ _ _ _ _ _ _ _ _ _ _ _ _ _ _ _)
  · by_cases hz : t.val = 0
    · exfalso; omega
    · rw [PhiS_castSucc m c t, PhiS_pos m c _ _ hz]
      rw [outsAt0_B m c t h0]
      simp only [before0_6_B m c t h0]
      unfold out0_B_5; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ (fun h => h0 ((hcond0_0 t).mp h)) (iblk m c 0 t) (iblk m c 1 t) (X0_2 m c t) (iblk m c 3 t) (iblk m c 4 t) _ _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [HS0]; · iexact HS0
      iintro ⟨H0, H1, H2, H3, H4, ⟨%e5, H5⟩, H6, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]
      · unfold owns; iexists _; isplitr
        swap; · iexact H5
        ipureintro; exact View.read_writes_of_cover _ _ _ _ _ (cover0_B_5 c _ _ _ _ _ _ _ _ _ _ _ _ _ _ _ _ _ _ _ _ _ _ _ _ _)
      iexact H6

/-- The body table's row at point `t` is the body there. -/
theorem defs₀_row (t : Fin cfg0.N) :
    defs₀ (F := F) .tc cfg0.body (cfg0.bodyArgs t (cfg0.slots t)) = bodyAt0 t := by
  unfold defs₀; rw [Defs.onTc_tc]

/-- The pipeline's obligation on the body. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  exact sep_mono .rfl (sep_mono .rfl (sep_mono .rfl (sep_mono .rfl (sep_mono .rfl (sep_mono .rfl (sep_mono .rfl (sep_mono .rfl (leaves0_6 m c t))))))))

/-- The launch establishes the invariant, -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- and after the last point the invariant gives back what the launch handed over. -/
theorem hout (c : Dev nD) : (dats m 0 c).Φ (Fin.last cfg0.N) ⊢ Pipeline.ΦA spec0 c := by
  have ht : (Fin.last cfg0.N).val ≠ 0 := by rw [Fin.val_last]; have : cfg0.N = 12 := N_0; omega
  rw [show (dats m 0 c).Φ (Fin.last cfg0.N) = PhiS m c (Fin.last cfg0.N).val (Nat.le_of_lt_succ (Fin.last cfg0.N).isLt) from rfl, PhiS_pos m c _ _ ht, PhiA0_eq]
  iintro ⟨HS0, Hg⟩
  isplitl [HS0]
  · iexists _; iexact HS0
  iexact Hg

set_option backward.isDefEq.respectTransparency.types false in
/-- Every run of the program ends with the arrays at what the proof data say, the later host lines' buffers at what they
    compute from them, and every semaphore at zero. -/
theorem run_main_quiescent : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the semaphores. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_main_quiescent m ρ)

/-- The frame: every run ends, with the argument arrays unchanged and the semaphores at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.SProjIdeal.Gen

end
-- ==== Proof.SProjValue.lean ====
module

public import proofs.«01_k».proof.Defs
public import proofs.«01_k».proof.Proof.ProjPay
public import proofs.«01_k».proof.Proof.SProjIdealFrame
public import proofs.«01_k».proof.Proof.Gen.SProjRefIdeal.Run
public import proofs.«01_k».proof.Proof.Gen.SProjRefIdeal
public import proofs.«01_k».proof.Proof.Gen.Pre_finite_samples
public import Idealize.ShloMosaic.Lib.Pipeline.ValueKit
public import Idealize.ShloMosaic.Lib.Pipeline.ReadBack
public import Idealize.ShloMosaic.Lib.Pointwise
public import Idealize.ShloMosaic.Lib.KernelVsHost
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.SProjIdeal.Value

open Cert.SProjIdeal Cert.SProjIdeal.Gen
open Cert.ProjIdeal.Value (normed gate pad_zero Fine fine_normed fine_sub gate_fine fine_of_test)

/-! The input projections of the meta tokens and the sample tokens: the rows are one block, so a grid point is a block of
    columns. The normalised row, the gate and what finiteness gives are the prompt group's. -/

/-- The block the first point leaves in the scratch, at an index: the normalised row. -/
theorem pay3_at (x : FVec Ideal S80x2048 .f32) (g : FVec Ideal S1x2048 .f32) (r : Fin 80) (k : Fin 2048) :
    k0_pay3 (F := Ideal) x g (ix2 r k) = normed (fun l => x (ix2 r l)) (fun l => g (ix2 (0 : Fin 1) l)) k := by
  pointwise [k0_pay3, k0_pay2, k0_pay1, normed]

/-- The projected block of a point at an index: the scratch's row times the weights' column. -/
theorem pay5_at (s : FVec Ideal S80x2048 .bf16) (w : FVec Ideal S2048x512 .f32) (r : Fin 80) (j : Fin 512) :
    k0_pay5 (F := Ideal) s w (ix2 r j) = ∑ k : Fin 2048, s (ix2 r k) * w (ix2 k j) := by
  pointwise [k0_pay5]

/-- The gates' block at an index. -/
theorem pay4_at (x : FVec Ideal S80x2048 .f32) (g : FVec Ideal S1x2048 .f32) (hi lo : FVec Ideal S2048x128 .bf16) (r : Fin 80) (j : Fin 128) :
    k0_pay4 (F := Ideal) x g hi lo (ix2 r j)
      = gate (normed (fun l => x (ix2 r l)) (fun l => g (ix2 (0 : Fin 1) l))) (fun k => hi (ix2 k j)) (fun k => lo (ix2 k j)) := by
  pointwise [k0_pay4, k0_pay2, k0_pay1, gate, normed]

/-- The reference's product before it is cut in two. -/
def PRE (X : FVec Ideal Cert.SProjRefIdeal.S80x2048 .f32) (G : FVec Ideal Cert.SProjRefIdeal.S2048 .f32)
    (W : FVec Ideal Cert.SProjRefIdeal.S2048x6152 .f32) : FVec Ideal Cert.SProjRefIdeal.S80x6152 .f32 :=
  Host.dotGeneral Cert.SProjRefIdeal.dot_S80x2048_S2048x6152_S80x6152_1_0_0_1_n_n none (mulf (mulf X (broadcastInDim Cert.SProjRefIdeal.S80x2048 ![0, 1] Cert.SProjRefIdeal.Gen.bcast_S80x1_S80x2048_0_1 (Host.rsqrt (addf (Host.divf (broadcastInDim Cert.SProjRefIdeal.S80x1 ![0] Cert.SProjRefIdeal.Gen.bcast_S80_S80x1_0 (Host.reduceAdd (mulf X X) (constant Cert.SProjRefIdeal.S_ .f32 0x00000000#32) Cert.SProjRefIdeal.Gen.reducesTo_S80x2048_S80_d1 Cert.SProjRefIdeal.Gen.h_S_)) (broadcastInDim Cert.SProjRefIdeal.S80x1 ![] Cert.SProjRefIdeal.Gen.bcast_S_S80x1 (constant Cert.SProjRefIdeal.S_ .f32 0x45000000#32))) (broadcastInDim Cert.SProjRefIdeal.S80x1 ![] Cert.SProjRefIdeal.Gen.bcast_S_S80x1 (constant Cert.SProjRefIdeal.S_ .f32 0x358637BD#32)))))) (broadcastInDim Cert.SProjRefIdeal.S80x2048 ![0, 1] Cert.SProjRefIdeal.Gen.bcast_S1x2048_S80x2048_0_1 (broadcastInDim Cert.SProjRefIdeal.S1x2048 ![1] Cert.SProjRefIdeal.Gen.bcast_S2048_S1x2048_1 G))) W

/-- The reference's first result: the product's first 6144 columns. -/
def REFz (X : FVec Ideal Cert.SProjRefIdeal.S80x2048 .f32) (G : FVec Ideal Cert.SProjRefIdeal.S2048 .f32)
    (W : FVec Ideal Cert.SProjRefIdeal.S2048x6152 .f32) : FVec Ideal Cert.SProjRefIdeal.S80x6144 .f32 :=
  extractStridedSlice Cert.SProjRefIdeal.S80x6144 ![0, 0] (PRE X G W) Cert.SProjRefIdeal.Gen.slices_S80x6152_S80x6144_0_0

/-- The reference's second result: the product's last 8 columns, padded with zeros. -/
def REFg (X : FVec Ideal Cert.SProjRefIdeal.S80x2048 .f32) (G : FVec Ideal Cert.SProjRefIdeal.S2048 .f32)
    (W : FVec Ideal Cert.SProjRefIdeal.S2048x6152 .f32) : FVec Ideal Cert.SProjRefIdeal.S80x128 .f32 :=
  pad Cert.SProjRefIdeal.S80x128 ![0, 0] ![0, 120] ![0, 0] (extractStridedSlice Cert.SProjRefIdeal.S80x8 ![0, 6144] (PRE X G W) Cert.SProjRefIdeal.Gen.slices_S80x6152_S80x8_0_6144) (sitofp .f32 (constantI Cert.SProjRefIdeal.S_ 32 0#32)) Cert.SProjRefIdeal.Gen.pads_S80x8_S80x128_000_01200 Cert.SProjRefIdeal.Gen.h_S_

/-- The reference's product at an index. -/
theorem PRE_at (X : FVec Ideal Cert.SProjRefIdeal.S80x2048 .f32) (G : FVec Ideal Cert.SProjRefIdeal.S2048 .f32)
    (W : FVec Ideal Cert.SProjRefIdeal.S2048x6152 .f32) (r : Fin 80) (j : Fin 6152) :
    PRE X G W (ix2 r j) = ∑ k : Fin 2048, normed (fun l => X (ix2 r l)) (fun l => G (ix1 l)) k * W (ix2 k j) := by
  pointwise [PRE, normed]

/-- The reference's first result at an index. -/
theorem REFz_at (X : FVec Ideal Cert.SProjRefIdeal.S80x2048 .f32) (G : FVec Ideal Cert.SProjRefIdeal.S2048 .f32)
    (W : FVec Ideal Cert.SProjRefIdeal.S2048x6152 .f32) (r : Fin 80) (j : Fin 6144) :
    REFz X G W (ix2 r j) = ∑ k : Fin 2048, normed (fun l => X (ix2 r l)) (fun l => G (ix1 l)) k * W (ix2 k (⟨j.val, by omega⟩ : Fin 6152)) := by
  refine Eq.trans ?_ (PRE_at X G W r _)
  unfold REFz
  refine extractStridedSlice_apply (s := Cert.SProjRefIdeal.S80x6152) ![0, 0] (PRE X G W) _ _ _ (fun a => ?_)
  fin_cases a <;> simp [ix2]

/-- The reference's second result at a gate's column. -/
theorem REFg_at (X : FVec Ideal Cert.SProjRefIdeal.S80x2048 .f32) (G : FVec Ideal Cert.SProjRefIdeal.S2048 .f32)
    (W : FVec Ideal Cert.SProjRefIdeal.S2048x6152 .f32) (r : Fin 80) (j : Fin 128) (hj : j.val < 8) :
    REFg X G W (ix2 r j) = ∑ k : Fin 2048, normed (fun l => X (ix2 r l)) (fun l => G (ix1 l)) k * W (ix2 k (⟨6144 + j.val, by omega⟩ : Fin 6152)) := by
  refine Eq.trans ?_ (PRE_at X G W r _)
  unfold REFg
  refine (pad_apply_of_inside (s := Cert.SProjRefIdeal.S80x8) ![0, 0] ![0, 120] ![0, 0] _ _ _ _ (ix2 r j) (ix2 r (⟨j.val, hj⟩ : Fin 8)) (fun a => ?_)).trans ?_
  · fin_cases a <;> simp [ix2]
  · refine extractStridedSlice_apply (s := Cert.SProjRefIdeal.S80x6152) ![0, 6144] (PRE X G W) _ _ _ (fun a => ?_)
    fin_cases a <;> simp [ix2]

/-- The reference's second result at a padded column. -/
theorem REFg_pad (X : FVec Ideal Cert.SProjRefIdeal.S80x2048 .f32) (G : FVec Ideal Cert.SProjRefIdeal.S2048 .f32)
    (W : FVec Ideal Cert.SProjRefIdeal.S2048x6152 .f32) (r : Fin 80) (j : Fin 128) (hj : ¬ j.val < 8) :
    REFg X G W (ix2 r j) = 0 := by
  unfold REFg
  refine (pad_apply_of_not_inside (s := Cert.SProjRefIdeal.S80x8) ![0, 0] ![0, 120] ![0, 0] _ _ _ _ (ix2 r j) (1 : Fin 2) (fun h => hj ?_)).trans (pad_zero _ _)
  have := h.2.2
  simpa [ix2] using this

/-- The reference's third result: the projection of the sample tokens alone, the value columns by heads. -/
def REFv (x : FVec Ideal Cert.SProjRefIdeal.S8x4x2048 .f32) (G : FVec Ideal Cert.SProjRefIdeal.S2048 .f32)
    (W : FVec Ideal Cert.SProjRefIdeal.S2048x6152 .f32) : FVec Ideal Cert.SProjRefIdeal.S8x4x8x128 .f32 :=
  shapeCast Cert.SProjRefIdeal.S8x4x8x128 (extractStridedSlice Cert.SProjRefIdeal.S8x4x1024 ![0, 0, 2048] (Host.dotGeneral Cert.SProjRefIdeal.dot_S8x4x2048_S2048x6152_S8x4x6152_2_0_01_1_n_n none (mulf (mulf x (broadcastInDim Cert.SProjRefIdeal.S8x4x2048 ![0, 1, 2] Cert.SProjRefIdeal.Gen.bcast_S8x4x1_S8x4x2048_0_1_2 (Host.rsqrt (addf (Host.divf (broadcastInDim Cert.SProjRefIdeal.S8x4x1 ![0, 1] Cert.SProjRefIdeal.Gen.bcast_S8x4_S8x4x1_0_1 (Host.reduceAdd (mulf x x) (constant Cert.SProjRefIdeal.S_ .f32 0x00000000#32) Cert.SProjRefIdeal.Gen.reducesTo_S8x4x2048_S8x4_d2 Cert.SProjRefIdeal.Gen.h_S_)) (broadcastInDim Cert.SProjRefIdeal.S8x4x1 ![] Cert.SProjRefIdeal.Gen.bcast_S_S8x4x1 (constant Cert.SProjRefIdeal.S_ .f32 0x45000000#32))) (broadcastInDim Cert.SProjRefIdeal.S8x4x1 ![] Cert.SProjRefIdeal.Gen.bcast_S_S8x4x1 (constant Cert.SProjRefIdeal.S_ .f32 0x358637BD#32)))))) (broadcastInDim Cert.SProjRefIdeal.S8x4x2048 ![0, 1, 2] Cert.SProjRefIdeal.Gen.bcast_S1x1x2048_S8x4x2048_0_1_2 (broadcastInDim Cert.SProjRefIdeal.S1x1x2048 ![2] Cert.SProjRefIdeal.Gen.bcast_S2048_S1x1x2048_2 G))) W) Cert.SProjRefIdeal.Gen.slices_S8x4x6152_S8x4x1024_0_0_2048) Cert.SProjRefIdeal.Gen.shapeCasts_S8x4x1024_S8x4x8x128

/-- The reference's third result at an index. -/
theorem REFv_at (x : FVec Ideal Cert.SProjRefIdeal.S8x4x2048 .f32) (G : FVec Ideal Cert.SProjRefIdeal.S2048 .f32)
    (W : FVec Ideal Cert.SProjRefIdeal.S2048x6152 .f32) (b : Fin 8) (t : Fin 4) (h : Fin 8) (l : Fin 128) :
    REFv x G W (ix4 b t h l)
      = ∑ k : Fin 2048, normed (fun j => x (ix3 b t j)) (fun j => G (ix1 j)) k * W (ix2 k (⟨2048 + (h.val * 128 + l.val), by omega⟩ : Fin 6152)) := by
  pointwise [REFv, normed]

/-- What the host lines after the call make of its first output: the rows of the tokens, the value columns by heads. -/
def VOUT (Z : FVec Ideal S80x6144 .f32) : FVec Ideal S8x4x8x128 .f32 :=
  shapeCast S8x4x8x128 (extractStridedSlice S8x4x1024 ![0, 0, 0] (shapeCast S8x8x1024 (extractStridedSlice S64x1024 ![16, 2048] Z slices_S80x6144_S64x1024_16_2048) shapeCasts_S64x1024_S8x8x1024) slices_S8x8x1024_S8x4x1024_0_0_0) shapeCasts_S8x4x1024_S8x4x8x128

/-- Those lines at an index. -/
theorem VOUT_at (Z : FVec Ideal S80x6144 .f32) (b : Fin 8) (t : Fin 4) (h : Fin 8) (l : Fin 128) :
    VOUT Z (ix4 b t h l) = Z (ix2 (⟨16 + (b.val * 8 + t.val), by omega⟩ : Fin 80) (⟨2048 + (h.val * 128 + l.val), by omega⟩ : Fin 6144)) := by
  pointwise [VOUT]

/-- The stacked rows: the meta tokens', then eight for each sequence, its four tokens and four of zeros. -/
def ROWS (x : FVec Ideal S8x4x2048 .f32) (M : FVec Ideal S16x2048 .f32) : FVec Ideal S80x2048 .f32 :=
  concatenate S80x2048 0 [⟨S16x2048, M⟩,
    ⟨S64x2048, shapeCast S64x2048 (pad S8x8x2048 ![0, 0, 0] ![0, 4, 0] ![0, 0, 0] x (sitofp (F := Ideal) .f32 (constantI S_ 32 0#32)) pads_S8x4x2048_S8x8x2048_000_040_000 h_S_) shapeCasts_S8x8x2048_S64x2048⟩] concatenates_S16x2048_S64x2048_S80x2048_d0

/-- A token's row among the stacked rows. -/
theorem ROWS_at (x : FVec Ideal S8x4x2048 .f32) (M : FVec Ideal S16x2048 .f32) (b : Fin 8) (t : Fin 4) (j : Fin 2048) :
    ROWS x M (ix2 (⟨16 + (b.val * 8 + t.val), by omega⟩ : Fin 80) j) = x (ix3 b t j) := by
  pointwise [ROWS]
  have e : (b.val * 8 + t.val) % 8 = t.val := by omega
  rw [dif_pos (by omega)]
  exact congrArg (fun s : Fin 4 => x (ix3 b s j)) (Fin.ext e)

variable (m : (ℓ : Loc nD τ sig) → Buf (Elt Ideal) ℓ)

/-- Which block of its array each window holds at each grid point. -/
theorem idx : ∀ t : Fin cfg0.N, win0_0.index t = ![0, 0] ∧ win0_1.index t = ![0, 0]
    ∧ win0_2.index t = ![0, t.val] ∧ win0_3.index t = ![0, 0] ∧ win0_4.index t = ![0, 0]
    ∧ win0_5.index t = ![0, t.val] ∧ win0_6.index t = ![0, 0] ∧ t.val < 12 :=
  (by decide +kernel : ∀ t : Fin grid0.N, _)

/-- There are twelve blocks of columns. -/
theorem lt12 (t : Fin cfg0.N) : t.val < 12 := (idx t).2.2.2.2.2.2.2

/-- The stacked rows of these arguments. -/
def X (c : Dev nD) : FVec Ideal S80x2048 .f32 :=
  ROWS (m ((c : Thread nD τ).loc main_arg0)) (m ((c : Thread nD τ).loc main_arg1))

/-- The rows' array as the region finds it. -/
theorem V_v2 (c : Dev nD) : (V m c main_v2 : FVec Ideal S80x2048 .f32) = X m c := by
  entry_read
  try rfl

/-- The gain's array as the region finds it: the argument as one row. -/
theorem V_v9 (c : Dev nD) (j : Fin 2048) : (V m c main_v9 : FVec Ideal S1x2048 .f32) (ix2 (0 : Fin 1) j)
    = m ((c : Thread nD τ).loc main_arg2) (ix1 j) := by
  have e : (V m c main_v9 : FVec Ideal S1x2048 .f32) = shapeCast S1x2048 (m ((c : Thread nD τ).loc main_arg2)) shapeCasts_S2048_S1x2048 := by
    entry_read
    try rfl
  rw [e]
  pointwise []

/-- The gates' weights, padded with zero columns. -/
def WG (c : Dev nD) : FVec Ideal S2048x128 .f32 :=
  pad S2048x128 ![0, 0] ![0, 120] ![0, 0] (extractStridedSlice S2048x8 ![0, 6144] (m ((c : Thread nD τ).loc main_arg3) : FVec Ideal S2048x6152 .f32) slices_S2048x6152_S2048x8_0_6144) (sitofp (F := Ideal) .f32 (constantI S_ 32 0#32)) pads_S2048x8_S2048x128_000_01200 h_S_

/-- The gates' weights as the region finds them: the high part. -/
theorem V_v5 (c : Dev nD) : (V m c main_v5 : FVec Ideal S2048x128 .bf16) = truncf .bf16 (WG m c) bitsLt_bf16_f32 := by
  entry_read
  try rfl

/-- The gates' weights as the region finds them: the low part. -/
theorem V_v8 (c : Dev nD) : (V m c main_v8 : FVec Ideal S2048x128 .bf16)
    = truncf .bf16 (subf (WG m c) (extf .f32 (truncf .bf16 (WG m c) bitsLt_bf16_f32) bitsLt_bf16_f32)) bitsLt_bf16_f32 := by
  entry_read
  try rfl

/-- The rows' block at a point. -/
theorem iblk0 (c : Dev nD) (t : Fin cfg0.N) (r : Fin 80) (k : Fin 2048) :
    iblk m c 0 t (ix2 r k) = V m c main_v2 (ix2 r k) := by
  blk_ext [iblk, idx t]
/-- The gain's block at a point. -/
theorem iblk1 (c : Dev nD) (t : Fin cfg0.N) (k : Fin 2048) :
    iblk m c 1 t (ix2 (0 : Fin 1) k) = V m c main_v9 (ix2 (0 : Fin 1) k) := by
  blk_ext [iblk, idx t]
/-- The weights' block at a point. -/
theorem iblk2 (c : Dev nD) (t : Fin cfg0.N) (r : Fin 2048) (k : Fin 512) :
    X0_2 m c t (ix2 r k) = m ((c : Thread nD τ).loc main_arg3) (ix2 r (⟨t.val * 512 + k, by have := lt12 t; omega⟩ : Fin 6152)) := by
  unfold X0_2 Pipeline.Window.fill
  rw [dif_pos (moved0_2 t _)]
  blk_ext [iblk, V_main_arg3, idx t]
/-- The gates' high weights' block at a point. -/
theorem iblk3 (c : Dev nD) (t : Fin cfg0.N) (r : Fin 2048) (k : Fin 128) :
    iblk m c 3 t (ix2 r k) = V m c main_v5 (ix2 r k) := by
  blk_ext [iblk, idx t]
/-- The gates' low weights' block at a point. -/
theorem iblk4 (c : Dev nD) (t : Fin cfg0.N) (r : Fin 2048) (k : Fin 128) :
    iblk m c 4 t (ix2 r k) = V m c main_v8 (ix2 r k) := by
  blk_ext [iblk, idx t]

/-- The normalised row the reference uses for row `i`. -/
def row (c : Dev nD) (i : Fin 80) : Fin 2048 → EReal :=
  normed (fun l => X m c (ix2 i l)) (fun l => m ((c : Thread nD τ).loc main_arg2) (ix1 l))

/-- The row of a point's blocks, normalised. -/
theorem norm_row (c : Dev nD) (t : Fin cfg0.N) (r : Fin 80) :
    normed (fun l => iblk m c 0 t (ix2 r l)) (fun l => iblk m c 1 t (ix2 (0 : Fin 1) l))
      = row m c r := by
  unfold row
  exact congrArg₂ normed (funext fun l => (iblk0 m c t r l).trans (congrFun (V_v2 m c) _))
    (funext fun l => (iblk1 m c t l).trans (V_v9 m c l))

/-- The normalised block of a point, at an index: the reference's normalised row. -/
theorem norm_at (c : Dev nD) (t : Fin cfg0.N) (r : Fin 80) (k : Fin 2048) :
    k0_pay3 (F := Ideal) (iblk m c 0 t) (iblk m c 1 t) (ix2 r k)
      = row m c r k :=
  (pay3_at _ _ r k).trans (congrFun (norm_row m c t r) k)

/-- What the scratch holds after a point, at an index: the normalised rows, as the first
    point left them. -/
theorem scratch_at (c : Dev nD) : ∀ (n : ℕ) (h : n < cfg0.N) (r : Fin 80) (k : Fin 2048),
    (outsAt0 m c n h).2.2 (ix2 r k)
      = row m c r k := by
  intro n
  induction n with
  | zero =>
    intro h r k
    rw [outsAt0_A m c ⟨0, h⟩ rfl]
    frame_out
    exact norm_at m c ⟨0, h⟩ r k
  | succ n ih =>
    intro h r k
    by_cases h0 : (n + 1) % 12 = 0
    · rw [outsAt0_A m c ⟨n + 1, h⟩ h0]
      frame_out
      exact norm_at m c ⟨n + 1, h⟩ r k
    · rw [outsAt0_B m c ⟨n + 1, h⟩ h0]
      exact ih (by omega) r k

/-- A point's projected block when the scratch holds the normalised rows. -/
theorem step_at (c : Dev nD) (t : Fin cfg0.N) (s : FVec Ideal S80x2048 .bf16)
    (hs : ∀ r k, s (ix2 r k) = row m c r (k : Fin 2048))
    (r : Fin 80) (j : Fin 512) :
    k0_pay5 (F := Ideal) s (X0_2 m c t) (ix2 r j)
      = ∑ k : Fin 2048, row m c r k
          * m ((c : Thread nD τ).loc main_arg3) (ix2 k (⟨t.val * 512 + j, by have := lt12 t; omega⟩ : Fin 6152)) := by
  refine (pay5_at _ _ r j).trans (Fin.sum_fin_congr fun k => ?_)
  rw [hs r k, iblk2 m c t k j]

/-- What a point leaves in the projection's block, at an index. -/
theorem out_at (c : Dev nD) (t : Fin cfg0.N) (r : Fin 80) (j : Fin 512) :
    (outsAt0 m c t.val t.isLt).1 (ix2 r j)
      = ∑ k : Fin 2048, row m c r k
          * m ((c : Thread nD τ).loc main_arg3) (ix2 k (⟨t.val * 512 + j, by have := lt12 t; omega⟩ : Fin 6152)) := by
  by_cases h0 : t.val % 12 = 0
  · rw [outsAt0_A m c t h0]
    frame_out
    exact step_at m c t _ (fun r k => norm_at m c t r k) r j
  · rw [outsAt0_B m c t h0]
    frame_out
    refine step_at m c t _ (fun r k => ?_) r j
    rw [read_unread_whole]
    exact scratch_at m c (t.val - 1) (by omega) r k

/-- What the gates' block holds after a point, at an index: the gate of the row, as the first point
    left it. -/
theorem gates_at (c : Dev nD) : ∀ (n : ℕ) (h : n < cfg0.N) (r : Fin 80) (j : Fin 128),
    (outsAt0 m c n h).2.1 (ix2 r j)
      = gate (row m c r)
          (fun k => V m c main_v5 (ix2 k j)) (fun k => V m c main_v8 (ix2 k j)) := by
  have base : ∀ (t : Fin cfg0.N) (r : Fin 80) (j : Fin 128),
      k0_pay4 (F := Ideal) (iblk m c 0 t) (iblk m c 1 t) (iblk m c 3 t) (iblk m c 4 t) (ix2 r j)
      = gate (row m c r)
          (fun k => V m c main_v5 (ix2 k j)) (fun k => V m c main_v8 (ix2 k j)) := by
    intro t r j
    refine (pay4_at _ _ _ _ r j).trans ?_
    rw [norm_row m c t r]
    exact congrArg₂ (gate _) (funext fun k => iblk3 m c t k j) (funext fun k => iblk4 m c t k j)
  intro n
  induction n with
  | zero =>
    intro h r j
    rw [outsAt0_A m c ⟨0, h⟩ rfl]
    frame_out
    exact base ⟨0, h⟩ r j
  | succ n ih =>
    intro h r j
    by_cases h0 : (n + 1) % 12 = 0
    · rw [outsAt0_A m c ⟨n + 1, h⟩ h0]
      frame_out
      exact base ⟨n + 1, h⟩ r j
    · rw [outsAt0_B m c ⟨n + 1, h⟩ h0]
      exact ih (by omega) r j

/-- The reference's first result of these arguments. -/
def Z (c : Dev nD) : FVec Ideal S80x6144 .f32 :=
  REFz (X m c) (m ((c : Thread nD τ).loc main_arg2)) (m ((c : Thread nD τ).loc main_arg3))

/-- The reference's second result of these arguments. -/
def Gt (c : Dev nD) : FVec Ideal S80x128 .f32 :=
  REFg (X m c) (m ((c : Thread nD τ).loc main_arg2)) (m ((c : Thread nD τ).loc main_arg3))

/-- The reference's third result of these arguments. -/
def Vt (c : Dev nD) : FVec Ideal S8x4x8x128 .f32 :=
  REFv (m ((c : Thread nD τ).loc main_arg0)) (m ((c : Thread nD τ).loc main_arg2)) (m ((c : Thread nD τ).loc main_arg3))

/-- The projection's array after the run is the reference's first result. -/
theorem final5 (c : Dev nD) : (dats m 0 c).arrAt 5 (cfgs 0).N = Z m c := by
  refine (dats m 0 c).arrAt_eq_of_covers 5 _ (by decide +kernel) fun t hf y => ?_
  blk_simp
  rw [after0_5]
  idx_vars y
  refine (out_at m c t y0 y1).trans (((REFz_at _ _ _ y0 (⟨t.val * 512 + y1, by have := lt12 t; omega⟩ : Fin 6144)).symm).trans ?_)
  refine congrArg _ ?_
  blk_ext [idx t]

/-- The host lines' buffer after the run: their function of the first output. -/
theorem tail_v (c : Dev nD) : (Pipeline.afterTail₀ cfgs (dats m) 0 (V0 m) [hostOps1] c main_v14 : FVec Ideal S8x4x8x128 .f32)
    = VOUT ((dats m 0 c).arrAt 5 (cfgs 0).N) := by
  unfold Pipeline.afterTail₀
  simp only [hostOps1, List.flatten_cons, List.flatten_nil, List.append_nil]
  after_results
  exact congrArg VOUT (Pipeline.withArrays_arr (cfgs 0).spec launch0.win.arr_inj c (V0 m c) (fun w => (dats m 0 c).arrAt w (cfgs 0).N) 5)

/-- The value columns of the tokens' rows of the stacked projection are the projection of the tokens alone. -/
theorem vout (c : Dev nD) : VOUT (Z m c) = Vt m c := by
  funext y
  idx_vars y
  refine (VOUT_at _ y0 y1 y2 y3).trans ((REFz_at _ _ _ _ _).trans (Eq.trans ?_ (REFv_at _ _ _ y0 y1 y2 y3).symm))
  exact Finset.sum_congr rfl fun k _ => congrArg (fun f : Fin 2048 → EReal => normed f _ k * _) (funext fun j => ROWS_at _ _ y0 y1 j)

/-- The gates' weights at a gate's column are the argument's. -/
theorem WG_in (c : Dev nD) (k : Fin 2048) (j : Fin 128) (hj : j.val < 8) :
    WG m c (ix2 k j) = m ((c : Thread nD τ).loc main_arg3) (ix2 k (⟨6144 + j.val, by omega⟩ : Fin 6152)) := by
  unfold WG
  refine (pad_apply_of_inside (s := S2048x8) ![0, 0] ![0, 120] ![0, 0] _ _ _ _ (ix2 k j) (ix2 k (⟨j.val, hj⟩ : Fin 8)) (fun a => ?_)).trans ?_
  · fin_cases a <;> simp [ix2]
  · refine extractStridedSlice_apply (s := S2048x6152) ![0, 6144] _ _ _ _ (fun a => ?_)
    fin_cases a <;> simp [ix2]

/-- The gates' weights vanish at a padded column. -/
theorem WG_out (c : Dev nD) (k : Fin 2048) (j : Fin 128) (hj : ¬ j.val < 8) : WG m c (ix2 k j) = (0 : EReal) := by
  unfold WG
  refine (pad_apply_of_not_inside (s := S2048x8) ![0, 0] ![0, 120] ![0, 0] _ _ _ _ (ix2 k j) (1 : Fin 2) (fun h => hj ?_)).trans (pad_zero _ _)
  have := h.2.2
  simpa [ix2] using this

variable {m}

/-- The finiteness precondition, on one device, number by number: a padded row's zeros are finite with the arguments. -/
theorem fine_args (hp : Cert.Pre_SProjIdeal_finite_samples m) (c : Dev nD) :
    (∀ i, Fine (X m c i)) ∧ (∀ i, Fine (m ((c : Thread nD τ).loc main_arg2) i)) ∧ (∀ i, Fine (m ((c : Thread nD τ).loc main_arg3) i)) := by
  obtain ⟨h0, h1, h2, h3⟩ := hp c
  refine ⟨fun i => ?_, fun i => fine_of_test (congrFun h2 i), fun i => fine_of_test (congrFun h3 i)⟩
  have hpad : ∀ j, Fine (pad S8x8x2048 ![0, 0, 0] ![0, 4, 0] ![0, 0, 0] (m ((c : Thread nD τ).loc main_arg0) : FVec Ideal S8x4x2048 .f32) (sitofp (F := Ideal) .f32 (constantI S_ 32 0#32)) pads_S8x4x2048_S8x8x2048_000_040_000 h_S_ j) := by
    intro j
    unfold pad
    split_ifs
    · exact fine_of_test (congrFun h0 _)
    · exact ⟨0, pad_zero _ _⟩
  unfold X ROWS
  refine concatenate_forall (P := Fine) S80x2048 0 _ _ (fun p hm q => ?_) i
  simp only [List.mem_cons, List.not_mem_nil, or_false] at hm
  rcases hm with rfl | rfl
  · exact fine_of_test (congrFun h1 q)
  · exact hpad _

/-- On finite inputs every entry of a normalised row is finite. -/
theorem fine_row (hp : Cert.Pre_SProjIdeal_finite_samples m) (c : Dev nD) (i : Fin 80) (k : Fin 2048) : Fine (row m c i k) :=
  fine_normed (fun l => (fine_args hp c).1 _) (fun l => (fine_args hp c).2.1 _) k

/-- On finite inputs the gates' weights are finite, the padded columns with them. -/
theorem fine_WG (hp : Cert.Pre_SProjIdeal_finite_samples m) (c : Dev nD) (k : Fin 2048) (j : Fin 128) : Fine (WG m c (ix2 k j)) := by
  by_cases hj : j.val < 8
  · rw [WG_in m c k j hj]
    exact (fine_args hp c).2.2 _
  · rw [WG_out m c k j hj]
    exact ⟨0, rfl⟩

/-- On finite inputs a gate is the plain product of the normalised row and the gates' weights. -/
theorem gate_at (hp : Cert.Pre_SProjIdeal_finite_samples m) (c : Dev nD) (i : Fin 80) (j : Fin 128) :
    gate (row m c i) (fun k => V m c main_v5 (ix2 k j)) (fun k => V m c main_v8 (ix2 k j)) = Gt m c (ix2 i j) := by
  have h3 : ∀ k : Fin 2048, (V m c main_v5 : FVec Ideal S2048x128 .bf16) (ix2 k j) = WG m c (ix2 k j) := fun k => by
    rw [V_v5]; rfl
  have h6 : ∀ k : Fin 2048, (V m c main_v8 : FVec Ideal S2048x128 .bf16) (ix2 k j) = (0 : EReal) := fun k => by
    rw [V_v8]; exact fine_sub (fine_WG hp c k j)
  refine (gate_fine (fine_row hp c i) h6).trans ?_
  unfold Gt
  by_cases hj : j.val < 8
  · rw [REFg_at _ _ _ i j hj]
    exact Finset.sum_congr rfl fun k _ => congrArg (row m c i k * ·) ((h3 k).trans (WG_in m c k j hj))
  · rw [REFg_pad _ _ _ i j hj]
    exact Finset.sum_eq_zero fun k _ => (congrArg (row m c i k * ·) ((h3 k).trans (WG_out m c k j hj))).trans (mul_zero _)

/-- On finite inputs the gates' array after the run is the reference's second result. -/
theorem final6 (hp : Cert.Pre_SProjIdeal_finite_samples m) (c : Dev nD) : (dats m 0 c).arrAt 6 (cfgs 0).N = Gt m c := by
  refine (dats m 0 c).arrAt_eq_of_covers 6 _ (by decide +kernel) fun t hf y => ?_
  blk_simp
  rw [after0_6]
  idx_vars y
  refine (gates_at m c t.val t.isLt y0 y1).trans ((gate_at hp c _ y1).trans ?_)
  refine congrArg _ ?_
  blk_ext [idx t]

/-- The sample group's input projections: on finite inputs the kernel's three results are the reference's. -/
theorem algebraic : Cert.algebraic_SProjIdeal_SProjRefIdeal_pre_finite_samples := by
  intro m g m' g' hp hagree
  refine ⟨fun c => Z m c, fun c => Gt m c, fun c => Vt m c, ?_, ?_⟩
  · refine (θ_run Cert.SProjIdeal.defs _ _).mono (fun r h c => ?_) (θ_run_and (Cert.SProjIdeal.Gen.run_main m g) (Cert.SProjIdeal.Gen.frame m g))
    exact ⟨((h.1 c).1 5).trans (final5 m c), ((h.1 c).1 6).trans (final6 hp c),
      ((h.1 c).2 main_v14 (Pipeline.mem_restRefs_of main_v14 (by decide) (by decide))).trans
        ((tail_v m c).trans ((congrArg VOUT (final5 m c)).trans (vout m c))), h.2.1 c⟩
  · refine (θ_run Cert.SProjRefIdeal.defs _ _).mono (fun r h c => ?_) (Cert.SProjRefIdeal.Value.run (F := Ideal) m' g')
    obtain ⟨h0, h1, h2, hargs⟩ := h c
    obtain ⟨a0, a1, a2, a3⟩ := hagree c
    refine ⟨h0.trans ?_, h1.trans ?_, h2.trans ?_, hargs⟩
    · rw [a0, a1, a2, a3]; rfl
    · rw [a0, a1, a2, a3]; rfl
    · rw [a0, a2, a3]; rfl

end Cert.SProjIdeal.Value

end
-- ==== Proof.lean ====
/- The proof of the certificate: the frames from the generated modules, the value claims from the modules beside this one. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnRefIdeal
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.Pre_finite_inputs
public import proofs.«01_k».proof.Proof.Gen.Outproj
public import proofs.«01_k».proof.Proof.Gen.Outproj.Skeleton
public import proofs.«01_k».proof.Proof.Gen.Outproj.Launch
public import proofs.«01_k».proof.Proof.Gen.Outproj.Points
public import proofs.«01_k».proof.Proof.Gen.Outproj.Frame
public import proofs.«01_k».proof.Proof.Gen.OutprojIdeal
public import proofs.«01_k».proof.Proof.Gen.OutprojIdeal.Skeleton
public import proofs.«01_k».proof.Proof.Gen.OutprojIdeal.Launch
public import proofs.«01_k».proof.Proof.Gen.OutprojIdeal.Points
public import proofs.«01_k».proof.Proof.Gen.OutprojIdeal.Frame
public import proofs.«01_k».proof.Proof.Gen.OutprojRefIdeal
public import proofs.«01_k».proof.Proof.Gen.SFfn
public import proofs.«01_k».proof.Proof.Gen.SFfn.Skeleton
public import proofs.«01_k».proof.Proof.Gen.SFfn.Launch
public import proofs.«01_k».proof.Proof.Gen.SFfn.Points
public import proofs.«01_k».proof.Proof.Gen.SFfn.Frame
public import proofs.«01_k».proof.Proof.Gen.SFfnIdeal
public import proofs.«01_k».proof.Proof.Gen.SFfnIdeal.Skeleton
public import proofs.«01_k».proof.Proof.Gen.SFfnIdeal.Launch
public import proofs.«01_k».proof.Proof.Gen.SFfnIdeal.Points
public import proofs.«01_k».proof.Proof.Gen.SFfnIdeal.Frame
public import proofs.«01_k».proof.Proof.Gen.SFfnRefIdeal
public import proofs.«01_k».proof.Proof.Gen.SFfnIdeal.Value
public import proofs.«01_k».proof.Proof.Gen.SFfnRefIdeal.Run
public import proofs.«01_k».proof.Proof.Gen.SFfnRefIdeal.Read
public import proofs.«01_k».proof.Proof.Gen.SProj
public import proofs.«01_k».proof.Proof.Gen.SProj.Skeleton
public import proofs.«01_k».proof.Proof.Gen.SProj.Launch
public import proofs.«01_k».proof.Proof.Gen.SProj.Points
public import proofs.«01_k».proof.Proof.Gen.SProj.Frame
public import proofs.«01_k».proof.Proof.Gen.SProjIdeal
public import proofs.«01_k».proof.Proof.Gen.SProjIdeal.Skeleton
public import proofs.«01_k».proof.Proof.Gen.SProjIdeal.Launch
public import proofs.«01_k».proof.Proof.Gen.SProjIdeal.Points
public import proofs.«01_k».proof.Proof.Gen.SProjIdeal.Frame
public import proofs.«01_k».proof.Proof.Gen.SProjRefIdeal
public import proofs.«01_k».proof.Proof.Gen.SProjRefIdeal.Run
public import proofs.«01_k».proof.Proof.Gen.SProjRefIdeal.Read
public import proofs.«01_k».proof.Proof.Gen.Pre_finite_samples
public import proofs.«01_k».proof.Proof.Gen.On_sample_tokens
public import proofs.«01_k».proof.Proof.Gen.KernelIdeal.Value
public import proofs.«01_k».proof.Proof.Gen.FfnIdeal.Value
public import proofs.«01_k».proof.Proof.Gen.OutprojIdeal.Value
public import proofs.«01_k».proof.Proof.Gen.ReferenceIdeal.Run
public import proofs.«01_k».proof.Proof.Gen.ReferenceIdeal.Read
public import proofs.«01_k».proof.Proof.Gen.FfnRefIdeal.Run
public import proofs.«01_k».proof.Proof.Gen.FfnRefIdeal.Read
public import proofs.«01_k».proof.Proof.Gen.OutprojRefIdeal.Run
public import proofs.«01_k».proof.Proof.Gen.OutprojRefIdeal.Read
public import proofs.«01_k».proof.Proof.Gen.SOutproj
public import proofs.«01_k».proof.Proof.Gen.SOutproj.Skeleton
public import proofs.«01_k».proof.Proof.Gen.SOutproj.Launch
public import proofs.«01_k».proof.Proof.Gen.SOutproj.Points
public import proofs.«01_k».proof.Proof.Gen.SOutproj.Frame
public import proofs.«01_k».proof.Proof.Gen.SOutprojIdeal
public import proofs.«01_k».proof.Proof.Gen.SOutprojIdeal.Skeleton
public import proofs.«01_k».proof.Proof.Gen.SOutprojIdeal.Launch
public import proofs.«01_k».proof.Proof.Gen.SOutprojIdeal.Points
public import proofs.«01_k».proof.Proof.Gen.SOutprojIdeal.Frame
public import proofs.«01_k».proof.Proof.Gen.SOutprojRefIdeal
public import proofs.«01_k».proof.Proof.Gen.SOutprojIdeal.Value
public import proofs.«01_k».proof.Proof.Gen.SOutprojRefIdeal.Run
public import proofs.«01_k».proof.Proof.Gen.SOutprojRefIdeal.Read
public import proofs.«01_k».proof.Proof.FfnValue
public import proofs.«01_k».proof.Proof.SFfnValue
public import proofs.«01_k».proof.Proof.MlstmValue
public import proofs.«01_k».proof.Proof.OutprojValue
public import proofs.«01_k».proof.Proof.SOutprojValue
public import proofs.«01_k».proof.Proof.ProjFrame
public import proofs.«01_k».proof.Proof.ProjIdealFrame
public import proofs.«01_k».proof.Proof.ProjValue
public import proofs.«01_k».proof.Proof.SProjFrame
public import proofs.«01_k».proof.Proof.SProjIdealFrame
public import proofs.«01_k».proof.Proof.SProjValue
public import Idealize.ShloMosaic.Adequacy
public import Idealize.ShloMosaic.Init

@[expose] public section

noncomputable section

namespace Cert.Proof

open Idealize.ShloMosaic Idealize.ShloMosaic.TcCoe Idealize.SL.Sem

/-- The mLSTM decoding step's reference runs to the end, with its arguments unchanged. -/
theorem frame_Reference : Cert.quiescent_ReferenceIdeal := fun m ρ _ =>
  (θ_run Cert.ReferenceIdeal.defs _ _).mono (fun r h => ⟨fun c => (h c).2.2.2.2.2, sem_eq_zero_of_no_sems (by decide) r.2⟩)
    (Cert.ReferenceIdeal.Value.run (F := Ideal) m ρ)

/-- The feed-forward reference runs to the end, with its arguments unchanged. -/
theorem frame_FfnRef : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The input projections' reference runs to the end, with its arguments unchanged. -/
theorem frame_ProjRef : Cert.quiescent_ProjRefIdeal := fun m ρ _ =>
  (θ_run Cert.ProjRefIdeal.defs _ _).mono (fun r h => ⟨fun c => (h c).2.2, sem_eq_zero_of_no_sems (by decide) r.2⟩)
    (Cert.ProjRefIdeal.Value.run (F := Ideal) m ρ)

/-- The output projection's reference runs to the end, with its arguments unchanged. -/
theorem frame_OutprojRef : Cert.quiescent_OutprojRefIdeal := fun m ρ _ =>
  (θ_run Cert.OutprojRefIdeal.defs _ _).mono (fun r h => ⟨fun c => (h c).2, sem_eq_zero_of_no_sems (by decide) r.2⟩)
    (Cert.OutprojRefIdeal.Value.run (F := Ideal) m ρ)

/-- The sample group's feed-forward reference runs to the end, with its arguments unchanged. -/
theorem frame_SFfnRef : Cert.quiescent_SFfnRefIdeal := fun m ρ _ =>
  (θ_run Cert.SFfnRefIdeal.defs _ _).mono (fun r h => ⟨fun c => (h c).2, sem_eq_zero_of_no_sems (by decide) r.2⟩)
    (Cert.SFfnRefIdeal.Value.run (F := Ideal) m ρ)

/-- The sample group's input projections' reference runs to the end, with its arguments unchanged. -/
theorem frame_SProjRef : Cert.quiescent_SProjRefIdeal := fun m ρ _ =>
  (θ_run Cert.SProjRefIdeal.defs _ _).mono (fun r h => ⟨fun c => (h c).2.2.2, sem_eq_zero_of_no_sems (by decide) r.2⟩)
    (Cert.SProjRefIdeal.Value.run (F := Ideal) m ρ)

/-- The sample group's output projection's reference runs to the end, with its arguments unchanged. -/
theorem frame_SOutprojRef : Cert.quiescent_SOutprojRefIdeal := fun m ρ _ =>
  (θ_run Cert.SOutprojRefIdeal.defs _ _).mono (fun r h => ⟨fun c => (h c).2, sem_eq_zero_of_no_sems (by decide) r.2⟩)
    (Cert.SOutprojRefIdeal.Value.run (F := Ideal) m ρ)

/-- The certificate: every frame, every idealisation, every value claim. -/
theorem claim : Cert.Claim :=
  ⟨Cert.Kernel.Gen.facts, Cert.KernelIdeal.Gen.facts, Cert.ReferenceIdeal.Gen.facts, Cert.Ffn.Gen.facts, Cert.FfnIdeal.Gen.facts,
    Cert.FfnRefIdeal.Gen.facts, Cert.Proj.Gen.facts, Cert.ProjIdeal.Gen.facts, Cert.ProjRefIdeal.Gen.facts, Cert.Outproj.Gen.facts, Cert.OutprojIdeal.Gen.facts, Cert.OutprojRefIdeal.Gen.facts,
    Cert.SFfn.Gen.facts, Cert.SFfnIdeal.Gen.facts, Cert.SFfnRefIdeal.Gen.facts,
    Cert.SProj.Gen.facts, Cert.SProjIdeal.Gen.facts, Cert.SProjRefIdeal.Gen.facts,
    Cert.SOutproj.Gen.facts, Cert.SOutprojIdeal.Gen.facts, Cert.SOutprojRefIdeal.Gen.facts,
    Cert.Pre_finite_inputs.Gen.facts, Cert.Pre_finite_samples.Gen.facts, Cert.On_sample_tokens.Gen.facts,
    fun m ρ _ => Cert.Kernel.Gen.frame m ρ, fun m ρ _ => Cert.KernelIdeal.Gen.frame m ρ, frame_Reference,
    fun m ρ _ => Cert.Ffn.Gen.frame m ρ, fun m ρ _ => Cert.FfnIdeal.Gen.frame m ρ, frame_FfnRef,
    fun m ρ _ => Cert.Proj.Gen.frame m ρ, fun m ρ _ => Cert.ProjIdeal.Gen.frame m ρ, fun m ρ _ => Cert.ProjIdeal.Gen.frame m ρ,
    frame_ProjRef, fun m ρ _ => frame_ProjRef m ρ trivial,
    fun m ρ _ => Cert.Outproj.Gen.frame m ρ, fun m ρ _ => Cert.OutprojIdeal.Gen.frame m ρ, frame_OutprojRef,
    fun m ρ _ => Cert.SFfn.Gen.frame m ρ, fun m ρ _ => Cert.SFfnIdeal.Gen.frame m ρ, frame_SFfnRef,
    fun m ρ _ => Cert.SProj.Gen.frame m ρ, fun m ρ _ => Cert.SProjIdeal.Gen.frame m ρ, fun m ρ _ => Cert.SProjIdeal.Gen.frame m ρ,
    frame_SProjRef, fun m ρ _ => frame_SProjRef m ρ trivial,
    fun m ρ _ => Cert.SOutproj.Gen.frame m ρ, fun m ρ _ => Cert.SOutprojIdeal.Gen.frame m ρ, frame_SOutprojRef,
    IdealRules.named_const.statement Cert.KernelIdeal.κ "mask" .f32 0xF149F2CA#32 ⊥ rfl,
    Cert.KernelIdeal.Value.algebraic,
    trivial, Cert.FfnIdeal.Value.algebraic,
    trivial, Cert.ProjIdeal.Value.algebraic,
    trivial, Cert.OutprojIdeal.Value.algebraic,
    trivial, Cert.SFfnIdeal.Value.algebraic,
    trivial, Cert.SProjIdeal.Value.algebraic,
    trivial, Cert.SOutprojIdeal.Value.algebraic⟩

end Cert.Proof

end
